-- ==== Defs.lean ====
def Pre_Ffn [hPre_experts_in_range : Cert.Pre_experts_in_range.Facts] (m : (ℓ : Loc Cert.Ffn.nD Cert.Ffn.τ Cert.Ffn.sig) → Buf (Elt Bits) ℓ) : Prop :=
  ∀ c : Dev Cert.Ffn.nD,
    (Cert.Pre_experts_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_experts_in_range : Cert.Pre_experts_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_experts_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal [hPre_experts_in_range : Cert.Pre_experts_in_range.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_experts_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaBwdIdeal_gla_finite [hPre_gla_finite : Cert.Pre_gla_finite.Facts] (m : (ℓ : Loc Cert.GlaBwdIdeal.nD Cert.GlaBwdIdeal.τ Cert.GlaBwdIdeal.sig) → Buf (Elt Ideal) ℓ) : Prop :=
  ∀ c : Dev Cert.GlaBwdIdeal.nD,
    (Cert.Pre_gla_finite.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3))).1 = (fun _ => 1#1)
    ∧ (Cert.Pre_gla_finite.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3))).2.1 = (fun _ => 1#1)
    ∧ (Cert.Pre_gla_finite.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3))).2.2.1 = (fun _ => 1#1)
    ∧ (Cert.Pre_gla_finite.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3))).2.2.2 = (fun _ => 1#1)

def Pre_GlaBwdRefIdeal (m : (ℓ : Loc Cert.GlaBwdRefIdeal.nD Cert.GlaBwdRefIdeal.τ Cert.GlaBwdRefIdeal.sig) → Buf (Elt Ideal) ℓ) : Prop :=
  True

def Pre_GlaBwdRefIdeal_gla_finite [hPre_gla_finite : Cert.Pre_gla_finite.Facts] (m : (ℓ : Loc Cert.GlaBwdRefIdeal.nD Cert.GlaBwdRefIdeal.τ Cert.GlaBwdRefIdeal.sig) → Buf (Elt Ideal) ℓ) : Prop :=
  ∀ c : Dev Cert.GlaBwdRefIdeal.nD,
    (Cert.Pre_gla_finite.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3))).1 = (fun _ => 1#1)
    ∧ (Cert.Pre_gla_finite.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3))).2.1 = (fun _ => 1#1)
    ∧ (Cert.Pre_gla_finite.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3))).2.2.1 = (fun _ => 1#1)
    ∧ (Cert.Pre_gla_finite.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3))).2.2.2 = (fun _ => 1#1)

def quiescent_Ffn [hFfn : Cert.Ffn.Facts] [hPre_experts_in_range : Cert.Pre_experts_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_experts_in_range : Cert.Pre_experts_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] [hPre_experts_in_range : Cert.Pre_experts_in_range.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3))
      ∧ r.2.sem = fun _ => 0)

def quiescent_GlaBwdIdeal_pre_gla_finite [hGlaBwdIdeal : Cert.GlaBwdIdeal.Facts] [hPre_gla_finite : Cert.Pre_gla_finite.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal_gla_finite m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3))
      ∧ r.2.sem = fun _ => 0)

def quiescent_GlaBwdRefIdeal [hGlaBwdRefIdeal : Cert.GlaBwdRefIdeal.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3))
      ∧ r.2.sem = fun _ => 0)

def quiescent_GlaBwdRefIdeal_pre_gla_finite [hGlaBwdRefIdeal : Cert.GlaBwdRefIdeal.Facts] [hPre_gla_finite : Cert.Pre_gla_finite.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal_gla_finite m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] [hPre_experts_in_range : Cert.Pre_experts_in_range.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v4)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v4) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v0) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_GlaBwd_GlaBwdIdeal : Prop :=
  True

def algebraic_GlaBwdIdeal_GlaBwdRefIdeal_pre_gla_finite [hGlaBwdIdeal : Cert.GlaBwdIdeal.Facts] [hGlaBwdRefIdeal : Cert.GlaBwdRefIdeal.Facts] [hPre_gla_finite : Cert.Pre_gla_finite.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg)
    (m' : (ℓ : Loc Cert.GlaBwdRefIdeal.nD Cert.GlaBwdRefIdeal.τ Cert.GlaBwdRefIdeal.sig) → Buf (Elt Ideal) ℓ) (g' : Dev Cert.GlaBwdRefIdeal.nD → PrngReg), Pre_GlaBwdIdeal_gla_finite m →
    (∀ c : Dev Cert.GlaBwdIdeal.nD,
      m' ((c.tc : Thread Cert.GlaBwdRefIdeal.nD Cert.GlaBwdRefIdeal.τ).loc Cert.GlaBwdRefIdeal.main_arg0) = m ((c.tc : Thread Cert.GlaBwdIdeal.nD Cert.GlaBwdIdeal.τ).loc Cert.GlaBwdIdeal.main_arg0)
      ∧ m' ((c.tc : Thread Cert.GlaBwdRefIdeal.nD Cert.GlaBwdRefIdeal.τ).loc Cert.GlaBwdRefIdeal.main_arg1) = m ((c.tc : Thread Cert.GlaBwdIdeal.nD Cert.GlaBwdIdeal.τ).loc Cert.GlaBwdIdeal.main_arg1)
      ∧ m' ((c.tc : Thread Cert.GlaBwdRefIdeal.nD Cert.GlaBwdRefIdeal.τ).loc Cert.GlaBwdRefIdeal.main_arg2) = m ((c.tc : Thread Cert.GlaBwdIdeal.nD Cert.GlaBwdIdeal.τ).loc Cert.GlaBwdIdeal.main_arg2)
      ∧ m' ((c.tc : Thread Cert.GlaBwdRefIdeal.nD Cert.GlaBwdRefIdeal.τ).loc Cert.GlaBwdRefIdeal.main_arg3) = m ((c.tc : Thread Cert.GlaBwdIdeal.nD Cert.GlaBwdIdeal.τ).loc Cert.GlaBwdIdeal.main_arg3)) →
    ∃ (v0 : (c : Dev Cert.GlaBwdIdeal.nD) → Buf (Elt Ideal) ((c.tc : Thread Cert.GlaBwdIdeal.nD Cert.GlaBwdIdeal.τ).loc Cert.GlaBwdIdeal.main_v46_0)) (v1 : (c : Dev Cert.GlaBwdIdeal.nD) → Buf (Elt Ideal) ((c.tc : Thread Cert.GlaBwdIdeal.nD Cert.GlaBwdIdeal.τ).loc Cert.GlaBwdIdeal.main_v46_1)),
      θ_run (Cert.GlaBwdIdeal.defs (F := Ideal)) (onTc (τ := Cert.GlaBwdIdeal.τ) (Cert.GlaBwdIdeal.main (F := Ideal))) ⟨m, fun _ => 0, g⟩ (fun r => ∀ c : Dev Cert.GlaBwdIdeal.nD,
          r.2.mem ((c.tc : Thread Cert.GlaBwdIdeal.nD Cert.GlaBwdIdeal.τ).loc Cert.GlaBwdIdeal.main_v46_0) = v0 c
          ∧ r.2.mem ((c.tc : Thread Cert.GlaBwdIdeal.nD Cert.GlaBwdIdeal.τ).loc Cert.GlaBwdIdeal.main_v46_1) = v1 c
          ∧ r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
          ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
          ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
          ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3))
      ∧ θ_run (Cert.GlaBwdRefIdeal.defs (F := Ideal)) (onTc (τ := Cert.GlaBwdRefIdeal.τ) (Cert.GlaBwdRefIdeal.main (F := Ideal))) ⟨m', fun _ => 0, g'⟩ (fun r => ∀ c : Dev Cert.GlaBwdRefIdeal.nD,
          r.2.mem ((c.tc : Thread Cert.GlaBwdRefIdeal.nD Cert.GlaBwdRefIdeal.τ).loc Cert.GlaBwdRefIdeal.main_v64) = v0 c
          ∧ r.2.mem ((c.tc : Thread Cert.GlaBwdRefIdeal.nD Cert.GlaBwdRefIdeal.τ).loc Cert.GlaBwdRefIdeal.main_v65) = v1 c
          ∧ r.2.mem ((c.tc : Thread Cert.GlaBwdRefIdeal.nD Cert.GlaBwdRefIdeal.τ).loc Cert.GlaBwdRefIdeal.main_arg0) = m' ((c.tc : Thread Cert.GlaBwdRefIdeal.nD Cert.GlaBwdRefIdeal.τ).loc Cert.GlaBwdRefIdeal.main_arg0)
          ∧ r.2.mem ((c.tc : Thread Cert.GlaBwdRefIdeal.nD Cert.GlaBwdRefIdeal.τ).loc Cert.GlaBwdRefIdeal.main_arg1) = m' ((c.tc : Thread Cert.GlaBwdRefIdeal.nD Cert.GlaBwdRefIdeal.τ).loc Cert.GlaBwdRefIdeal.main_arg1)
          ∧ r.2.mem ((c.tc : Thread Cert.GlaBwdRefIdeal.nD Cert.GlaBwdRefIdeal.τ).loc Cert.GlaBwdRefIdeal.main_arg2) = m' ((c.tc : Thread Cert.GlaBwdRefIdeal.nD Cert.GlaBwdRefIdeal.τ).loc Cert.GlaBwdRefIdeal.main_arg2)
          ∧ r.2.mem ((c.tc : Thread Cert.GlaBwdRefIdeal.nD Cert.GlaBwdRefIdeal.τ).loc Cert.GlaBwdRefIdeal.main_arg3) = m' ((c.tc : Thread Cert.GlaBwdRefIdeal.nD Cert.GlaBwdRefIdeal.τ).loc Cert.GlaBwdRefIdeal.main_arg3))

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hBranch : Cert.Branch.Facts) (hBranchIdeal : Cert.BranchIdeal.Facts) (hBranchRefIdeal : Cert.BranchRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hGlaBwd : Cert.GlaBwd.Facts) (hGlaBwdIdeal : Cert.GlaBwdIdeal.Facts) (hGlaBwdRefIdeal : Cert.GlaBwdRefIdeal.Facts) (hPre_experts_in_range : Cert.Pre_experts_in_range.Facts) (hPre_gla_finite : Cert.Pre_gla_finite.Facts),
    quiescent_Ffn (hFfn := hFfn) (hPre_experts_in_range := hPre_experts_in_range)
    ∧ quiescent_FfnIdeal (hFfnIdeal := hFfnIdeal) (hPre_experts_in_range := hPre_experts_in_range)
    ∧ quiescent_FfnRefIdeal (hFfnRefIdeal := hFfnRefIdeal) (hPre_experts_in_range := hPre_experts_in_range)
    ∧ quiescent_InProj (hInProj := hInProj)
    ∧ quiescent_InProjIdeal (hInProjIdeal := hInProjIdeal)
    ∧ quiescent_InProjRefIdeal (hInProjRefIdeal := hInProjRefIdeal)
    ∧ quiescent_Branch (hBranch := hBranch)
    ∧ quiescent_BranchIdeal (hBranchIdeal := hBranchIdeal)
    ∧ quiescent_BranchRefIdeal (hBranchRefIdeal := hBranchRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_GlaBwd (hGlaBwd := hGlaBwd)
    ∧ quiescent_GlaBwdIdeal (hGlaBwdIdeal := hGlaBwdIdeal)
    ∧ quiescent_GlaBwdIdeal_pre_gla_finite (hGlaBwdIdeal := hGlaBwdIdeal) (hPre_gla_finite := hPre_gla_finite)
    ∧ quiescent_GlaBwdRefIdeal (hGlaBwdRefIdeal := hGlaBwdRefIdeal)
    ∧ quiescent_GlaBwdRefIdeal_pre_gla_finite (hGlaBwdRefIdeal := hGlaBwdRefIdeal) (hPre_gla_finite := hPre_gla_finite)
    ∧ preserves_Ffn_FfnIdeal
    ∧ algebraic_FfnIdeal_FfnRefIdeal (hFfnIdeal := hFfnIdeal) (hFfnRefIdeal := hFfnRefIdeal) (hPre_experts_in_range := hPre_experts_in_range)
    ∧ preserves_InProj_InProjIdeal
    ∧ algebraic_InProjIdeal_InProjRefIdeal (hInProjIdeal := hInProjIdeal) (hInProjRefIdeal := hInProjRefIdeal)
    ∧ preserves_Branch_BranchIdeal
    ∧ algebraic_BranchIdeal_BranchRefIdeal (hBranchIdeal := hBranchIdeal) (hBranchRefIdeal := hBranchRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_GlaBwd_GlaBwdIdeal
    ∧ algebraic_GlaBwdIdeal_GlaBwdRefIdeal_pre_gla_finite (hGlaBwdIdeal := hGlaBwdIdeal) (hGlaBwdRefIdeal := hGlaBwdRefIdeal) (hPre_gla_finite := hPre_gla_finite)
-- ==== Pre_experts_in_range.lean ====
abbrev S16384x2048 : Shape := ⟨2, ![16384, 2048]⟩
abbrev S40960 : Shape := ⟨1, ![40960]⟩
abbrev S160 : Shape := ⟨1, ![160]⟩
abbrev S1 : Shape := ⟨1, ![1]⟩
abbrev S32x2048x512 : Shape := ⟨3, ![32, 2048, 512]⟩
abbrev S32x512x2048 : Shape := ⟨3, ![32, 512, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : FVec F S16384x2048 .f32) (main_arg1 : IVec S40960 32) (main_arg2 : IVec S160 32) (main_arg3 : IVec S1 32) (main_arg4 : FVec F S32x2048x512 .f32) (main_arg5 : FVec F S32x2048x512 .f32) (main_arg6 : FVec F S32x512x2048 .f32) : IVec S160 1 :=
  let main_c : IVec S_ 32 := constantI S_ 32 0#32
  let main_v0 : IVec S160 32 := broadcastInDim S160 ![] bcast_S_S160 main_c
  let main_v1 : IVec S160 1 := cmpi .sge main_arg2 main_v0
  let main_c_0 : IVec S_ 32 := constantI S_ 32 32#32
  let main_v2 : IVec S160 32 := broadcastInDim S160 ![] bcast_S_S160 main_c_0
  let main_v3 : IVec S160 1 := cmpi .slt main_arg2 main_v2
  let main_v4 : IVec S160 1 := andi main_v1 main_v3
  main_v4
-- ==== Pre_gla_finite.lean ====
abbrev S16384x17920 : Shape := ⟨2, ![16384, 17920]⟩
abbrev S2x16x512 : Shape := ⟨3, ![2, 16, 512]⟩
abbrev S2x512 : Shape := ⟨2, ![2, 512]⟩
abbrev S4x256x128 : Shape := ⟨3, ![4, 256, 128]⟩
abbrev S_ : Shape := ⟨0, ![]⟩

class Facts : Prop where
  bcast_S_S16384x17920 : S_.BroadcastsInDim S16384x17920 (![] : Fin 0 → Fin S16384x17920.rank)
  bcast_S_S2x16x512 : S_.BroadcastsInDim S2x16x512 (![] : Fin 0 → Fin S2x16x512.rank)
  bcast_S_S2x512 : S_.BroadcastsInDim S2x512 (![] : Fin 0 → Fin S2x512.rank)
  bcast_S_S4x256x128 : S_.BroadcastsInDim S4x256x128 (![] : Fin 0 → Fin S4x256x128.rank)

variable [Facts]

def fn {F : FTy → Type} [FloatOps F] (main_arg0 : FVec F S16384x17920 .f32) (main_arg1 : FVec F S2x16x512 .f32) (main_arg2 : FVec F S2x512 .f32) (main_arg3 : FVec F S4x256x128 .f32) : IVec S16384x17920 1 × IVec S2x16x512 1 × IVec S2x512 1 × IVec S4x256x128 1 :=
  let main_v0 : FVec F S16384x17920 .f32 := Host.absf main_arg0
  let main_cst : FVec F S_ .f32 := constant S_ .f32 0x7F800000#32
  let main_v1 : FVec F S16384x17920 .f32 := broadcastInDim S16384x17920 ![] bcast_S_S16384x17920 main_cst
  let main_v2 : IVec S16384x17920 1 := cmpf .olt main_v0 main_v1
  let main_v3 : FVec F S2x16x512 .f32 := Host.absf main_arg1
  let main_cst_0 : FVec F S_ .f32 := constant S_ .f32 0x7F800000#32
  let main_v4 : FVec F S2x16x512 .f32 := broadcastInDim S2x16x512 ![] bcast_S_S2x16x512 main_cst_0
  let main_v5 : IVec S2x16x512 1 := cmpf .olt main_v3 main_v4
  let main_v6 : FVec F S2x512 .f32 := Host.absf main_arg2
  let main_cst_1 : FVec F S_ .f32 := constant S_ .f32 0x7F800000#32
  let main_v7 : FVec F S2x512 .f32 := broadcastInDim S2x512 ![] bcast_S_S2x512 main_cst_1
  let main_v8 : IVec S2x512 1 := cmpf .olt main_v6 main_v7
  let main_v9 : FVec F S4x256x128 .f32 := Host.absf main_arg3
  let main_cst_2 : FVec F S_ .f32 := constant S_ .f32 0x7F800000#32
  let main_v10 : FVec F S4x256x128 .f32 := broadcastInDim S4x256x128 ![] bcast_S_S4x256x128 main_cst_2
  let main_v11 : IVec S4x256x128 1 := cmpf .olt main_v9 main_v10
  (main_v2, main_v5, main_v8, main_v11)
-- ==== Ffn.lean ====
abbrev S16384x2048 : Shape := ⟨2, ![16384, 2048]⟩
abbrev S40960 : Shape := ⟨1, ![40960]⟩
abbrev S160 : Shape := ⟨1, ![160]⟩
abbrev S1 : Shape := ⟨1, ![1]⟩
abbrev S32x2048x512 : Shape := ⟨3, ![32, 2048, 512]⟩
abbrev S32x512x2048 : Shape := ⟨3, ![32, 512, 2048]⟩
abbrev S_ : Shape := ⟨0, ![]⟩
abbrev S40960x1 : Shape := ⟨2, ![40960, 1]⟩
abbrev S40960x2048 : Shape := ⟨2, ![40960, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 19
  | .vmem => 10
  | .smem => 2
  | _ => 0

abbrev bufTy : (tb : Table) → Fin (tcTables nBuf tb) → BufTy
  | .hbm, ⟨0, _⟩ => ⟨S16384x2048, .f32⟩
  | .hbm, ⟨1, _⟩ => ⟨S40960, .i32⟩
  | .hbm, ⟨2, _⟩ => ⟨S32x2048x512, .f32⟩
  | .hbm, ⟨3, _⟩ => ⟨S32x2048x512, .f32⟩
  | .hbm, ⟨4, _⟩ => ⟨S32x512x2048, .f32⟩
  | .hbm, ⟨5, _⟩ => ⟨S16384x2048, .bf16⟩
  | .hbm, ⟨6, _⟩ => ⟨S_, .i32⟩
  | .hbm, ⟨7, _⟩ => ⟨S40960, .i32⟩
  | .hbm, ⟨8, _⟩ => ⟨S40960, .i1⟩
  | .hbm, ⟨9, _⟩ => ⟨S_, .i32⟩
  | .hbm, ⟨10, _⟩ => ⟨S40960, .i32⟩
  | .hbm, ⟨11, _⟩ => ⟨S40960, .i32⟩
  | .hbm, ⟨12, _⟩ => ⟨S40960, .i32⟩
  | .hbm, ⟨13, _⟩ => ⟨S40960x1, .i32⟩
  | .hbm, ⟨14, _⟩ => ⟨S40960x2048, .bf16⟩
  | .hbm, ⟨15, _⟩ => ⟨S32x2048x512, .bf16⟩
  | .hbm, ⟨16, _⟩ => ⟨S32x2048x512, .bf16⟩
  | .hbm, ⟨17, _⟩ => ⟨S32x512x2048, .bf16⟩
  | .hbm, ⟨18, _⟩ => ⟨S40960x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S256x2048, .f32⟩
  | .local _ .vmem, ⟨9, _⟩ => ⟨S256x2048, .f32⟩
  | .local _ .smem, ⟨0, _⟩ => ⟨S160, .i32⟩
  | .local _ .smem, ⟨1, _⟩ => ⟨S1, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S16384x2048 : Shape := ⟨2, ![16384, 2048]⟩
abbrev S40960 : Shape := ⟨1, ![40960]⟩
abbrev S160 : Shape := ⟨1, ![160]⟩
abbrev S1 : Shape := ⟨1, ![1]⟩
abbrev S32x2048x512 : Shape := ⟨3, ![32, 2048, 512]⟩
abbrev S32x512x2048 : Shape := ⟨3, ![32, 512, 2048]⟩
abbrev S160x256 : Shape := ⟨2, ![160, 256]⟩
abbrev S_ : Shape := ⟨0, ![]⟩
abbrev S160x256x1 : Shape := ⟨3, ![160, 256, 1]⟩
abbrev S160x256x2048 : Shape := ⟨3, ![160, 256, 2048]⟩
abbrev S160x1 : Shape := ⟨2, ![160, 1]⟩
abbrev S160x3 : Shape := ⟨2, ![160, 3]⟩
abbrev S160x1x2048x512 : Shape := ⟨4, ![160, 1, 2048, 512]⟩
abbrev S160x2048x512 : Shape := ⟨3, ![160, 2048, 512]⟩
abbrev S160x256x512 : Shape := ⟨3, ![160, 256, 512]⟩
abbrev S160x1x512x2048 : Shape := ⟨4, ![160, 1, 512, 2048]⟩
abbrev S160x512x2048 : Shape := ⟨3, ![160, 512, 2048]⟩
abbrev S160x1x1 : Shape := ⟨3, ![160, 1, 1]⟩
abbrev S40960x2048 : Shape := ⟨2, ![40960, 2048]⟩

abbrev nBuf : Space → Nat
  | .hbm => 128
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S40960, .i32⟩
  | .hbm, ⟨2, _⟩ => ⟨S160, .i32⟩
  | .hbm, ⟨3, _⟩ => ⟨S1, .i32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S160x256, .i32⟩
  | .hbm, ⟨8, _⟩ => ⟨S_, .i32⟩
  | .hbm, ⟨9, _⟩ => ⟨S160x256, .i32⟩
  | .hbm, ⟨10, _⟩ => ⟨S160x256, .i1⟩
  | .hbm, ⟨11, _⟩ => ⟨S_, .i32⟩
  | .hbm, ⟨12, _⟩ => ⟨S160x256, .i32⟩
  | .hbm, ⟨13, _⟩ => ⟨S160x256, .i32⟩
  | .hbm, ⟨14, _⟩ => ⟨S160x256, .i32⟩
  | .hbm, ⟨15, _⟩ => ⟨S160x256x1, .i32⟩
  | .hbm, ⟨16, _⟩ => ⟨S160x256x2048, .f32⟩
  | .hbm, ⟨17, _⟩ => ⟨S_, .i32⟩
  | .hbm, ⟨18, _⟩ => ⟨S160, .i32⟩
  | .hbm, ⟨19, _⟩ => ⟨S160, .i1⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S160, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S160x1, .i32⟩
  | .hbm, ⟨41, _⟩ => ⟨S160x1, .i32⟩
  | .hbm, ⟨42, _⟩ => ⟨S160x1, .i32⟩
  | .hbm, ⟨43, _⟩ => ⟨S160x3, .i32⟩
  | .hbm, ⟨44, _⟩ => ⟨S160x1x2048x512, .f32⟩
  | .hbm, ⟨45, _⟩ => ⟨S160x2048x512, .f32⟩
  | .hbm, ⟨46, _⟩ => ⟨S160x256x512, .f32⟩
  | .hbm, ⟨47, _⟩ => ⟨S160x256x512, .f32⟩
  | .hbm, ⟨48, _⟩ => ⟨S160x256x512, .f32⟩
  | .hbm, ⟨49, _⟩ => ⟨S_, .f32⟩
  | .hbm, ⟨50, _⟩ => ⟨S160x256x512, .f32⟩
  | .hbm, ⟨51, _⟩ => ⟨S160x256x512, .f32⟩
  | .hbm, ⟨52, _⟩ => ⟨S_, .f32⟩
  | .hbm, ⟨53, _⟩ => ⟨S160x256x512, .f32⟩
  | .hbm, ⟨54, _⟩ => ⟨S160x256x512, .f32⟩
  | .hbm, ⟨55, _⟩ => ⟨S160x256x512, .f32⟩
  | .hbm, ⟨56, _⟩ => ⟨S_, .i32⟩
  | .hbm, ⟨57, _⟩ => ⟨S160, .i32⟩
  | .hbm, ⟨58, _⟩ => ⟨S160, .i1⟩
  | .hbm, ⟨59, _⟩ => ⟨S_, .i32⟩
  | .hbm, ⟨60, _⟩ => ⟨S160, .i32⟩
  | .hbm, ⟨61, _⟩ => ⟨S160, .i32⟩
  | .hbm, ⟨62, _⟩ => ⟨S160, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S160x1, .i32⟩
  | .hbm, ⟨80, _⟩ => ⟨S160x1, .i32⟩
  | .hbm, ⟨81, _⟩ => ⟨S160x1, .i32⟩
  | .hbm, ⟨82, _⟩ => ⟨S160x3, .i32⟩
  | .hbm, ⟨83, _⟩ => ⟨S160x1x2048x512, .f32⟩
  | .hbm, ⟨84, _⟩ => ⟨S160x2048x512, .f32⟩
  | .hbm, ⟨85, _⟩ => ⟨S160x256x512, .f32⟩
  | .hbm, ⟨86, _⟩ => ⟨S160x256x512, .f32⟩
  | .hbm, ⟨87, _⟩ => ⟨S_, .i32⟩
  | .hbm, ⟨88, _⟩ => ⟨S160, .i32⟩
  | .hbm, ⟨89, _⟩ => ⟨S160, .i1⟩
  | .hbm, ⟨90, _⟩ => ⟨S_, .i32⟩
  | .hbm, ⟨91, _⟩ => ⟨S160, .i32⟩
  | .hbm, ⟨92, _⟩ => ⟨S160, .i32⟩
  | .hbm, ⟨93, _⟩ => ⟨S160, .i32⟩
  | .hbm, ⟨94, _⟩ => ⟨S_, .i32⟩
  | .hbm, ⟨95, _⟩ => ⟨S_, .i32⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i1⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S160x1, .i32⟩
  | .hbm, ⟨111, _⟩ => ⟨S160x1, .i32⟩
  | .hbm, ⟨112, _⟩ => ⟨S160x1, .i32⟩
  | .hbm, ⟨113, _⟩ => ⟨S160x3, .i32⟩
  | .hbm, ⟨114, _⟩ => ⟨S160x1x512x2048, .f32⟩
  | .hbm, ⟨115, _⟩ => ⟨S160x512x2048, .f32⟩
  | .hbm, ⟨116, _⟩ => ⟨S160x256x2048, .f32⟩
  | .hbm, ⟨117, _⟩ => ⟨S160, .i32⟩
  | .hbm, ⟨118, _⟩ => ⟨S160x1x1, .i32⟩
  | .hbm, ⟨119, _⟩ => ⟨S_, .i32⟩
  | .hbm, ⟨120, _⟩ => ⟨S160x1x1, .i32⟩
  | .hbm, ⟨121, _⟩ => ⟨S160x1x1, .i1⟩
  | .hbm, ⟨122, _⟩ => ⟨S_, .f32⟩
  | .hbm, ⟨123, _⟩ => ⟨S_, .f32⟩
  | .hbm, ⟨124, _⟩ => ⟨S160x256x2048, .i1⟩
  | .hbm, ⟨125, _⟩ => ⟨S160x256x2048, .f32⟩
  | .hbm, ⟨126, _⟩ => ⟨S160x256x2048, .f32⟩
  | .hbm, ⟨127, _⟩ => ⟨S40960x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_c_4 : Ref sig .tc := ⟨.hbm, 25, rfl⟩
abbrev main_v13 : Ref sig .tc := ⟨.hbm, 26, rfl⟩
abbrev main_c_5 : Ref sig .tc := ⟨.hbm, 27, rfl⟩
abbrev main_c_6 : Ref sig .tc := ⟨.hbm, 28, rfl⟩
abbrev main_v14 : Ref sig .tc := ⟨.hbm, 29, rfl⟩
abbrev main_c_7 : Ref sig .tc := ⟨.hbm, 30, rfl⟩
abbrev main_v15 : Ref sig .tc := ⟨.hbm, 31, rfl⟩
abbrev main_c_8 : Ref sig .tc := ⟨.hbm, 32, rfl⟩
abbrev main_c_9 : Ref sig .tc := ⟨.hbm, 33, rfl⟩
abbrev main_v16 : Ref sig .tc := ⟨.hbm, 34, rfl⟩
abbrev main_c_10 : Ref sig .tc := ⟨.hbm, 35, rfl⟩
abbrev main_c_11 : Ref sig .tc := ⟨.hbm, 36, rfl⟩
abbrev main_v17 : Ref sig .tc := ⟨.hbm, 37, rfl⟩
abbrev main_c_12 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v26 : Ref sig .tc := ⟨.hbm, 55, rfl⟩
abbrev main_c_13 : Ref sig .tc := ⟨.hbm, 56, rfl⟩
abbrev main_v27 : Ref sig .tc := ⟨.hbm, 57, rfl⟩
abbrev main_v28 : Ref sig .tc := ⟨.hbm, 58, rfl⟩
abbrev main_c_14 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_15 : Ref sig .tc := ⟨.hbm, 63, rfl⟩
abbrev main_c_16 : Ref sig .tc := ⟨.hbm, 64, rfl⟩
abbrev main_v32 : Ref sig .tc := ⟨.hbm, 65, rfl⟩
abbrev main_c_17 : Ref sig .tc := ⟨.hbm, 66, rfl⟩
abbrev main_c_18 : Ref sig .tc := ⟨.hbm, 67, rfl⟩
abbrev main_v33 : Ref sig .tc := ⟨.hbm, 68, rfl⟩
abbrev main_c_19 : Ref sig .tc := ⟨.hbm, 69, rfl⟩
abbrev main_v34 : Ref sig .tc := ⟨.hbm, 70, rfl⟩
abbrev main_c_20 : Ref sig .tc := ⟨.hbm, 71, rfl⟩
abbrev main_c_21 : Ref sig .tc := ⟨.hbm, 72, rfl⟩
abbrev main_v35 : Ref sig .tc := ⟨.hbm, 73, rfl⟩
abbrev main_c_22 : Ref sig .tc := ⟨.hbm, 74, rfl⟩
abbrev main_c_23 : Ref sig .tc := ⟨.hbm, 75, rfl⟩
abbrev main_v36 : Ref sig .tc := ⟨.hbm, 76, rfl⟩
abbrev main_c_24 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c_25 : Ref sig .tc := ⟨.hbm, 87, rfl⟩
abbrev main_v46 : Ref sig .tc := ⟨.hbm, 88, rfl⟩
abbrev main_v47 : Ref sig .tc := ⟨.hbm, 89, rfl⟩
abbrev main_c_26 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_27 : Ref sig .tc := ⟨.hbm, 94, rfl⟩
abbrev main_c_28 : Ref sig .tc := ⟨.hbm, 95, rfl⟩
abbrev main_v51 : Ref sig .tc := ⟨.hbm, 96, rfl⟩
abbrev main_c_29 : Ref sig .tc := ⟨.hbm, 97, rfl⟩
abbrev main_c_30 : Ref sig .tc := ⟨.hbm, 98, rfl⟩
abbrev main_v52 : Ref sig .tc := ⟨.hbm, 99, rfl⟩
abbrev main_c_31 : Ref sig .tc := ⟨.hbm, 100, rfl⟩
abbrev main_v53 : Ref sig .tc := ⟨.hbm, 101, rfl⟩
abbrev main_c_32 : Ref sig .tc := ⟨.hbm, 102, rfl⟩
abbrev main_c_33 : Ref sig .tc := ⟨.hbm, 103, rfl⟩
abbrev main_v54 : Ref sig .tc := ⟨.hbm, 104, rfl⟩
abbrev main_c_34 : Ref sig .tc := ⟨.hbm, 105, rfl⟩
abbrev main_c_35 : Ref sig .tc := ⟨.hbm, 106, rfl⟩
abbrev main_v55 : Ref sig .tc := ⟨.hbm, 107, rfl⟩
abbrev main_c_36 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v69 : Ref sig .tc := ⟨.hbm, 126, rfl⟩
abbrev main_v70 : Ref sig .tc := ⟨.hbm, 127, rfl⟩

abbrev nD : Nat := 1
abbrev τ : Topo := Topo.v7x

variable {F : FTy → Type} [FloatOps F]
-- ==== InProj.lean ====
abbrev S16384x2048 : Shape := ⟨2, ![16384, 2048]⟩
abbrev S2048x17440 : Shape := ⟨2, ![2048, 17440]⟩
abbrev S17440 : Shape := ⟨1, ![17440]⟩
abbrev S2048x8224 : Shape := ⟨2, ![2048, 8224]⟩
abbrev S_ : Shape := ⟨0, ![]⟩
abbrev S2048x480 : Shape := ⟨2, ![2048, 480]⟩
abbrev S2048x9216 : Shape := ⟨2, ![2048, 9216]⟩
abbrev S2048x17920 : Shape := ⟨2, ![2048, 17920]⟩
abbrev S8224 : Shape := ⟨1, ![8224]⟩
abbrev S480 : Shape := ⟨1, ![480]⟩
abbrev S9216 : Shape := ⟨1, ![9216]⟩
abbrev S17920 : Shape := ⟨1, ![17920]⟩
abbrev S1x17920 : Shape := ⟨2, ![1, 17920]⟩
abbrev S16384x17920 : Shape := ⟨2, ![16384, 17920]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 17
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x17440, .f32⟩
  | .hbm, ⟨2, _⟩ => ⟨S17440, .f32⟩
  | .hbm, ⟨3, _⟩ => ⟨S16384x2048, .bf16⟩
  | .hbm, ⟨4, _⟩ => ⟨S2048x17440, .bf16⟩
  | .hbm, ⟨5, _⟩ => ⟨S2048x8224, .bf16⟩
  | .hbm, ⟨6, _⟩ => ⟨S_, .bf16⟩
  | .hbm, ⟨7, _⟩ => ⟨S2048x480, .bf16⟩
  | .hbm, ⟨8, _⟩ => ⟨S2048x9216, .bf16⟩
  | .hbm, ⟨9, _⟩ => ⟨S2048x17920, .bf16⟩
  | .hbm, ⟨10, _⟩ => ⟨S8224, .f32⟩
  | .hbm, ⟨11, _⟩ => ⟨S_, .f32⟩
  | .hbm, ⟨12, _⟩ => ⟨S480, .f32⟩
  | .hbm, ⟨13, _⟩ => ⟨S9216, .f32⟩
  | .hbm, ⟨14, _⟩ => ⟨S17920, .f32⟩
  | .hbm, ⟨15, _⟩ => ⟨S1x17920, .f32⟩
  | .hbm, ⟨16, _⟩ => ⟨S16384x17920, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 35], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x2048 : Shape := ⟨2, ![16384, 2048]⟩
abbrev S2048x17440 : Shape := ⟨2, ![2048, 17440]⟩
abbrev S17440 : Shape := ⟨1, ![17440]⟩
abbrev S16384x17440 : Shape := ⟨2, ![16384, 17440]⟩
abbrev S1x17440 : Shape := ⟨2, ![1, 17440]⟩
abbrev S_ : Shape := ⟨0, ![]⟩
abbrev S16384x480 : Shape := ⟨2, ![16384, 480]⟩
abbrev S16384x8224 : Shape := ⟨2, ![16384, 8224]⟩
abbrev S16384x9216 : Shape := ⟨2, ![16384, 9216]⟩
abbrev S16384x17920 : Shape := ⟨2, ![16384, 17920]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x17440, .f32⟩
  | .hbm, ⟨2, _⟩ => ⟨S17440, .f32⟩
  | .hbm, ⟨3, _⟩ => ⟨S16384x17440, .f32⟩
  | .hbm, ⟨4, _⟩ => ⟨S1x17440, .f32⟩
  | .hbm, ⟨5, _⟩ => ⟨S16384x17440, .f32⟩
  | .hbm, ⟨6, _⟩ => ⟨S16384x17440, .f32⟩
  | .hbm, ⟨7, _⟩ => ⟨S_, .f32⟩
  | .hbm, ⟨8, _⟩ => ⟨S16384x480, .f32⟩
  | .hbm, ⟨9, _⟩ => ⟨S16384x8224, .f32⟩
  | .hbm, ⟨10, _⟩ => ⟨S16384x9216, .f32⟩
  | .hbm, ⟨11, _⟩ => ⟨S16384x17920, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Branch.lean ====
abbrev S16384x1024 : Shape := ⟨2, ![16384, 1024]⟩
abbrev S1024x2048 : Shape := ⟨2, ![1024, 2048]⟩
abbrev S_ : Shape := ⟨0, ![]⟩
abbrev S2048 : Shape := ⟨1, ![2048]⟩
abbrev S1x2048 : Shape := ⟨2, ![1, 2048]⟩
abbrev S16384x2048 : Shape := ⟨2, ![16384, 2048]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x1024, .bf16⟩
  | .hbm, ⟨3, _⟩ => ⟨S1024x2048, .bf16⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BranchRefIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .bf16⟩
  | .hbm, ⟨3, _⟩ => ⟨S2048x2048, .bf16⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x2048 : Shape := ⟨2, ![16384, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GlaBwd.lean ====
abbrev S16384x17920 : Shape := ⟨2, ![16384, 17920]⟩
abbrev S2x16x512 : Shape := ⟨3, ![2, 16, 512]⟩
abbrev S2x512 : Shape := ⟨2, ![2, 512]⟩
abbrev S4x256x128 : Shape := ⟨3, ![4, 256, 128]⟩
abbrev S_ : Shape := ⟨0, ![]⟩
abbrev S128x512 : Shape := ⟨2, ![128, 512]⟩
abbrev S1x16x512 : Shape := ⟨3, ![1, 16, 512]⟩
abbrev S16x512 : Shape := ⟨2, ![16, 512]⟩
abbrev S1 : Shape := ⟨1, ![1]⟩
abbrev S1x512 : Shape := ⟨2, ![1, 512]⟩
abbrev S512 : Shape := ⟨1, ![512]⟩
abbrev S1x128x128 : Shape := ⟨3, ![1, 128, 128]⟩
abbrev S7x1x1 : Shape := ⟨3, ![7, 1, 1]⟩
abbrev S7x128x128 : Shape := ⟨3, ![7, 128, 128]⟩
abbrev S8x128x128 : Shape := ⟨3, ![8, 128, 128]⟩
abbrev S128x128 : Shape := ⟨2, ![128, 128]⟩
abbrev S16384x1024 : Shape := ⟨2, ![16384, 1024]⟩
abbrev S128x1024 : Shape := ⟨2, ![128, 1024]⟩
abbrev S128x256 : Shape := ⟨2, ![128, 256]⟩
abbrev S1x128 : Shape := ⟨2, ![1, 128]⟩
abbrev S1x256x128 : Shape := ⟨3, ![1, 256, 128]⟩
abbrev S256x128 : Shape := ⟨2, ![256, 128]⟩
abbrev S16x8x128 : Shape := ⟨3, ![16, 8, 128]⟩
abbrev S16x1x128 : Shape := ⟨3, ![16, 1, 128]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩

abbrev nBuf : Space → Nat
  | .hbm => 60
  | .vmem => 16
  | .smem => 0
  | _ => 0

abbrev bufTy : (tb : Table) → Fin (tcTables nBuf tb) → BufTy
  | .hbm, ⟨0, _⟩ => ⟨S16384x17920, .f32⟩
  | .hbm, ⟨1, _⟩ => ⟨S2x16x512, .f32⟩
  | .hbm, ⟨2, _⟩ => ⟨S2x512, .f32⟩
  | .hbm, ⟨3, _⟩ => ⟨S4x256x128, .f32⟩
  | .hbm, ⟨4, _⟩ => ⟨S_, .f32⟩
  | .hbm, ⟨5, _⟩ => ⟨S128x512, .f32⟩
  | .hbm, ⟨6, _⟩ => ⟨S1x16x512, .f32⟩
  | .hbm, ⟨7, _⟩ => ⟨S16x512, .f32⟩
  | .hbm, ⟨8, _⟩ => ⟨S_, .i32⟩
  | .hbm, ⟨9, _⟩ => ⟨S1, .i32⟩
  | .hbm, ⟨10, _⟩ => ⟨S128x512, .f32⟩
  | .hbm, ⟨11, _⟩ => ⟨S128x512, .bf16⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S1x128x128, .i32⟩
  | .hbm, ⟨16, _⟩ => ⟨S1x128x128, .i32⟩
  | .hbm, ⟨17, _⟩ => ⟨S7x1x1, .i32⟩
  | .hbm, ⟨18, _⟩ => ⟨S_, .i32⟩
  | .hbm, ⟨19, _⟩ => ⟨S7x1x1, .i32⟩
  | .hbm, ⟨20, _⟩ => ⟨S7x1x1, .i32⟩
  | .hbm, ⟨21, _⟩ => ⟨S7x128x128, .i32⟩
  | .hbm, ⟨22, _⟩ => ⟨S7x128x128, .i32⟩
  | .hbm, ⟨23, _⟩ => ⟨S7x128x128, .i32⟩
  | .hbm, ⟨24, _⟩ => ⟨S_, .i32⟩
  | .hbm, ⟨25, _⟩ => ⟨S7x1x1, .i32⟩
  | .hbm, ⟨26, _⟩ => ⟨S7x1x1, .i32⟩
  | .hbm, ⟨27, _⟩ => ⟨S7x128x128, .i32⟩
  | .hbm, ⟨28, _⟩ => ⟨S7x128x128, .i32⟩
  | .hbm, ⟨29, _⟩ => ⟨S7x128x128, .i32⟩
  | .hbm, ⟨30, _⟩ => ⟨S7x128x128, .i1⟩
  | .hbm, ⟨31, _⟩ => ⟨S7x128x128, .i32⟩
  | .hbm, ⟨32, _⟩ => ⟨S7x128x128, .i32⟩
  | .hbm, ⟨33, _⟩ => ⟨S7x128x128, .i32⟩
  | .hbm, ⟨34, _⟩ => ⟨S_, .i32⟩
  | .hbm, ⟨35, _⟩ => ⟨S7x128x128, .i32⟩
  | .hbm, ⟨36, _⟩ => ⟨S7x128x128, .i32⟩
  | .hbm, ⟨37, _⟩ => ⟨S_, .i32⟩
  | .hbm, ⟨38, _⟩ => ⟨S7x128x128, .i32⟩
  | .hbm, ⟨39, _⟩ => ⟨S7x128x128, .i1⟩
  | .hbm, ⟨40, _⟩ => ⟨S7x128x128, .i1⟩
  | .hbm, ⟨41, _⟩ => ⟨S7x128x128, .i32⟩
  | .hbm, ⟨42, _⟩ => ⟨S7x128x128, .i32⟩
  | .hbm, ⟨43, _⟩ => ⟨S7x128x128, .i32⟩
  | .hbm, ⟨44, _⟩ => ⟨S_, .i32⟩
  | .hbm, ⟨45, _⟩ => ⟨S7x128x128, .i32⟩
  | .hbm, ⟨46, _⟩ => ⟨S7x128x128, .i32⟩
  | .hbm, ⟨47, _⟩ => ⟨S_, .i32⟩
  | .hbm, ⟨48, _⟩ => ⟨S7x128x128, .i32⟩
  | .hbm, ⟨49, _⟩ => ⟨S7x128x128, .i1⟩
  | .hbm, ⟨50, _⟩ => ⟨S7x128x128, .i1⟩
  | .hbm, ⟨51, _⟩ => ⟨S1x128x128, .i1⟩
  | .hbm, ⟨52, _⟩ => ⟨S1x128x128, .f32⟩
  | .hbm, ⟨53, _⟩ => ⟨S7x128x128, .f32⟩
  | .hbm, ⟨54, _⟩ => ⟨S8x128x128, .f32⟩
  | .hbm, ⟨55, _⟩ => ⟨S1x128x128, .i1⟩
  | .hbm, ⟨56, _⟩ => ⟨S128x128, .i1⟩
  | .hbm, ⟨57, _⟩ => ⟨S128x128, .bf16⟩
  | .hbm, ⟨58, _⟩ => ⟨S16384x1024, .f32⟩
  | .hbm, ⟨59, _⟩ => ⟨S4x256x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x512, .bf16⟩
  | .local _ .vmem, ⟨9, _⟩ => ⟨S1x512, .f32⟩
  | .local _ .vmem, ⟨10, _⟩ => ⟨S4x256x128, .f32⟩
  | .local _ .vmem, ⟨11, _⟩ => ⟨S8x128x128, .f32⟩
  | .local _ .vmem, ⟨12, _⟩ => ⟨S128x128, .bf16⟩
  | .local _ .vmem, ⟨13, _⟩ => ⟨S128x1024, .f32⟩
  | .local _ .vmem, ⟨14, _⟩ => ⟨S128x1024, .f32⟩
  | .local _ .vmem, ⟨15, _⟩ => ⟨S4x256x128, .f32⟩
  | _, _ => ⟨S16384x17920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c10_i32 : BitVec 32 := 10#32
  let c0_i32 : BitVec 32 := 0#32
  ![v0.toNat, c10_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c11_i32 : BitVec 32 := 11#32
  let c0_i32 : BitVec 32 := 0#32
  ![v0.toNat, c11_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c64_i32 : BitVec 32 := 64#32
  let c0_i32 : BitVec 32 := 0#32
  ![v0.toNat, c64_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GlaBwdRefIdeal.lean ====
abbrev S16384x17920 : Shape := ⟨2, ![16384, 17920]⟩
abbrev S2x16x512 : Shape := ⟨3, ![2, 16, 512]⟩
abbrev S2x512 : Shape := ⟨2, ![2, 512]⟩
abbrev S4x256x128 : Shape := ⟨3, ![4, 256, 128]⟩
abbrev S16384x512 : Shape := ⟨2, ![16384, 512]⟩
abbrev S16384x1024 : Shape := ⟨2, ![16384, 1024]⟩
abbrev S16384x16 : Shape := ⟨2, ![16384, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S_ : Shape := ⟨0, ![]⟩
abbrev S16384x4x128 : Shape := ⟨3, ![16384, 4, 128]⟩
abbrev S16384x4x256 : Shape := ⟨3, ![16384, 4, 256]⟩
abbrev S1x4x128 : Shape := ⟨3, ![1, 4, 128]⟩
abbrev S4x128x256 : Shape := ⟨3, ![4, 128, 256]⟩
abbrev S4x128 : Shape := ⟨2, ![4, 128]⟩
abbrev S4x128x1 : Shape := ⟨3, ![4, 128, 1]⟩
abbrev S4x256x16384 : Shape := ⟨3, ![4, 256, 16384]⟩
abbrev S16384x16384 : Shape := ⟨2, ![16384, 16384]⟩
abbrev S16384x16384x1x1 : Shape := ⟨4, ![16384, 16384, 1, 1]⟩
abbrev S16384x1x4x128 : Shape := ⟨4, ![16384, 1, 4, 128]⟩
abbrev S1x16384x4x128 : Shape := ⟨4, ![1, 16384, 4, 128]⟩
abbrev S16384x16384x4x128 : Shape := ⟨4, ![16384, 16384, 4, 128]⟩
abbrev S16384x16384x4 : Shape := ⟨3, ![16384, 16384, 4]⟩

abbrev nBuf : Space → Nat
  | .hbm => 103
  | .vmem => 0
  | .smem => 0
  | _ => 0

abbrev bufTy : (tb : Table) → Fin (tcTables nBuf tb) → BufTy
  | .hbm, ⟨0, _⟩ => ⟨S16384x17920, .f32⟩
  | .hbm, ⟨1, _⟩ => ⟨S2x16x512, .f32⟩
  | .hbm, ⟨2, _⟩ => ⟨S2x512, .f32⟩
  | .hbm, ⟨3, _⟩ => ⟨S4x256x128, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S16384x16, .f32⟩
  | .hbm, ⟨8, _⟩ => ⟨S1x16x512, .f32⟩
  | .hbm, ⟨9, _⟩ => ⟨S16x512, .f32⟩
  | .hbm, ⟨10, _⟩ => ⟨S16384x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .i1⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x4x128, .f32⟩
  | .hbm, ⟨36, _⟩ => ⟨S16384x4x128, .f32⟩
  | .hbm, ⟨37, _⟩ => ⟨S_, .f32⟩
  | .hbm, ⟨38, _⟩ => ⟨S16384x4x128, .f32⟩
  | .hbm, ⟨39, _⟩ => ⟨S16384x4x128, .f32⟩
  | .hbm, ⟨40, _⟩ => ⟨S16384x4x128, .f32⟩
  | .hbm, ⟨41, _⟩ => ⟨S16384x4x128, .f32⟩
  | .hbm, ⟨42, _⟩ => ⟨S16384x4x128, .f32⟩
  | .hbm, ⟨43, _⟩ => ⟨S16384x4x256, .f32⟩
  | .hbm, ⟨44, _⟩ => ⟨S16384x4x256, .f32⟩
  | .hbm, ⟨45, _⟩ => ⟨S16384x4x128, .f32⟩
  | .hbm, ⟨46, _⟩ => ⟨S_, .f32⟩
  | .hbm, ⟨47, _⟩ => ⟨S_, .f32⟩
  | .hbm, ⟨48, _⟩ => ⟨S16384x4x128, .f32⟩
  | .hbm, ⟨49, _⟩ => ⟨S1x4x128, .f32⟩
  | .hbm, ⟨50, _⟩ => ⟨S4x128x256, .f32⟩
  | .hbm, ⟨51, _⟩ => ⟨S4x128, .f32⟩
  | .hbm, ⟨52, _⟩ => ⟨S4x128, .f32⟩
  | .hbm, ⟨53, _⟩ => ⟨S4x128x1, .f32⟩
  | .hbm, ⟨54, _⟩ => ⟨S4x128x256, .f32⟩
  | .hbm, ⟨55, _⟩ => ⟨S4x128x256, .f32⟩
  | .hbm, ⟨56, _⟩ => ⟨S16384x4x128, .f32⟩
  | .hbm, ⟨57, _⟩ => ⟨S16384x4x128, .f32⟩
  | .hbm, ⟨58, _⟩ => ⟨S16384x4x128, .f32⟩
  | .hbm, ⟨59, _⟩ => ⟨S16384x4x128, .f32⟩
  | .hbm, ⟨60, _⟩ => ⟨S4x128x256, .f32⟩
  | .hbm, ⟨61, _⟩ => ⟨S4x128x256, .f32⟩
  | .hbm, ⟨62, _⟩ => ⟨S16384x4x128, .f32⟩
  | .hbm, ⟨63, _⟩ => ⟨S16384x4x128, .f32⟩
  | .hbm, ⟨64, _⟩ => ⟨S4x256x16384, .f32⟩
  | .hbm, ⟨65, _⟩ => ⟨S16384x4x256, .f32⟩
  | .hbm, ⟨66, _⟩ => ⟨S_, .i1⟩
  | .hbm, ⟨67, _⟩ => ⟨S16384x16384, .i1⟩
  | .hbm, ⟨68, _⟩ => ⟨S16384x16384, .i32⟩
  | .hbm, ⟨69, _⟩ => ⟨S_, .i32⟩
  | .hbm, ⟨70, _⟩ => ⟨S16384x16384, .i32⟩
  | .hbm, ⟨71, _⟩ => ⟨S16384x16384, .i32⟩
  | .hbm, ⟨72, _⟩ => ⟨S16384x16384, .i32⟩
  | .hbm, ⟨73, _⟩ => ⟨S16384x16384, .i1⟩
  | .hbm, ⟨74, _⟩ => ⟨S_, .i1⟩
  | .hbm, ⟨75, _⟩ => ⟨S16384x16384, .i1⟩
  | .hbm, ⟨76, _⟩ => ⟨S16384x16384, .i1⟩
  | .hbm, ⟨77, _⟩ => ⟨S16384x16384x1x1, .i1⟩
  | .hbm, ⟨78, _⟩ => ⟨S16384x1x4x128, .f32⟩
  | .hbm, ⟨79, _⟩ => ⟨S1x16384x4x128, .f32⟩
  | .hbm, ⟨80, _⟩ => ⟨S16384x16384x4x128, .f32⟩
  | .hbm, ⟨81, _⟩ => ⟨S16384x16384x4x128, .f32⟩
  | .hbm, ⟨82, _⟩ => ⟨S16384x16384x4x128, .f32⟩
  | .hbm, ⟨83, _⟩ => ⟨S_, .f32⟩
  | .hbm, ⟨84, _⟩ => ⟨S_, .f32⟩
  | .hbm, ⟨85, _⟩ => ⟨S16384x16384x4x128, .i1⟩
  | .hbm, ⟨86, _⟩ => ⟨S16384x16384x4x128, .f32⟩
  | .hbm, ⟨87, _⟩ => ⟨S16384x16384x4x128, .f32⟩
  | .hbm, ⟨88, _⟩ => ⟨S16384x16384x4x128, .f32⟩
  | .hbm, ⟨89, _⟩ => ⟨S16384x1x4x128, .f32⟩
  | .hbm, ⟨90, _⟩ => ⟨S1x16384x4x128, .f32⟩
  | .hbm, ⟨91, _⟩ => ⟨S16384x16384x4x128, .f32⟩
  | .hbm, ⟨92, _⟩ => ⟨S16384x16384x4x128, .f32⟩
  | .hbm, ⟨93, _⟩ => ⟨S16384x16384x4x128, .f32⟩
  | .hbm, ⟨94, _⟩ => ⟨S16384x16384x4x128, .f32⟩
  | .hbm, ⟨95, _⟩ => ⟨S_, .f32⟩
  | .hbm, ⟨96, _⟩ => ⟨S16384x16384x4, .f32⟩
  | .hbm, ⟨97, _⟩ => ⟨S4x256x16384, .f32⟩
  | .hbm, ⟨98, _⟩ => ⟨S16384x4x256, .f32⟩
  | .hbm, ⟨99, _⟩ => ⟨S16384x4x256, .f32⟩
  | .hbm, ⟨100, _⟩ => ⟨S16384x4x256, .f32⟩
  | .hbm, ⟨101, _⟩ => ⟨S16384x1024, .f32⟩
  | .hbm, ⟨102, _⟩ => ⟨S4x256x128, .f32⟩
  | _, _ => ⟨S16384x17920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call5_call0_cst : Ref sig .tc := ⟨.hbm, 46, rfl⟩
abbrev main_call5_call0_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c : Ref sig .tc := ⟨.hbm, 66, rfl⟩
abbrev main_v43 : Ref sig .tc := ⟨.hbm, 67, rfl⟩
abbrev main_call6_v0 : Ref sig .tc := ⟨.hbm, 68, rfl⟩
abbrev main_call6_c : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_call6_c_0 : Ref sig .tc := ⟨.hbm, 74, rfl⟩
abbrev main_call6_v5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_1 : Ref sig .tc := ⟨.hbm, 83, rfl⟩
abbrev main_call7_v0 : Ref sig .tc := ⟨.hbm, 84, rfl⟩
abbrev main_call7_v1 : Ref sig .tc := ⟨.hbm, 85, rfl⟩
abbrev main_call7_v2 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_2 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]
-- ==== Proof.FfnIdealFrame.lean ====
/- The frame of the grouped expert network: the launch of its one pipeline under prefetched tables, the body's two
   cases (a block in use, a block past the last one in use), and the run. -/
module

public import proofs.«01_k».proof.Proof.Gen.FfnIdeal.Launch
public import proofs.«01_k».proof.Proof.Gen.FfnIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%7)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
/-- Window 4 (result 0 (%11)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_grouped_ffn (grid0.coords t) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 3 is as launched when the region is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 4 is as launched when the region is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 5 is as launched when the region is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 6 is as launched when the region is entered. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg2
abbrev htbM0_0 : tbM0_0.IsWhole := Memref.isWhole_whole _
abbrev tbM0_1 : Memref sig .tc .smem S1 .i32 := Memref.whole main_arg3
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- This input's current staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- This input's current staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- This input's current staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- This input's current staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's two branch conditions, on the word of the second table -/

/-- The two conditions are comparisons of the block's number with the same word: one is the other's negation. -/
theorem second_iff (i : grid0.Coords) (w : BitVec 32) : k0_cond2 i w = 1#1 ↔ ¬ k0_cond1 i w = 1#1 := by
  unfold k0_cond1 k0_cond2
  simp only [Scalar.cmpi, IntOp.cmpi, Scalar.extui]
  rw [BitVec.sle_eq_not_slt]
  cases (BitVec.ofNat 32 (i 0).val).slt w <;> decide

/-- So at every point one of the two stores happens: the output window is idle nowhere. -/
theorem live0_4 (pf : pre0.Contents (Elt F)) (i : grid0.Coords) : idle0 (F := F) pf 4 i = false := by
  show (!(k0_cond1 i (pf.atD 1 ![0]) == 1#1) && !(k0_cond2 i (pf.atD 1 ![0]) == 1#1)) = false
  by_cases h : k0_cond1 i (pf.atD 1 ![0]) = 1#1
  · simp [h]
  · simp [(second_iff i _).mpr h]

/-! ## The kernel body on any staging memrefs: a subtype the run finds -/

/-- One staging buffer of output window 4, through which its contents are stated (`View.read_writes_of_cover`: the
    choice does not matter). -/
abbrev VO0_4 : View sig .tc .vmem S256x2048 .f32 := (Memref.whole cc0_stg4_0 : Memref sig .tc .vmem S256x2048 .f32).view
/-- Each window's current staging memref at point `t`, spelled as the pipeline passes it (`bodyAt0`), and its wholeness. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2048 .f32 := spec0_4.stage ((cfgM m hO).slots t 4)
abbrev hs0_4 (hO : Ok m) (t : Fin (cfgM m hO).N) : (ms0_4 m hO t).IsWhole := hstage0_4 (((cfgM m hO).slots t 4).cast nbuf0_4)

-- (the run's proof term is large: the definition's epilogue — `abstractNestedProofs` — walks it past the default budget)
set_option maxHeartbeats 1000000 in
/-- What the body leaves in the output's staging memref in case A, as pieces, with the run that finds them. -/
noncomputable def kernelRun0_A (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec F S256x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (hc0 : k0_cond1 i (tbM0_1.view.readAt (Elt F) (Rect.unit (s := S1) ![0] S1.size inb_S1_S1_0).toLoadRect xt1 (Shape.Idx.first (numel1_S1.symm ▸ Nat.one_pos))) = 1#1) :
    { L4 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_grouped_ffn i tbM0_0 htbM0_0 tbM0_1 htbM0_1 arg3 harg3 arg4 harg4 arg5 harg5 arg6 harg6 arg7 harg7) K } := by
  refine ⟨?_, fun E K => ?run⟩
  case run =>
    simp only [cc0_moe_grouped_ffn_eq_skeleton]; unfold cc0_moe_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hc1 := fun h => (second_iff i _).mp h hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

-- (the run's proof term is large: the definition's epilogue — `abstractNestedProofs` — walks it past the default budget)
set_option maxHeartbeats 1000000 in
/-- What the body leaves in the output's staging memref in case B, as pieces, with the run that finds them. -/
noncomputable def kernelRun0_B (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec F S256x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (hc0 : ¬ k0_cond1 i (tbM0_1.view.readAt (Elt F) (Rect.unit (s := S1) ![0] S1.size inb_S1_S1_0).toLoadRect xt1 (Shape.Idx.first (numel1_S1.symm ▸ Nat.one_pos))) = 1#1) :
    { L4 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_grouped_ffn i tbM0_0 htbM0_0 tbM0_1 htbM0_1 arg3 harg3 arg4 harg4 arg5 harg5 arg6 harg6 arg7 harg7) K } := by
  refine ⟨?_, fun E K => ?run⟩
  case run =>
    simp only [cc0_moe_grouped_ffn_eq_skeleton]; unfold cc0_moe_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hc1 := (second_iff i _).mpr hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

/-- Case A's pieces for the output cover its block. -/
theorem cover0_A_4 (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec F S256x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (hc0 : k0_cond1 i (tbM0_1.view.readAt (Elt F) (Rect.unit (s := S1) ![0] S1.size inb_S1_S1_0).toLoadRect xt1 (Shape.Idx.first (numel1_S1.symm ▸ Nat.one_pos))) = 1#1) (y : S256x2048.Idx) :
    ∃ pc ∈ (kernelRun0_A c i arg3 harg3 arg4 harg4 arg5 harg5 arg6 harg6 arg7 harg7 x0 x1 x2 x3 xt0 xt1 hc0).1, y ∈ pc.1.set :=
  View.cover_of_tiledL (kernelRun0_A c i arg3 harg3 arg4 harg4 arg5 harg5 arg6 harg6 arg7 harg7 x0 x1 x2 x3 xt0 xt1 hc0).1 S256x2048.size (by sl_kernel_rfl) y

/-- What case A leaves in output 4's staging buffer: its pieces read back over junk. -/
def out0_A_4 (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec F S256x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (hc0 : k0_cond1 i (tbM0_1.view.readAt (Elt F) (Rect.unit (s := S1) ![0] S1.size inb_S1_S1_0).toLoadRect xt1 (Shape.Idx.first (numel1_S1.symm ▸ Nat.one_pos))) = 1#1) : Vec F S256x2048 .f32 :=
  VO0_4.read (Elt F) (VO0_4.writes (Elt F) VO0_4.junk (kernelRun0_A c i arg3 harg3 arg4 harg4 arg5 harg5 arg6 harg6 arg7 harg7 x0 x1 x2 x3 xt0 xt1 hc0).1)

/-- Case B's pieces for the output cover its block. -/
theorem cover0_B_4 (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec F S256x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (hc0 : ¬ k0_cond1 i (tbM0_1.view.readAt (Elt F) (Rect.unit (s := S1) ![0] S1.size inb_S1_S1_0).toLoadRect xt1 (Shape.Idx.first (numel1_S1.symm ▸ Nat.one_pos))) = 1#1) (y : S256x2048.Idx) :
    ∃ pc ∈ (kernelRun0_B c i arg3 harg3 arg4 harg4 arg5 harg5 arg6 harg6 arg7 harg7 x0 x1 x2 x3 xt0 xt1 hc0).1, y ∈ pc.1.set :=
  View.cover_of_tiledL (kernelRun0_B c i arg3 harg3 arg4 harg4 arg5 harg5 arg6 harg6 arg7 harg7 x0 x1 x2 x3 xt0 xt1 hc0).1 S256x2048.size (by sl_kernel_rfl) y

/-- What case B leaves in output 4's staging buffer: its pieces read back over junk. -/
def out0_B_4 (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec F S256x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (hc0 : ¬ k0_cond1 i (tbM0_1.view.readAt (Elt F) (Rect.unit (s := S1) ![0] S1.size inb_S1_S1_0).toLoadRect xt1 (Shape.Idx.first (numel1_S1.symm ▸ Nat.one_pos))) = 1#1) : Vec F S256x2048 .f32 :=
  VO0_4.read (Elt F) (VO0_4.writes (Elt F) VO0_4.junk (kernelRun0_B c i arg3 harg3 arg4 harg4 arg5 harg5 arg6 harg6 arg7 harg7 x0 x1 x2 x3 xt0 xt1 hc0).1)

/-! ## What the outputs hold after each point -/

/-- What the outputs' staging buffers hold after the body at point `t`: the run's contents at
    the point's memrefs and input blocks, the case its WORD conditions select there. -/
def outsAt0 (hO : Ok m) (c : Dev nD) (t : Fin (cfgM m hO).N) : Vec F S256x2048 .f32 :=
  if h0 : k0_cond1 (grid0.coords t) (tbM0_1.view.readAt (Elt F) (Rect.unit (s := S1) ![0] S1.size inb_S1_S1_0).toLoadRect (tbl m 1) (Shape.Idx.first (numel1_S1.symm ▸ Nat.one_pos))) = 1#1 then
    out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0
  else
    out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0

/-- `outsAt0` at a point of case A: that case's contents. -/
theorem outsAt0_A (hO : Ok m) (c : Dev nD) (t : Fin (cfgM m hO).N) (h0 : k0_cond1 (grid0.coords t) (tbM0_1.view.readAt (Elt F) (Rect.unit (s := S1) ![0] S1.size inb_S1_S1_0).toLoadRect (tbl m 1) (Shape.Idx.first (numel1_S1.symm ▸ Nat.one_pos))) = 1#1) :
    outsAt0 m hO c t = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0 := by
  unfold outsAt0; exact (dif_pos h0).trans rfl

/-- `outsAt0` at a point of case B: that case's contents. -/
theorem outsAt0_B (hO : Ok m) (c : Dev nD) (t : Fin (cfgM m hO).N) (h0 : ¬ k0_cond1 (grid0.coords t) (tbM0_1.view.readAt (Elt F) (Rect.unit (s := S1) ![0] S1.size inb_S1_S1_0).toLoadRect (tbl m 1) (Shape.Idx.first (numel1_S1.symm ▸ Nat.one_pos))) = 1#1) :
    outsAt0 m hO c t = out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0 := by
  unfold outsAt0; exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  by_cases h0 : k0_cond1 (grid0.coords t) (tbM0_1.view.readAt (Elt F) (Rect.unit (s := S1) ![0] S1.size inb_S1_S1_0).toLoadRect (tbl m 1) (Shape.Idx.first (numel1_S1.symm ▸ Nat.one_pos))) = 1#1
  · rw [outsAt0_A m hO c t h0]
    unfold out0_A_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ (iblk m hO c 0 t) (iblk m hO c 1 t) (iblk m hO c 2 t) (iblk m hO c 3 t) (tbl m 0) (tbl m 1) h0).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [outsAt0_B m hO c t h0]
    unfold out0_B_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ (iblk m hO c 0 t) (iblk m hO c 1 t) (iblk m hO c 2 t) (iblk m hO c 3 t) (tbl m 0) (tbl m 1) h0).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No window is idle anywhere. -/
theorem idle_none (hO : Ok m) : (cfgM m hO).idle = fun _ _ => false := by
  funext w i
  show idle0 (F := F) (tbl m) w i = false
  match w with
  | ⟨0, _⟩ => rfl
  | ⟨1, _⟩ => rfl
  | ⟨2, _⟩ => rfl
  | ⟨3, _⟩ => rfl
  | ⟨4, _⟩ => exact live0_4 _ _

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [idle_none m hO]
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame claim, for every contents of the tables that keeps the expert windows inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.FfnIdeal.Hand

end
-- ==== Proof.FfnTables.lean ====
/- What the precondition of the routed experts' call gives: every expert number named by the block table is below 32, so
   each of the three weight windows has its block inside its array at every point, ending on whole words. -/
module

public import proofs.«01_k».proof.Defs
public import proofs.«01_k».proof.Proof.FfnFrame
public import proofs.«01_k».proof.Proof.FfnIdealFrame
public import proofs.«01_k».proof.Proof.Gen.Pre_experts_in_range
public import Idealize.ShloMosaic.Lib.PairWhole

@[expose] public section

noncomputable section

namespace Cert.Proof.Ffn

open Idealize.ShloMosaic Idealize.ShloMosaic.TcCoe

/-- The precondition at one block: its expert is one of the 32. -/
theorem expert_lt {F : FTy → Type} [FloatOps F] (a0 : FVec F Pre_experts_in_range.S16384x2048 .f32) (a1 : IVec Pre_experts_in_range.S40960 32)
    (a2 : IVec Pre_experts_in_range.S160 32) (a3 : IVec Pre_experts_in_range.S1 32) (a4 a5 : FVec F Pre_experts_in_range.S32x2048x512 .f32)
    (a6 : FVec F Pre_experts_in_range.S32x512x2048 .f32)
    (h : Pre_experts_in_range.fn a0 a1 a2 a3 a4 a5 a6 = fun _ => 1#1) (y : Pre_experts_in_range.S160.Idx) : (a2 y).toNat < 32 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  have e := congrFun h y
  simp only [Pre_experts_in_range.fn, andi, cmpi, broadcastInDim, constantI, IntOp.cmpi, both, one, Bool.and_eq_true] at e
  obtain ⟨hge, hlt⟩ := e
  simp only [BitVec.sle, BitVec.slt, decide_eq_true_eq, BitVec.toInt, BitVec.toNat_ofNat] at hge hlt
  omega

/-- The weight windows of the kernel at machine values are in range when the table's words are. -/
theorem ok_bits (m : (ℓ : Loc Cert.Ffn.nD Cert.Ffn.τ Cert.Ffn.sig) → Buf (Elt Bits) ℓ) (h : Cert.Pre_Ffn m) : Cert.Ffn.Hand.Ok m := by
  have hb : ∀ y, (Cert.Ffn.Hand.tbl m 0 y).toNat < 32 := fun y => by
    rw [show Cert.Ffn.Hand.tbl m 0 = _ from Cert.Ffn.Hand.V_main_arg2 m 0]
    exact expert_lt _ _ _ _ _ _ _ (h 0) y
  refine ⟨fun i => ⟨fun a => ?_, .inr (.inl ?_)⟩, fun i => ⟨fun a => ?_, .inr (.inl ?_)⟩, fun i => ⟨fun a => ?_, .inr (.inl ?_)⟩⟩
  · match a with
    | ⟨0, _⟩ => exact (Nat.mul_one _).trans_le (hb _)
    | ⟨1, _⟩ => show (0 + 1) * 2048 ≤ 2048; omega
    | ⟨2, _⟩ => show (0 + 1) * 512 ≤ 512; omega
  · exact Rect.packedRows_of_rowAxis_zero _ _ 1024 (by decide) rfl rfl rfl
  · match a with
    | ⟨0, _⟩ => exact (Nat.mul_one _).trans_le (hb _)
    | ⟨1, _⟩ => show (0 + 1) * 2048 ≤ 2048; omega
    | ⟨2, _⟩ => show (0 + 1) * 512 ≤ 512; omega
  · exact Rect.packedRows_of_rowAxis_zero _ _ 1024 (by decide) rfl rfl rfl
  · match a with
    | ⟨0, _⟩ => exact (Nat.mul_one _).trans_le (hb _)
    | ⟨1, _⟩ => show (0 + 1) * 512 ≤ 512; omega
    | ⟨2, _⟩ => show (0 + 1) * 2048 ≤ 2048; omega
  · exact Rect.packedRows_of_rowAxis_zero _ _ 256 (by decide) rfl rfl rfl

/-- The weight windows of the kernel at ideal values are in range when the table's words are. -/
theorem ok_ideal (m : (ℓ : Loc Cert.FfnIdeal.nD Cert.FfnIdeal.τ Cert.FfnIdeal.sig) → Buf (Elt Ideal) ℓ) (h : Cert.Pre_FfnIdeal m) : Cert.FfnIdeal.Hand.Ok m := by
  have hb : ∀ y, (Cert.FfnIdeal.Hand.tbl m 0 y).toNat < 32 := fun y => by
    rw [show Cert.FfnIdeal.Hand.tbl m 0 = _ from Cert.FfnIdeal.Hand.V_main_arg2 m 0]
    exact expert_lt _ _ _ _ _ _ _ (h 0) y
  refine ⟨fun i => ⟨fun a => ?_, .inr (.inl ?_)⟩, fun i => ⟨fun a => ?_, .inr (.inl ?_)⟩, fun i => ⟨fun a => ?_, .inr (.inl ?_)⟩⟩
  · match a with
    | ⟨0, _⟩ => exact (Nat.mul_one _).trans_le (hb _)
    | ⟨1, _⟩ => show (0 + 1) * 2048 ≤ 2048; omega
    | ⟨2, _⟩ => show (0 + 1) * 512 ≤ 512; omega
  · exact Rect.packedRows_of_rowAxis_zero _ _ 1024 (by decide) rfl rfl rfl
  · match a with
    | ⟨0, _⟩ => exact (Nat.mul_one _).trans_le (hb _)
    | ⟨1, _⟩ => show (0 + 1) * 2048 ≤ 2048; omega
    | ⟨2, _⟩ => show (0 + 1) * 512 ≤ 512; omega
  · exact Rect.packedRows_of_rowAxis_zero _ _ 1024 (by decide) rfl rfl rfl
  · match a with
    | ⟨0, _⟩ => exact (Nat.mul_one _).trans_le (hb _)
    | ⟨1, _⟩ => show (0 + 1) * 512 ≤ 512; omega
    | ⟨2, _⟩ => show (0 + 1) * 2048 ≤ 2048; omega
  · exact Rect.packedRows_of_rowAxis_zero _ _ 256 (by decide) rfl rfl rfl

end Cert.Proof.Ffn

end
-- ==== Proof.Mat.lean ====
/- Products of two matrices over the extended reals, read at an index: the sum over the shared axis. -/
module

public import Idealize.ShloMosaic.Lib.ValueIdxCore
public import Idealize.ShloMosaic.PureOps.Ideal.Laws
public import Idealize.ShloMosaic.Lib.Pipeline.Value

@[expose] public section

set_option maxRecDepth 16384

noncomputable section

namespace Cert.Proof.Mat

open Idealize.ShloMosaic Idealize.ShloMosaic.ValueIdx

/-- Rows times columns: the left operand's second axis against the right operand's first. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The product's sum runs over one coordinate. -/
theorem sum_eq {M K N : Nat} (wf : DotDims.WF ⟨2, ![M, K]⟩ ⟨2, ![K, N]⟩ ⟨2, ![M, N]⟩ [1] [0] [0] [1] [] [])
    (f : (⟨2, ![M, K]⟩ : Shape).Idx → EReal) (g : (⟨2, ![K, N]⟩ : Shape).Idx → EReal) (i : (⟨2, ![M, N]⟩ : Shape).Idx) :
    ∑ q : (dims M K N wf).contr.Idx, f ((dims M K N wf).lhsIdx i q) * g ((dims M K N wf).rhsIdx i q)
      = ∑ k : Fin K, f (ix2 (i 0) k) * g (ix2 k (i 1)) := by
  rw [← Equiv.sum_comp (contrEquiv1 (dims M K N wf) K rfl rfl).symm]
  refine Finset.sum_congr rfl fun k _ => ?_
  have hk := contrEquiv1_symm_val (dims M K N wf) K rfl rfl k
  generalize (contrEquiv1 (dims M K N wf) K rfl rfl).symm k = q at hk
  have el : (dims M K N wf).lhsIdx i q = ix2 (i 0) k := funext fun a => Fin.ext (by
    match a with
    | ⟨0, _⟩ =>
      show ((dims M K N wf).lhsIdx i q 0).val = _
      unfold DotDims.lhsIdx
      rw [dif_neg (show ¬ (0 : Fin 2) ∈ (dims M K N wf).lhsBatch by simp),
        dif_pos (show (0 : Fin 2) ∈ (dims M K N wf).lhsNonContracting by simp)]
      rfl
    | ⟨1, _⟩ => exact ((dims M K N wf).lhsIdx_val_of_single rfl i q).trans hk)
  have er : (dims M K N wf).rhsIdx i q = ix2 k (i 1) := funext fun a => Fin.ext (by
    match a with
    | ⟨0, _⟩ => exact ((dims M K N wf).rhsIdx_val_of_single rfl i q).trans hk
    | ⟨1, _⟩ =>
      show ((dims M K N wf).rhsIdx i q 1).val = _
      unfold DotDims.rhsIdx
      rw [dif_neg (show ¬ (1 : Fin 2) ∈ (dims M K N wf).rhsBatch by simp),
        dif_pos (show (1 : Fin 2) ∈ (dims M K N wf).rhsNonContracting by simp)]
      rfl)
  rw [el, er]
  rfl

/-- The kernel's product into zeros. -/
theorem matmul_apply {M K N : Nat} {φ₁ φ₂ : FTy} (wf : DotDims.WF ⟨2, ![M, K]⟩ ⟨2, ![K, N]⟩ ⟨2, ![M, N]⟩ [1] [0] [0] [1] [] [])
    (f : FVec Ideal ⟨2, ![M, K]⟩ φ₁) (g : FVec Ideal ⟨2, ![K, N]⟩ φ₂) (i : (⟨2, ![M, N]⟩ : Shape).Idx) :
    matmul (F := Ideal) (dims M K N wf) none f g (constant ⟨2, ![M, N]⟩ .f32 0x00000000#32) i
      = ∑ k : Fin K, f (ix2 (i 0) k) * g (ix2 k (i 1)) :=
  (Ideal.matmul_constant_zero_apply (dims M K N wf) none f g i).trans (sum_eq wf f g i)

/-- The host's product. -/
theorem dot_apply {M K N : Nat} {φ₁ φ₂ : FTy} (wf : DotDims.WF ⟨2, ![M, K]⟩ ⟨2, ![K, N]⟩ ⟨2, ![M, N]⟩ [1] [0] [0] [1] [] [])
    (f : FVec Ideal ⟨2, ![M, K]⟩ φ₁) (g : FVec Ideal ⟨2, ![K, N]⟩ φ₂) (i : (⟨2, ![M, N]⟩ : Shape).Idx) :
    Host.dotGeneral (F := Ideal) (dims M K N wf) none f g i = ∑ k : Fin K, f (ix2 (i 0) k) * g (ix2 k (i 1)) := by
  simp only [Host.dotGeneral]
  rw [Ideal.dotGeneral_apply]
  exact sum_eq wf f g i

/-- The bf16 zero pattern reads zero. -/
theorem zero_bf16 : Ideal.ofBits .bf16 0x0000#16 = 0 := by simp [Ideal.ofBits, Ideal.ieee]

/-! ## Three pieces joined along the columns -/

section Join
variable {α : Type} {R p q r n : Nat} (x : (⟨2, ![R, p]⟩ : Shape).Idx → α) (y : (⟨2, ![R, q]⟩ : Shape).Idx → α) (z : (⟨2, ![R, r]⟩ : Shape).Idx → α)
  (h : Shape.Concatenates [⟨2, ![R, p]⟩, ⟨2, ![R, q]⟩, ⟨2, ![R, r]⟩] ⟨2, ![R, n]⟩ 1) (i : Fin R) (j : Fin n)

theorem join_left (k : Fin p) (hk : k.val = j.val) :
    concatenate ⟨2, ![R, n]⟩ 1 [⟨_, x⟩, ⟨_, y⟩, ⟨_, z⟩] h (ix2 i j) = x (ix2 i k) :=
  concatenate_apply_piece (t := ⟨2, ![R, n]⟩) 1 [⟨_, x⟩, ⟨_, y⟩, ⟨_, z⟩] h (ix2 i j) 0 (by simp) _ x rfl rfl 0 rfl (ix2 i k)
    (fun b hb => match b with | ⟨0, _⟩ => rfl | ⟨1, _⟩ => absurd rfl hb) ((Nat.zero_add _).trans hk)

theorem join_mid (k : Fin q) (hk : p + k.val = j.val) :
    concatenate ⟨2, ![R, n]⟩ 1 [⟨_, x⟩, ⟨_, y⟩, ⟨_, z⟩] h (ix2 i j) = y (ix2 i k) :=
  concatenate_apply_piece (t := ⟨2, ![R, n]⟩) 1 [⟨_, x⟩, ⟨_, y⟩, ⟨_, z⟩] h (ix2 i j) 1 (by simp) _ y rfl rfl p rfl (ix2 i k)
    (fun b hb => match b with | ⟨0, _⟩ => rfl | ⟨1, _⟩ => absurd rfl hb) hk

theorem join_right (k : Fin r) (hk : p + q + k.val = j.val) :
    concatenate ⟨2, ![R, n]⟩ 1 [⟨_, x⟩, ⟨_, y⟩, ⟨_, z⟩] h (ix2 i j) = z (ix2 i k) :=
  concatenate_apply_piece (t := ⟨2, ![R, n]⟩) 1 [⟨_, x⟩, ⟨_, y⟩, ⟨_, z⟩] h (ix2 i j) 2 (by simp) _ z rfl rfl (p + q) rfl (ix2 i k)
    (fun b hb => match b with | ⟨0, _⟩ => rfl | ⟨1, _⟩ => absurd rfl hb) hk

end Join

section JoinRow
variable {α : Type} {p q r n : Nat} (x : (⟨1, ![p]⟩ : Shape).Idx → α) (y : (⟨1, ![q]⟩ : Shape).Idx → α) (z : (⟨1, ![r]⟩ : Shape).Idx → α)
  (h : Shape.Concatenates [⟨1, ![p]⟩, ⟨1, ![q]⟩, ⟨1, ![r]⟩] ⟨1, ![n]⟩ 0) (j : Fin n)

theorem join1_left (k : Fin p) (hk : k.val = j.val) :
    concatenate ⟨1, ![n]⟩ 0 [⟨_, x⟩, ⟨_, y⟩, ⟨_, z⟩] h (ix1 j) = x (ix1 k) :=
  concatenate_apply_piece (t := ⟨1, ![n]⟩) 0 [⟨_, x⟩, ⟨_, y⟩, ⟨_, z⟩] h (ix1 j) 0 (by simp) _ x rfl rfl 0 rfl (ix1 k)
    (fun b hb => match b with | ⟨0, _⟩ => absurd rfl hb) ((Nat.zero_add _).trans hk)

theorem join1_mid (k : Fin q) (hk : p + k.val = j.val) :
    concatenate ⟨1, ![n]⟩ 0 [⟨_, x⟩, ⟨_, y⟩, ⟨_, z⟩] h (ix1 j) = y (ix1 k) :=
  concatenate_apply_piece (t := ⟨1, ![n]⟩) 0 [⟨_, x⟩, ⟨_, y⟩, ⟨_, z⟩] h (ix1 j) 1 (by simp) _ y rfl rfl p rfl (ix1 k)
    (fun b hb => match b with | ⟨0, _⟩ => absurd rfl hb) hk

theorem join1_right (k : Fin r) (hk : p + q + k.val = j.val) :
    concatenate ⟨1, ![n]⟩ 0 [⟨_, x⟩, ⟨_, y⟩, ⟨_, z⟩] h (ix1 j) = z (ix1 k) :=
  concatenate_apply_piece (t := ⟨1, ![n]⟩) 0 [⟨_, x⟩, ⟨_, y⟩, ⟨_, z⟩] h (ix1 j) 2 (by simp) _ z rfl rfl (p + q) rfl (ix1 k)
    (fun b hb => match b with | ⟨0, _⟩ => absurd rfl hb) hk

end JoinRow

/-- A column range of a matrix at an index. -/
theorem cols_apply {α : Type} {R n p : Nat} (o : Nat) (x : (⟨2, ![R, n]⟩ : Shape).Idx → α) (h : (⟨2, ![R, n]⟩ : Shape).Slices ![0, o] ⟨2, ![R, p]⟩)
    (i : Fin R) (j : Fin p) (k : Fin n) (hk : k.val = o + j.val) :
    extractStridedSlice ⟨2, ![R, p]⟩ ![0, o] x h (ix2 i j) = x (ix2 i k) :=
  extractStridedSlice_apply ![0, o] x h (ix2 i j) (ix2 i k) (fun a => match a with
    | ⟨0, _⟩ => (Nat.zero_add _).symm
    | ⟨1, _⟩ => hk)

theorem cols1_apply {α : Type} {n p : Nat} (o : Nat) (x : (⟨1, ![n]⟩ : Shape).Idx → α) (h : (⟨1, ![n]⟩ : Shape).Slices ![o] ⟨1, ![p]⟩)
    (j : Fin p) (k : Fin n) (hk : k.val = o + j.val) :
    extractStridedSlice ⟨1, ![p]⟩ ![o] x h (ix1 j) = x (ix1 k) :=
  extractStridedSlice_apply ![o] x h (ix1 j) (ix1 k) (fun a => match a with
    | ⟨0, _⟩ => hk)

/-- A vector as a one-row matrix. -/
theorem row_apply {α : Type} {n : Nat} (x : (⟨1, ![n]⟩ : Shape).Idx → α) (h : (⟨1, ![n]⟩ : Shape).ShapeCasts ⟨2, ![1, n]⟩) (j : Fin n) :
    shapeCast ⟨2, ![1, n]⟩ x h (ix2 (⟨0, Nat.one_pos⟩ : Fin 1) j) = x (ix1 j) :=
  shapeCast_apply x h _ (ix1 j) (by rw [Shape.rowMajor_val_one, Shape.rowMajor_val_two]; show j.val = 0 * n + j.val; omega)

end Cert.Proof.Mat

end
-- ==== Proof.Take.lean ====
/- Picking rows of a matrix, or one matrix of a stack, by integer indices: the picked array read at an index. -/
module

public import Idealize.ShloMosaic.Lib.ValueIdxCore
public import Idealize.ShloMosaic.Lib.Pipeline.Value

@[expose] public section

noncomputable section

namespace Cert.Proof.Take

open Idealize.ShloMosaic Idealize.ShloMosaic.ValueIdx

variable {α : Type}

/-- Rows of a matrix, one per entry of a column of indices. -/
abbrev rows (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem rows_apply {N C R : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (r : Fin R) (k : Fin C) :
    Host.gather (rows N C R wf) x idx (ix2 r k)
      = x (ix2 (⟨min (idx (ix2 r (⟨0, Nat.one_pos⟩ : Fin 1))).toInt.toNat (N - 1), by omega⟩ : Fin N) k) := by
  unfold Host.gather
  refine congrArg x (funext fun a => Fin.ext ?_)
  show (rows N C R wf).start (ix2 r k) idx a + (rows N C R wf).batchCoord (ix2 r k) a + (rows N C R wf).offCoord (ix2 r k) a = _
  rw [GatherDims.batchCoord_eq_zero _ _ _ List.not_mem_nil]
  have h01 : a = (0 : Fin 2) ∨ a = (1 : Fin 2) := match a with
    | ⟨0, _⟩ => .inl rfl
    | ⟨1, _⟩ => .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rows N C R wf).startIndexMap from List.mem_singleton.mpr rfl)]
    have e : (rows N C R wf).siIdx (ix2 r k) ⟨List.idxOf (0 : Fin 2) (rows N C R wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    exact congrArg (fun q => min (idx q).toInt.toNat (N - 1)) e
  · unfold GatherDims.start
    rw [dif_neg (show ¬ (1 : Fin 2) ∈ [(0 : Fin 2)] by decide)]
    show 0 + 0 + k.val = k.val
    omega

/-- Rows of a matrix, in blocks: one per entry of a matrix of indices. -/
abbrev blocks (N C A B : Nat) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

theorem blocks_apply {N C A B : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (t : Fin A) (b : Fin B) (k : Fin C) :
    Host.gather (blocks N C A B wf) x idx (ix3 t b k)
      = x (ix2 (⟨min (idx (ix3 t b (⟨0, Nat.one_pos⟩ : Fin 1))).toInt.toNat (N - 1), by omega⟩ : Fin N) k) := by
  unfold Host.gather
  refine congrArg x (funext fun a => Fin.ext ?_)
  show (blocks N C A B wf).start (ix3 t b k) idx a + (blocks N C A B wf).batchCoord (ix3 t b k) a + (blocks N C A B wf).offCoord (ix3 t b k) a = _
  rw [GatherDims.batchCoord_eq_zero _ _ _ List.not_mem_nil]
  have h01 : a = (0 : Fin 2) ∨ a = (1 : Fin 2) := match a with
    | ⟨0, _⟩ => .inl rfl
    | ⟨1, _⟩ => .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (blocks N C A B wf).startIndexMap from List.mem_singleton.mpr rfl)]
    have e : (blocks N C A B wf).siIdx (ix3 t b k) ⟨List.idxOf (0 : Fin 2) (blocks N C A B wf).startIndexMap,
        List.idxOf_lt_length_iff.2 (List.mem_singleton.mpr rfl)⟩ = ix3 t b (⟨0, Nat.one_pos⟩ : Fin 1) := by
      funext q; refine Fin.ext ?_
      match q with
      | ⟨0, _⟩ => rfl
      | ⟨1, _⟩ => rfl
      | ⟨2, _⟩ => rfl
    exact congrArg (fun q => min (idx q).toInt.toNat (N - 1)) e
  · unfold GatherDims.start
    rw [dif_neg (show ¬ (1 : Fin 2) ∈ [(0 : Fin 2)] by decide)]
    show 0 + 0 + k.val = k.val
    omega

/-- One matrix of a stack, per row of a table of three offsets. -/
abbrev pick (E K N T : Nat) (wf : GatherDims.WF ⟨3, ![E, K, N]⟩ ⟨2, ![T, 3]⟩ ⟨4, ![T, 1, K, N]⟩ [1, 2, 3] [] [] [0, 1, 2] [] 1 ![1, K, N]) :
    GatherDims ⟨3, ![E, K, N]⟩ ⟨2, ![T, 3]⟩ ⟨4, ![T, 1, K, N]⟩ where
  offsetDims := [1, 2, 3]
  collapsedSliceDims := []
  operandBatchingDims := []
  startIndicesBatchingDims := []
  startIndexMap := [0, 1, 2]
  indexVectorDim := 1
  sliceSizes := ![1, K, N]
  wf := wf

/-- With the offsets of a row `(e, _, _)`, `e` in range, the picked matrix is the `e`th: the other two offsets are clamped to zero. -/
theorem pick_apply {E K N T : Nat}
    (wf : GatherDims.WF ⟨3, ![E, K, N]⟩ ⟨2, ![T, 3]⟩ ⟨4, ![T, 1, K, N]⟩ [1, 2, 3] [] [] [0, 1, 2] [] 1 ![1, K, N])
    (x : (⟨3, ![E, K, N]⟩ : Shape).Idx → α) (idx : IVec ⟨2, ![T, 3]⟩ 32) (t : Fin T) (k : Fin K) (n : Fin N) (e : Fin E)
    (he : (idx (ix2 t (⟨0, by omega⟩ : Fin 3))).toInt.toNat = e.val) :
    Host.gather (pick E K N T wf) x idx (ix4 t (⟨0, Nat.one_pos⟩ : Fin 1) k n) = x (ix3 e k n) := by
  unfold Host.gather
  refine congrArg x (funext fun a => Fin.ext ?_)
  show (pick E K N T wf).start (ix4 t _ k n) idx a + (pick E K N T wf).batchCoord (ix4 t _ k n) a + (pick E K N T wf).offCoord (ix4 t _ k n) a = _
  rw [GatherDims.batchCoord_eq_zero _ _ _ List.not_mem_nil]
  have hE := e.isLt
  have h012 : a = (0 : Fin 3) ∨ a = (1 : Fin 3) ∨ a = (2 : Fin 3) := match a with
    | ⟨0, _⟩ => .inl rfl
    | ⟨1, _⟩ => .inr (.inl rfl)
    | ⟨2, _⟩ => .inr (.inr rfl)
  rcases h012 with rfl | rfl | rfl
  · unfold GatherDims.start
    rw [dif_pos (show (0 : Fin 3) ∈ (pick E K N T wf).startIndexMap from List.mem_cons_self)]
    have q : (pick E K N T wf).siIdx (ix4 t (⟨0, Nat.one_pos⟩ : Fin 1) k n) ⟨List.idxOf (0 : Fin 3) (pick E K N T wf).startIndexMap,
        List.idxOf_lt_length_iff.2 List.mem_cons_self⟩ = ix2 t (⟨0, by omega⟩ : Fin 3) := by
      funext b; refine Fin.ext ?_
      match b with
      | ⟨0, _⟩ => rfl
      | ⟨1, _⟩ => rfl
    have h0 := congrArg (fun q => min (idx q).toInt.toNat (E - 1)) q
    refine (congrArg (· + 0 + 0) h0).trans ?_
    show min (idx _).toInt.toNat (E - 1) + 0 + 0 = e.val
    rw [he]; omega
  · have h := (pick E K N T wf).start_le (ix4 t (⟨0, Nat.one_pos⟩ : Fin 1) k n) idx 1
    have h' : (pick E K N T wf).start (ix4 t (⟨0, Nat.one_pos⟩ : Fin 1) k n) idx 1 ≤ K - K := h
    have h0 : (pick E K N T wf).start (ix4 t (⟨0, Nat.one_pos⟩ : Fin 1) k n) idx 1 = 0 := by omega
    exact (congrArg (· + 0 + k.val) h0).trans (by show 0 + 0 + k.val = k.val; omega)
  · have h := (pick E K N T wf).start_le (ix4 t (⟨0, Nat.one_pos⟩ : Fin 1) k n) idx 2
    have h' : (pick E K N T wf).start (ix4 t (⟨0, Nat.one_pos⟩ : Fin 1) k n) idx 2 ≤ N - N := h
    have h0 : (pick E K N T wf).start (ix4 t (⟨0, Nat.one_pos⟩ : Fin 1) k n) idx 2 = 0 := by omega
    exact (congrArg (· + 0 + n.val) h0).trans (by show 0 + 0 + n.val = n.val; omega)

end Cert.Proof.Take

end
-- ==== Proof.FfnRef.lean ====
/- The value of the reference of the routed experts' call, at an index: the row's token, wrapped and kept in range, through
   its block's expert. -/
module

public import proofs.«01_k».proof.Defs
public import proofs.«01_k».proof.Proof.Mat
public import proofs.«01_k».proof.Proof.Take
public import proofs.«01_k».proof.Proof.Gen.FfnRefIdeal.Run
public import proofs.«01_k».proof.Proof.Gen.FfnRefIdeal.Read
public import Idealize.ShloMosaic.Lib.Pipeline.Value
public import Idealize.ShloMosaic.Lib.ValueIdx
public import Idealize.ShloMosaic.Lib.IdealHost

@[expose] public section

set_option maxRecDepth 16384

noncomputable section

namespace Cert.Proof.Ffn

open Idealize.ShloMosaic Idealize.ShloMosaic.ValueIdx

/-- The row of the activations that a token number names: counted from the end when negative, kept in range. -/
def wrap (w : BitVec 32) : BitVec 32 := Scalar.select (IntOp.cmpi .slt w 0#32) (IntOp.addi w 16384#32) w
def row (w : BitVec 32) : Fin 16384 := ⟨min (wrap w).toInt.toNat (16384 - 1), by omega⟩

/-- A matrix of the activations, a stack of up- or gate-projections, a stack of down-projections. -/
abbrev Act : Type := (⟨2, ![16384, 2048]⟩ : Shape).Idx → EReal
abbrev Up : Type := (⟨3, ![32, 2048, 512]⟩ : Shape).Idx → EReal
abbrev Down : Type := (⟨3, ![32, 512, 2048]⟩ : Shape).Idx → EReal

/-- One hidden unit of expert `e` on row `s`. -/
def lin (x : Act) (w : Up) (e : Fin 32) (s : Fin 16384) (j : Fin 512) : EReal := ∑ k : Fin 2048, x (ix2 s k) * w (ix3 e k j)
def hid (x : Act) (wg wu : Up) (e : Fin 32) (s : Fin 16384) (j : Fin 512) : EReal :=
  lin x wg e s j * Ideal.logistic (lin x wg e s j) * lin x wu e s j
/-- The expert's output on that row. -/
def ffn (x : Act) (wg wu : Up) (wd : Down) (e : Fin 32) (s : Fin 16384) (d : Fin 2048) : EReal :=
  ∑ j : Fin 512, hid x wg wu e s j * wd (ix3 e j d)

/-- An expert number in range is not wrapped. -/
theorem wrap_expert (w : BitVec 32) (h : w.toNat < 32) :
    (Scalar.select (IntOp.cmpi .slt w 0#32) (IntOp.addi w 32#32) w).toInt.toNat = w.toNat := by
  have h1 : w.toInt = w.toNat := by simp only [BitVec.toInt]; omega
  have h2 : IntOp.cmpi .slt w 0#32 = 0#1 := by
    have : w.slt 0#32 = false := by
      simp only [BitVec.slt, decide_eq_false_iff_not, h1]
      show ¬ ((w.toNat : Int) < 0)
      omega
    simp only [IntOp.cmpi, this]; rfl
  rw [h2]
  show w.toInt.toNat = w.toNat
  rw [h1]; rfl

open Cert.FfnRefIdeal Cert.FfnRefIdeal.Read

variable (x0 : Act) (x1 : IVec S40960 32) (x2 : IVec S160 32) (x3 : IVec S1 32) (x4 x5 : Up) (x6 : Down)

/-- The gathered activations. -/
theorem xg_apply (t : Fin 160) (b : Fin 256) (k : Fin 2048) :
    val_main_v7 (F := Ideal) x0 x1 (ix3 t b k)
      = x0 (ix2 (row (x1 (ix1 (⟨t.val * 256 + b.val, by omega⟩ : Fin 40960)))) k) := by
  unfold val_main_v7
  refine (Take.blocks_apply (N := 16384) (C := 2048) (A := 160) (B := 256) (by omega)
    gather_S16384x2048_S160x256x1_S160x256x2048_2_0_n_n_0_2_12048.wf x0 _ t b k).trans ?_
  have e : val_main_v6 (F := Ideal) x1 (ix3 t b (⟨0, Nat.one_pos⟩ : Fin 1)) = wrap (x1 (ix1 (⟨t.val * 256 + b.val, by omega⟩ : Fin 40960))) := by
    rw [val_main_v6_apply, val_main_v5_apply, val_main_v2_apply, val_main_v4_apply, val_main_v0_apply, val_main_v1_apply, val_main_v3_apply]
    have : idx_main_v0 (idx_main_v6 (ix3 t b (⟨0, Nat.one_pos⟩ : Fin 1))) = ix1 (⟨t.val * 256 + b.val, by omega⟩ : Fin 40960) :=
      funext fun a => match a with | ⟨0, _⟩ => rfl
    rw [this]
    rfl
  refine congrArg x0 ?_
  unfold row
  refine congrArg (fun q : Fin 16384 => ix2 q k) (Fin.ext ?_)
  exact congrArg (fun w : BitVec 32 => min w.toInt.toNat (16384 - 1)) e

section Experts
variable (t : Fin 160) (e : Fin 32) (he : (x2 (ix1 t)).toNat = e.val)

/-- The three picks of a block's expert. -/
theorem gate_apply (he : (x2 (ix1 t)).toNat = e.val) (k : Fin 2048) (j : Fin 512) : val_main_v24 (F := Ideal) x2 x4 (ix3 t k j) = x4 (ix3 e k j) := by
  rw [val_main_v24_apply]
  have hi : idx_main_v24 (ix3 t k j) = ix4 t (⟨0, Nat.one_pos⟩ : Fin 1) k j := funext fun a => Fin.ext (by
    have := t.isLt; have := k.isLt; have := j.isLt
    match a with
    | ⟨0, _⟩ => show ((t.val * 2048 + k.val) * 512 + j.val) / 1048576 = t.val; omega
    | ⟨1, _⟩ => rfl
    | ⟨2, _⟩ => show ((t.val * 2048 + k.val) * 512 + j.val) / 512 % 2048 = k.val; omega
    | ⟨3, _⟩ => show ((t.val * 2048 + k.val) * 512 + j.val) % 512 = j.val; omega)
  rw [hi]
  unfold val_main_v23
  refine Take.pick_apply (E := 32) (K := 2048) (N := 512) (T := 160)
    gather_S32x2048x512_S160x3_S160x1x2048x512_123_n_n_n_012_1_12048512.wf x4 _ t k j e ?_
  unfold val_main_v22
  rw [Mat.join_left _ _ _ _ t (⟨0, by omega⟩ : Fin 3) (⟨0, Nat.one_pos⟩ : Fin 1) rfl, val_main_v19_apply, val_main_v12_apply,
    val_main_v9_apply, val_main_v11_apply, val_main_v8_apply, val_main_v10_apply]
  have ht : idx_main_v19 (ix2 t (⟨0, Nat.one_pos⟩ : Fin 1)) = ix1 t := funext fun a => match a with | ⟨0, _⟩ => rfl
  rw [ht]
  exact (wrap_expert (x2 (ix1 t)) (he ▸ e.isLt)).trans he

theorem up_apply (he : (x2 (ix1 t)).toNat = e.val) (k : Fin 2048) (j : Fin 512) : val_main_v43 (F := Ideal) x2 x5 (ix3 t k j) = x5 (ix3 e k j) := by
  rw [val_main_v43_apply]
  have hi : idx_main_v43 (ix3 t k j) = ix4 t (⟨0, Nat.one_pos⟩ : Fin 1) k j := funext fun a => Fin.ext (by
    have := t.isLt; have := k.isLt; have := j.isLt
    match a with
    | ⟨0, _⟩ => show ((t.val * 2048 + k.val) * 512 + j.val) / 1048576 = t.val; omega
    | ⟨1, _⟩ => rfl
    | ⟨2, _⟩ => show ((t.val * 2048 + k.val) * 512 + j.val) / 512 % 2048 = k.val; omega
    | ⟨3, _⟩ => show ((t.val * 2048 + k.val) * 512 + j.val) % 512 = j.val; omega)
  rw [hi]
  unfold val_main_v42
  refine Take.pick_apply (E := 32) (K := 2048) (N := 512) (T := 160)
    gather_S32x2048x512_S160x3_S160x1x2048x512_123_n_n_n_012_1_12048512.wf x5 _ t k j e ?_
  unfold val_main_v41
  rw [Mat.join_left _ _ _ _ t (⟨0, by omega⟩ : Fin 3) (⟨0, Nat.one_pos⟩ : Fin 1) rfl, val_main_v38_apply, val_main_v31_apply,
    val_main_v28_apply, val_main_v30_apply, val_main_v27_apply, val_main_v29_apply]
  have ht : idx_main_v38 (ix2 t (⟨0, Nat.one_pos⟩ : Fin 1)) = ix1 t := funext fun a => match a with | ⟨0, _⟩ => rfl
  rw [ht]
  exact (wrap_expert (x2 (ix1 t)) (he ▸ e.isLt)).trans he

theorem down_apply (he : (x2 (ix1 t)).toNat = e.val) (j : Fin 512) (d : Fin 2048) : val_main_v62 (F := Ideal) x2 x6 (ix3 t j d) = x6 (ix3 e j d) := by
  rw [val_main_v62_apply]
  have hi : idx_main_v62 (ix3 t j d) = ix4 t (⟨0, Nat.one_pos⟩ : Fin 1) j d := funext fun a => Fin.ext (by
    have := t.isLt; have := j.isLt; have := d.isLt
    match a with
    | ⟨0, _⟩ => show ((t.val * 512 + j.val) * 2048 + d.val) / 1048576 = t.val; omega
    | ⟨1, _⟩ => rfl
    | ⟨2, _⟩ => show ((t.val * 512 + j.val) * 2048 + d.val) / 2048 % 512 = j.val; omega
    | ⟨3, _⟩ => show ((t.val * 512 + j.val) * 2048 + d.val) % 2048 = d.val; omega)
  rw [hi]
  unfold val_main_v61
  refine Take.pick_apply (E := 32) (K := 512) (N := 2048) (T := 160)
    gather_S32x512x2048_S160x3_S160x1x512x2048_123_n_n_n_012_1_15122048.wf x6 _ t j d e ?_
  unfold val_main_v60
  rw [Mat.join_left _ _ _ _ t (⟨0, by omega⟩ : Fin 3) (⟨0, Nat.one_pos⟩ : Fin 1) rfl, val_main_v57_apply, val_main_v50_apply,
    val_main_v47_apply, val_main_v49_apply, val_main_v46_apply, val_main_v48_apply]
  have ht : idx_main_v57 (ix2 t (⟨0, Nat.one_pos⟩ : Fin 1)) = ix1 t := funext fun a => match a with | ⟨0, _⟩ => rfl
  rw [ht]
  exact (wrap_expert (x2 (ix1 t)) (he ▸ e.isLt)).trans he

/-- The two hidden products. -/
theorem gates_apply (he : (x2 (ix1 t)).toNat = e.val) (b : Fin 256) (j : Fin 512) :
    val_main_v25 (F := Ideal) x0 x1 x2 x4 (ix3 t b j) = lin x0 x4 e (row (x1 (ix1 (⟨t.val * 256 + b.val, by omega⟩ : Fin 40960)))) j := by
  rw [val_main_v25_apply]
  refine Finset.sum_congr rfl fun k _ => ?_
  have hl : lidx_main_v25 (ix3 t b j) k = ix3 t b k := funext fun a => match a with | ⟨0, _⟩ => rfl | ⟨1, _⟩ => rfl | ⟨2, _⟩ => rfl
  have hr : ridx_main_v25 (ix3 t b j) k = ix3 t k j := funext fun a => match a with | ⟨0, _⟩ => rfl | ⟨1, _⟩ => rfl | ⟨2, _⟩ => rfl
  rw [hl, hr]
  exact congrArg₂ (· * ·) (xg_apply x0 x1 t b k) (gate_apply x2 x4 t e he k j)

theorem ups_apply (he : (x2 (ix1 t)).toNat = e.val) (b : Fin 256) (j : Fin 512) :
    val_main_v44 (F := Ideal) x0 x1 x2 x5 (ix3 t b j) = lin x0 x5 e (row (x1 (ix1 (⟨t.val * 256 + b.val, by omega⟩ : Fin 40960)))) j := by
  rw [val_main_v44_apply]
  refine Finset.sum_congr rfl fun k _ => ?_
  have hl : lidx_main_v44 (ix3 t b j) k = ix3 t b k := funext fun a => match a with | ⟨0, _⟩ => rfl | ⟨1, _⟩ => rfl | ⟨2, _⟩ => rfl
  have hr : ridx_main_v44 (ix3 t b j) k = ix3 t k j := funext fun a => match a with | ⟨0, _⟩ => rfl | ⟨1, _⟩ => rfl | ⟨2, _⟩ => rfl
  rw [hl, hr]
  exact congrArg₂ (· * ·) (xg_apply x0 x1 t b k) (up_apply x2 x5 t e he k j)

/-- One over one plus the exponential of the negated number is the logistic. -/
theorem one_f32 : FloatOps.ofBits (F := Ideal) .f32 0x3F800000#32 = (1 : EReal) := by
  show Ideal.ofBits .f32 0x3F800000#32 = 1
  exact Ideal.ofBits_one_f32

theorem hidden_apply (he : (x2 (ix1 t)).toNat = e.val) (b : Fin 256) (j : Fin 512) :
    val_main_v45 (F := Ideal) x0 x1 x2 x4 x5 (ix3 t b j) = hid x0 x4 x5 e (row (x1 (ix1 (⟨t.val * 256 + b.val, by omega⟩ : Fin 40960)))) j := by
  rw [val_main_v45_apply, val_main_v26_apply, val_main_call0_v5_apply, val_main_call0_v3_apply, val_main_call0_v4_apply, val_main_call0_v2_apply,
    val_main_call0_cst_apply, val_main_call0_cst_0_apply, val_main_call0_v1_apply, val_main_call0_v0_apply, one_f32,
    gates_apply x0 x1 x2 x4 t e he b j, ups_apply x0 x1 x2 x5 t e he b j]
  rfl

theorem experts_apply (he : (x2 (ix1 t)).toNat = e.val) (b : Fin 256) (d : Fin 2048) :
    val_main_v63 (F := Ideal) x0 x1 x2 x4 x5 x6 (ix3 t b d)
      = ffn x0 x4 x5 x6 e (row (x1 (ix1 (⟨t.val * 256 + b.val, by omega⟩ : Fin 40960)))) d := by
  rw [val_main_v63_apply]
  refine Finset.sum_congr rfl fun j _ => ?_
  have hl : lidx_main_v63 (ix3 t b d) j = ix3 t b j := funext fun a => match a with | ⟨0, _⟩ => rfl | ⟨1, _⟩ => rfl | ⟨2, _⟩ => rfl
  have hr : ridx_main_v63 (ix3 t b d) j = ix3 t j d := funext fun a => match a with | ⟨0, _⟩ => rfl | ⟨1, _⟩ => rfl | ⟨2, _⟩ => rfl
  rw [hl, hr]
  exact congrArg₂ (· * ·) (hidden_apply x0 x1 x2 x4 x5 t e he b j) (down_apply x2 x6 t e he j d)

end Experts

/-- The result: the expert's output where the block is in use, zero past the last one in use. -/
theorem ref_apply (t : Fin 160) (b : Fin 256) (d : Fin 2048) (e : Fin 32) (he : (x2 (ix1 t)).toNat = e.val) :
    val_main_v70 (F := Ideal) x0 x1 x2 x3 x4 x5 x6 (ix2 (⟨t.val * 256 + b.val, by omega⟩ : Fin 40960) d)
      = Scalar.select (IntOp.cmpi .slt (BitVec.ofNat 32 t.val) (x3 (ix1 (⟨0, Nat.one_pos⟩ : Fin 1))))
          (ffn x0 x4 x5 x6 e (row (x1 (ix1 (⟨t.val * 256 + b.val, by omega⟩ : Fin 40960)))) d) (0 : EReal) := by
  have hi : idx_main_v70 (ix2 (⟨t.val * 256 + b.val, by omega⟩ : Fin 40960) d) = ix3 t b d := funext fun a => Fin.ext (by
    have := t.isLt; have := b.isLt; have := d.isLt
    match a with
    | ⟨0, _⟩ => show ((t.val * 256 + b.val) * 2048 + d.val) / 524288 = t.val; omega
    | ⟨1, _⟩ => show ((t.val * 256 + b.val) * 2048 + d.val) / 2048 % 256 = b.val; omega
    | ⟨2, _⟩ => show ((t.val * 256 + b.val) * 2048 + d.val) % 2048 = d.val; omega)
  rw [val_main_v70_apply, hi, val_main_v69_apply, val_main_call1_v1_apply, val_main_call1_v2_apply, val_main_call1_v0_apply, val_main_cst_apply,
    val_main_v68_apply, val_main_v65_apply, val_main_v67_apply, val_main_v64_apply, experts_apply x0 x1 x2 x4 x5 x6 t e he b d]
  have hn : val_main_v66 (F := Ideal) x3 (idx_main_v67 (idx_main_call1_v1 (ix3 t b d))) = x3 (ix1 (⟨0, Nat.one_pos⟩ : Fin 1)) := by
    unfold val_main_v66
    refine congrArg x3 (funext fun a => ?_)
    match a with
    | ⟨0, _⟩ => exact Subsingleton.elim (α := Fin 1) _ _
  rw [hn]
  have hz : FloatOps.ofBits (F := Ideal) .f32 0x00000000#32 = (0 : EReal) := Ideal.ofBits_zero_f32
  rw [hz]

end Cert.Proof.Ffn

end
-- ==== Proof.FfnValue.lean ====
/- The value of the routed experts' call: block `t` of its result is the block's expert on the block's gathered rows where
   the block is in use, zero past the last one in use; and the reference has the same. -/
module

public import proofs.«01_k».proof.Defs
public import proofs.«01_k».proof.Proof.FfnTables
public import proofs.«01_k».proof.Proof.FfnRef
public import proofs.«01_k».proof.Proof.Mat
public import proofs.«01_k».proof.Proof.Take
public import Idealize.ShloMosaic.Lib.Pipeline.ValueKit.Acc

@[expose] public section

set_option maxRecDepth 16384

noncomputable section

namespace Cert.Proof.Ffn

open Cert.FfnIdeal Cert.FfnIdeal.Gen Cert.FfnIdeal.Hand Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one store in either case covers the block and its loads are whole. -/
theorem outA_eq (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec Ideal S256x2048 .bf16) (x1 x2 : Vec Ideal S1x2048x512 .bf16) (x3 : Vec Ideal S1x512x2048 .bf16) (xt0 : TbBuf0 (F := Ideal) c tbM0_0) (xt1 : TbBuf0 (F := Ideal) c tbM0_1)
    (hc0 : k0_cond1 i (tbM0_1.view.readAt (Elt Ideal) (Rect.unit (s := S1) ![0] S1.size inb_S1_S1_0).toLoadRect xt1 (Shape.Idx.first (numel1_S1.symm ▸ Nat.one_pos))) = 1#1) :
    out0_A_4 (F := Ideal) c i arg3 harg3 arg4 harg4 arg5 harg5 arg6 harg6 arg7 harg7 x0 x1 x2 x3 xt0 xt1 hc0 = k0_pay1 x0 x1 x2 x3 := by
  unfold out0_A_4
  rw [View.read_writes_junk_eq_canon]
  unfold kernelRun0_A
  dsimp only
  rw [View.canon_unit_zero (S := S256x2048) hz2]
  simp only [View.readAt_eq_ld, Memref.IsWhole.read_unread]
  rw [View.ld_unit_zero (S := S256x2048) hz2, View.ld_unit_zero (S := S1x2048x512) hz3, View.ld_unit_zero (S := S1x2048x512) hz3,
    View.ld_unit_zero (S := S1x512x2048) hz3]

theorem outB_eq (c : Dev nD) (i : grid0.Coords) (arg3 : Memref sig .tc .vmem S256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S256x2048 .f32) (harg7 : arg7.IsWhole)
    (x0 : Vec Ideal S256x2048 .bf16) (x1 x2 : Vec Ideal S1x2048x512 .bf16) (x3 : Vec Ideal S1x512x2048 .bf16) (xt0 : TbBuf0 (F := Ideal) c tbM0_0) (xt1 : TbBuf0 (F := Ideal) c tbM0_1)
    (hc0 : ¬ k0_cond1 i (tbM0_1.view.readAt (Elt Ideal) (Rect.unit (s := S1) ![0] S1.size inb_S1_S1_0).toLoadRect xt1 (Shape.Idx.first (numel1_S1.symm ▸ Nat.one_pos))) = 1#1) :
    out0_B_4 (F := Ideal) c i arg3 harg3 arg4 harg4 arg5 harg5 arg6 harg6 arg7 harg7 x0 x1 x2 x3 xt0 xt1 hc0 = k0_pay2 (F := Ideal) := by
  unfold out0_B_4
  rw [View.read_writes_junk_eq_canon]
  unfold kernelRun0_B
  dsimp only
  rw [View.canon_unit_zero (S := S256x2048) hz2]

/-- A stack of one matrix read as the matrix. -/
theorem one_up (w : S1x2048x512.Idx → EReal) (k : Fin 2048) (j : Fin 512) :
    shapeCast S2048x512 w shapeCasts_S1x2048x512_S2048x512 (ix2 k j) = w (ix3 (⟨0, Nat.one_pos⟩ : Fin 1) k j) :=
  shapeCast_apply w shapeCasts_S1x2048x512_S2048x512 (ix2 k j) (ix3 (⟨0, Nat.one_pos⟩ : Fin 1) k j) (by
    rw [Shape.rowMajor_val_three, Shape.rowMajor_val_two]
    show (0 * 2048 + k.val) * 512 + j.val = k.val * 512 + j.val
    omega)

theorem one_down (w : S1x512x2048.Idx → EReal) (j : Fin 512) (d : Fin 2048) :
    shapeCast S512x2048 w shapeCasts_S1x512x2048_S512x2048 (ix2 j d) = w (ix3 (⟨0, Nat.one_pos⟩ : Fin 1) j d) :=
  shapeCast_apply w shapeCasts_S1x512x2048_S512x2048 (ix2 j d) (ix3 (⟨0, Nat.one_pos⟩ : Fin 1) j d) (by
    rw [Shape.rowMajor_val_three, Shape.rowMajor_val_two]
    show (0 * 512 + j.val) * 2048 + d.val = j.val * 2048 + d.val
    omega)

/-- The payload at an index of the block. -/
theorem hidden_pay (x0 : S256x2048.Idx → EReal) (w : S1x2048x512.Idx → EReal) (b : Fin 256) (j : Fin 512) :
    matmul (F := Ideal) (φ₁ := .bf16) (φ₂ := .bf16) dot_S256x2048_S2048x512_S256x512_1_0_0_1_n_n none x0 (shapeCast S2048x512 w shapeCasts_S1x2048x512_S2048x512)
      (constant S256x512 .f32 0x00000000#32) (ix2 b j) = ∑ k : Fin 2048, x0 (ix2 b k) * w (ix3 (⟨0, Nat.one_pos⟩ : Fin 1) k j) :=
  (Mat.matmul_apply (M := 256) (K := 2048) (N := 512) (φ₁ := .bf16) (φ₂ := .bf16) dot_S256x2048_S2048x512_S256x512_1_0_0_1_n_n.wf x0 _ (ix2 b j)).trans
    (Finset.sum_congr rfl fun k _ => congrArg (x0 (ix2 b k) * ·) (one_up w k j))

theorem pay_apply (x : Act) (wg wu : Up) (wd : Down) (e : Fin 32) (s : Fin 256 → Fin 16384)
    (x0 : S256x2048.Idx → EReal) (x1 x2 : S1x2048x512.Idx → EReal) (x3 : S1x512x2048.Idx → EReal)
    (h0 : ∀ b k, x0 (ix2 b k) = x (ix2 (s b) k)) (h1 : ∀ k j, x1 (ix3 (⟨0, Nat.one_pos⟩ : Fin 1) k j) = wg (ix3 e k j))
    (h2 : ∀ k j, x2 (ix3 (⟨0, Nat.one_pos⟩ : Fin 1) k j) = wu (ix3 e k j)) (h3 : ∀ j d, x3 (ix3 (⟨0, Nat.one_pos⟩ : Fin 1) j d) = wd (ix3 e j d))
    (b : Fin 256) (d : Fin 2048) : k0_pay1 (F := Ideal) x0 x1 x2 x3 (ix2 b d) = ffn x wg wu wd e (s b) d := by
  have hg (j : Fin 512) := (hidden_pay x0 x1 b j).trans (Finset.sum_congr rfl fun k _ => congrArg₂ (· * ·) (h0 b k) (h1 k j) : _ = lin x wg e (s b) j)
  have hu (j : Fin 512) := (hidden_pay x0 x2 b j).trans (Finset.sum_congr rfl fun k _ => congrArg₂ (· * ·) (h0 b k) (h2 k j) : _ = lin x wu e (s b) j)
  unfold k0_pay1
  simp only [shapeCast_self]
  refine (Mat.matmul_apply (M := 256) (K := 512) (N := 2048) (φ₁ := .bf16) (φ₂ := .bf16) dot_S256x512_S512x2048_S256x2048_1_0_0_1_n_n.wf _ _ (ix2 b d)).trans ?_
  refine Finset.sum_congr rfl fun j _ => congrArg₂ (· * ·) ?_ ((one_down x3 j d).trans (h3 j d))
  exact congrArg₂ (fun g u : EReal => g * Ideal.logistic g * u) (hg j) (hu j)

theorem pay2_apply (y : S256x2048.Idx) : k0_pay2 (F := Ideal) y = (0 : EReal) := Ideal.ofBits_zero_f32

variable (m : (ℓ : Loc nD τ sig) → Buf (Elt Ideal) ℓ) (ρ : Dev nD → PrngReg) (hO : Cert.FfnIdeal.Hand.Ok m)

/-- The arguments. -/
def ax (c : Dev nD) : Act := m ((c : Thread nD τ).loc main_arg0)
def atok (c : Dev nD) : IVec S40960 32 := m ((c : Thread nD τ).loc main_arg1)
def aexp (c : Dev nD) : IVec S160 32 := m ((c : Thread nD τ).loc main_arg2)
def anum (c : Dev nD) : IVec S1 32 := m ((c : Thread nD τ).loc main_arg3)
def agate (c : Dev nD) : Up := m ((c : Thread nD τ).loc main_arg4)
def aup (c : Dev nD) : Up := m ((c : Thread nD τ).loc main_arg5)
def adown (c : Dev nD) : Down := m ((c : Thread nD τ).loc main_arg6)

/-- The operands as the region finds them. -/
def XG (c : Dev nD) : S40960x2048.Idx → EReal := V m c main_v7
def WG (c : Dev nD) : S32x2048x512.Idx → EReal := V m c main_v8
def WU (c : Dev nD) : S32x2048x512.Idx → EReal := V m c main_v9
def WD (c : Dev nD) : S32x512x2048.Idx → EReal := V m c main_v10

theorem WG_eq (c : Dev nD) : WG m c = agate m c := by
  show StableHlo.after hostOps0 _ _ = _
  after_results
  rfl
theorem WU_eq (c : Dev nD) : WU m c = aup m c := by
  show StableHlo.after hostOps0 _ _ = _
  after_results
  rfl
theorem WD_eq (c : Dev nD) : WD m c = adown m c := by
  show StableHlo.after hostOps0 _ _ = _
  after_results
  rfl

/-- The gathered rows. -/
theorem XG_eq (c : Dev nD) (r : Fin 40960) (k : Fin 2048) : XG m c (ix2 r k) = ax m c (ix2 (row (atok m c (ix1 r))) k) := by
  have h : XG m c = Host.gather gather_S16384x2048_S40960x1_S40960x2048_1_0_n_n_0_1_12048 (ax m c)
      (broadcastInDim S40960x1 ![0] bcast_S40960_S40960x1_0
        (select (cmpi .slt (atok m c) (broadcastInDim S40960 ![] bcast_S_S40960 (constantI S_ 32 0#32)))
          (addi (atok m c) (broadcastInDim S40960 ![] bcast_S_S40960 (constantI S_ 32 16384#32))) (atok m c))) := by
    show StableHlo.after hostOps0 _ _ = _
    after_results
    rfl
  rw [h]
  refine (Take.rows_apply (N := 16384) (C := 2048) (R := 40960) (by omega) gather_S16384x2048_S40960x1_S40960x2048_1_0_n_n_0_1_12048.wf _ _ r k).trans ?_
  refine congrArg (ax m c) ?_
  unfold row
  refine congrArg (fun q : Fin 16384 => ix2 q k) (Fin.ext ?_)
  refine congrArg (fun w : BitVec 32 => min w.toInt.toNat (16384 - 1)) ?_
  exact broadcastInDim_apply _ bcast_S40960_S40960x1_0 _ (ix2 r (⟨0, Nat.one_pos⟩ : Fin 1)) (ix1 r) (fun a => match a with | ⟨0, _⟩ => rfl)

/-! ## The blocks -/

/-- A grid point's coordinate is its number. -/
theorem coord_val : ∀ t : Fin grid0.N, (grid0.coords t 0).val = t.val := by decide +kernel

theorem rowsAt : ∀ t : Fin grid0.N, cc0_transform_0 (grid0.coords t) = ![t.val, 0] := by decide +kernel
theorem outAt : ∀ t : Fin grid0.N, cc0_transform_4 (grid0.coords t) = ![t.val, 0] := by decide +kernel

/-- The first table is the experts' argument, the second the number of blocks in use. -/
theorem tbl0 (c : Dev nD) : tbl m 0 = aexp m c := (V_pre m c 0).symm.trans (V_main_arg2 m c)
theorem tbl1 (c : Dev nD) : tbl m 1 = anum m c := (V_pre m c 1).symm.trans (V_main_arg3 m c)

/-- The word of the first table that a weight window reads at point `t` is the `t`-th. -/
theorem word_eq (c : Dev nD) (t : Fin 160) (h) :
    (tbl m).at 0 (Rect.unit (s := S160) ![(Scalar.indexCast (BitVec.ofNat 32 (grid0.coords t 0).val) : Index).toNat] S1.size h) numel1_S1
      = aexp m c (ix1 t) := by
  refine (congrFun (tbl0 m c) _).trans (congrArg (aexp m c) (funext fun a => Fin.ext ?_))
  match a with
  | ⟨0, _⟩ =>
    have ht : t.val < 160 := t.isLt
    have e := coord_val t
    have e2 : (BitVec.ofNat 32 (grid0.coords t 0).val).toNat = t.val := by
      rw [e, BitVec.toNat_ofNat]; omega
    show (BitVec.ofNat 32 (grid0.coords t 0).val).toNat + 1 * 0 = t.val
    omega

theorem gateAt (c : Dev nD) (t : Fin 160) : ((cfgM m hO).win 1).index t = ![(aexp m c (ix1 t)).toNat, 0, 0] :=
  congrArg (fun w : BitVec 32 => ![w.toNat, 0, 0]) (word_eq m c t _)
theorem upAt (c : Dev nD) (t : Fin 160) : ((cfgM m hO).win 2).index t = ![(aexp m c (ix1 t)).toNat, 0, 0] :=
  congrArg (fun w : BitVec 32 => ![w.toNat, 0, 0]) (word_eq m c t _)
theorem downAt (c : Dev nD) (t : Fin 160) : ((cfgM m hO).win 3).index t = ![(aexp m c (ix1 t)).toNat, 0, 0] :=
  congrArg (fun w : BitVec 32 => ![w.toNat, 0, 0]) (word_eq m c t _)
theorem index0 (t : Fin 160) : ((cfgM m hO).win 0).index t = ![t.val, 0] := rowsAt t
theorem index4 (t : Fin 160) : ((cfgM m hO).win 4).index t = ![t.val, 0] := outAt t

/-- Two points' blocks of the result share no element. -/
theorem apart (t t' : Fin (cfgM m hO).N) (_ : ((cfgM m hO).win 4).flush t = true) (_ : ((cfgM m hO).win 4).flush t' = true) (hne : t ≠ t') :
    Disjoint (((cfgM m hO).win 4).blk t).view.set (((cfgM m hO).win 4).blk t').view.set := by
  refine ((cfgM m hO).win 4).disjoint_blk fun h => hne ?_
  have h' : (![t.val, 0] : Fin 2 → Nat) = ![t'.val, 0] := (index4 m hO t).symm.trans (h.trans (index4 m hO t'))
  exact Fin.ext (congrFun h' 0)

def b0 (c : Dev nD) (t : Fin 160) : S256x2048.Idx → EReal := iblk m hO c 0 t
def b1 (c : Dev nD) (t : Fin 160) : S1x2048x512.Idx → EReal := iblk m hO c 1 t
def b2 (c : Dev nD) (t : Fin 160) : S1x2048x512.Idx → EReal := iblk m hO c 2 t
def b3 (c : Dev nD) (t : Fin 160) : S1x512x2048.Idx → EReal := iblk m hO c 3 t
/-- The result array after the run. -/
def A (c : Dev nD) : S40960x2048.Idx → EReal := (dats m hO 0 c).arrAt 4 (cfgM m hO).N

/-- Row `b` of block `t`. -/
def at_ (t : Fin 160) (b : Fin 256) : Fin 40960 := ⟨t.val * 256 + b.val, by omega⟩

theorem b0_apply (c : Dev nD) (t : Fin 160) (b : Fin 256) (k : Fin 2048) :
    b0 m hO c t (ix2 b k) = ax m c (ix2 (row (atok m c (ix1 (at_ t b)))) k) := by
  refine Eq.trans ?_ (XG_eq m c (at_ t b) k)
  show XG m c ((((cfgM m hO).win 0).blk t).view.emb (ix2 b k)) = _
  refine congrArg _ (funext fun a => Fin.ext ((((cfgM m hO).win 0).rect_emb_val t (ix2 b k) a).trans ?_))
  rw [index0]
  match a with
  | ⟨0, _⟩ => rfl
  | ⟨1, _⟩ => show 0 * _ + k.val = k.val; omega

theorem b1_apply (c : Dev nD) (t : Fin 160) (e : Fin 32) (he : (aexp m c (ix1 t)).toNat = e.val) (k : Fin 2048) (j : Fin 512) :
    b1 m hO c t (ix3 (⟨0, Nat.one_pos⟩ : Fin 1) k j) = agate m c (ix3 e k j) := by
  refine Eq.trans ?_ (congrFun (WG_eq m c) (ix3 e k j))
  show WG m c ((((cfgM m hO).win 1).blk t).view.emb (ix3 (⟨0, Nat.one_pos⟩ : Fin 1) k j)) = _
  refine congrArg _ (funext fun a => Fin.ext ((((cfgM m hO).win 1).rect_emb_val t (ix3 (⟨0, Nat.one_pos⟩ : Fin 1) k j) a).trans ?_))
  rw [gateAt m hO c]
  match a with
  | ⟨0, _⟩ => show (aexp m c (ix1 t)).toNat * 1 + 0 = e.val; omega
  | ⟨1, _⟩ => show 0 * _ + k.val = k.val; omega
  | ⟨2, _⟩ => show 0 * _ + j.val = j.val; omega

theorem b2_apply (c : Dev nD) (t : Fin 160) (e : Fin 32) (he : (aexp m c (ix1 t)).toNat = e.val) (k : Fin 2048) (j : Fin 512) :
    b2 m hO c t (ix3 (⟨0, Nat.one_pos⟩ : Fin 1) k j) = aup m c (ix3 e k j) := by
  refine Eq.trans ?_ (congrFun (WU_eq m c) (ix3 e k j))
  show WU m c ((((cfgM m hO).win 2).blk t).view.emb (ix3 (⟨0, Nat.one_pos⟩ : Fin 1) k j)) = _
  refine congrArg _ (funext fun a => Fin.ext ((((cfgM m hO).win 2).rect_emb_val t (ix3 (⟨0, Nat.one_pos⟩ : Fin 1) k j) a).trans ?_))
  rw [upAt m hO c]
  match a with
  | ⟨0, _⟩ => show (aexp m c (ix1 t)).toNat * 1 + 0 = e.val; omega
  | ⟨1, _⟩ => show 0 * _ + k.val = k.val; omega
  | ⟨2, _⟩ => show 0 * _ + j.val = j.val; omega

theorem b3_apply (c : Dev nD) (t : Fin 160) (e : Fin 32) (he : (aexp m c (ix1 t)).toNat = e.val) (j : Fin 512) (d : Fin 2048) :
    b3 m hO c t (ix3 (⟨0, Nat.one_pos⟩ : Fin 1) j d) = adown m c (ix3 e j d) := by
  refine Eq.trans ?_ (congrFun (WD_eq m c) (ix3 e j d))
  show WD m c ((((cfgM m hO).win 3).blk t).view.emb (ix3 (⟨0, Nat.one_pos⟩ : Fin 1) j d)) = _
  refine congrArg _ (funext fun a => Fin.ext ((((cfgM m hO).win 3).rect_emb_val t (ix3 (⟨0, Nat.one_pos⟩ : Fin 1) j d) a).trans ?_))
  rw [downAt m hO c]
  match a with
  | ⟨0, _⟩ => show (aexp m c (ix1 t)).toNat * 1 + 0 = e.val; omega
  | ⟨1, _⟩ => show 0 * _ + j.val = j.val; omega
  | ⟨2, _⟩ => show 0 * _ + d.val = d.val; omega

/-- The word the body compares the block's number with. -/
theorem used_eq (c : Dev nD) :
    tbM0_1.view.readAt (Elt Ideal) (Rect.unit (s := S1) ![0] S1.size inb_S1_S1_0).toLoadRect (tbl m 1) (Shape.Idx.first (numel1_S1.symm ▸ Nat.one_pos))
      = anum m c (ix1 (⟨0, Nat.one_pos⟩ : Fin 1)) :=
  (congrFun (tbl1 m c) _).trans (congrArg (anum m c) (funext fun a => match a with
    | ⟨0, _⟩ => Subsingleton.elim (α := Fin 1) _ _))

/-- The body's condition is the comparison. -/
theorem cond_iff (t : Fin 160) (w : BitVec 32) :
    k0_cond1 (grid0.coords t) w = 1#1 ↔ IntOp.cmpi .slt (BitVec.ofNat 32 t.val) w = 1#1 := by
  unfold k0_cond1
  rw [coord_val t]
  simp only [Scalar.cmpi, IntOp.cmpi, Scalar.extui]
  cases (BitVec.ofNat 32 t.val).slt w <;> decide

/-- What is written back is what the body left. -/
theorem written (c : Dev nD) (t : Fin (cfgM m hO).N) : (dats m hO 0 c).flushed 4 t = outsAt0 m hO c t := by
  show ((cfgM m hO).win 4).cut (grid0.coords t) ((dats m hO 0 c).after 4 t) = _
  rw [after0_4]
  rfl

/-- Reading an array through block `t`. -/
theorem through (B : S40960x2048.Idx → EReal) (t : Fin (cfgM m hO).N) (y : S256x2048.Idx) :
    (((cfgM m hO).win 4).blk t).view.read (Elt Ideal) B y = B ((((cfgM m hO).win 4).blk t).view.emb y) := rfl

/-- So the result array holds on block `t` what the body left at point `t`. -/
theorem left_read (c : Dev nD) (t : Fin (cfgM m hO).N) :
    (((cfgM m hO).win 4).blk t).view.read (Elt Ideal) (A m hO c) = outsAt0 m hO c t :=
  ((dats m hO 0 c).read_blk_arrAt_eq_flushed 4 (apart m hO) (cfgM m hO).N t t.isLt (flush0_4 (adm m hO) t)).trans (written m hO c t)

theorem left_apply (c : Dev nD) (t : Fin (cfgM m hO).N) (y : S256x2048.Idx) :
    A m hO c ((((cfgM m hO).win 4).blk t).view.emb y) = outsAt0 m hO c t y :=
  (through m hO (A m hO c) t y).symm.trans (congrFun (left_read m hO c t) y)

/-- At a point whose block is in use: the payload. -/
theorem left_used (c : Dev nD) (t : Fin (cfgM m hO).N)
    (h0 : k0_cond1 (grid0.coords t) (tbM0_1.view.readAt (Elt Ideal) (Rect.unit (s := S1) ![0] S1.size inb_S1_S1_0).toLoadRect (tbl m 1) (Shape.Idx.first (numel1_S1.symm ▸ Nat.one_pos))) = 1#1) :
    outsAt0 m hO c t = k0_pay1 (F := Ideal) (iblk m hO c 0 t) (iblk m hO c 1 t) (iblk m hO c 2 t) (iblk m hO c 3 t) :=
  (outsAt0_A m hO c t h0).trans (outA_eq c (grid0.coords t) _ _ _ _ _ _ _ _ _ _ _ _ _ _ _ _ h0)

/-- At any other: zero. -/
theorem left_unused (c : Dev nD) (t : Fin (cfgM m hO).N)
    (h0 : ¬ k0_cond1 (grid0.coords t) (tbM0_1.view.readAt (Elt Ideal) (Rect.unit (s := S1) ![0] S1.size inb_S1_S1_0).toLoadRect (tbl m 1) (Shape.Idx.first (numel1_S1.symm ▸ Nat.one_pos))) = 1#1) :
    outsAt0 m hO c t = k0_pay2 (F := Ideal) :=
  (outsAt0_B m hO c t h0).trans (outB_eq c (grid0.coords t) _ _ _ _ _ _ _ _ _ _ _ _ _ _ _ _ h0)

/-- Block `t` of the result: the block's expert on the block's rows where it is in use, and zero elsewhere. -/
theorem A_apply (c : Dev nD) (t : Fin 160) (b : Fin 256) (d : Fin 2048) (e : Fin 32) (he : (aexp m c (ix1 t)).toNat = e.val) :
    A m hO c (ix2 (at_ t b) d)
      = Scalar.select (IntOp.cmpi .slt (BitVec.ofNat 32 t.val) (anum m c (ix1 (⟨0, Nat.one_pos⟩ : Fin 1))))
          (ffn (ax m c) (agate m c) (aup m c) (adown m c) e (row (atok m c (ix1 (at_ t b)))) d) (0 : EReal) := by
  have hemb : (((cfgM m hO).win 4).blk t).view.emb (ix2 b d) = ix2 (at_ t b) d :=
    funext fun a => Fin.ext ((((cfgM m hO).win 4).rect_emb_val t (ix2 b d) a).trans (by
      rw [index4]
      match a with
      | ⟨0, _⟩ => rfl
      | ⟨1, _⟩ => show 0 * _ + d.val = d.val; omega))
  have hb : A m hO c ((((cfgM m hO).win 4).blk t).view.emb (ix2 b d)) = outsAt0 m hO c t (ix2 b d) := left_apply m hO c t (ix2 b d)
  rw [hemb] at hb
  rw [hb]
  have hcond : k0_cond1 (grid0.coords t) (tbM0_1.view.readAt (Elt Ideal) (Rect.unit (s := S1) ![0] S1.size inb_S1_S1_0).toLoadRect (tbl m 1) (Shape.Idx.first (numel1_S1.symm ▸ Nat.one_pos))) = 1#1
      ↔ IntOp.cmpi .slt (BitVec.ofNat 32 t.val) (anum m c (ix1 (⟨0, Nat.one_pos⟩ : Fin 1))) = 1#1 := by
    rw [used_eq m c]; exact cond_iff t _
  by_cases h0 : k0_cond1 (grid0.coords t) (tbM0_1.view.readAt (Elt Ideal) (Rect.unit (s := S1) ![0] S1.size inb_S1_S1_0).toLoadRect (tbl m 1) (Shape.Idx.first (numel1_S1.symm ▸ Nat.one_pos))) = 1#1
  · refine (congrFun (left_used m hO c t h0) (ix2 b d)).trans (Eq.trans ?_ (if_pos (hcond.mp h0)).symm)
    exact pay_apply (ax m c) (agate m c) (aup m c) (adown m c) e (fun b => row (atok m c (ix1 (at_ t b)))) (b0 m hO c t) (b1 m hO c t) (b2 m hO c t) (b3 m hO c t)
      (b0_apply m hO c t) (b1_apply m hO c t e he) (b2_apply m hO c t e he) (b3_apply m hO c t e he) b d
  · exact (congrFun (left_unused m hO c t h0) (ix2 b d)).trans ((pay2_apply _).trans (if_neg fun h => h0 (hcond.mpr h)).symm)

/-- The result is the reference's, where the experts' numbers are in range. -/
theorem A_eq_ref (c : Dev nD) (hlt : ∀ y, (aexp m c y).toNat < 32) :
    A m hO c = Cert.FfnRefIdeal.Read.val_main_v70 (F := Ideal) (ax m c) (atok m c) (aexp m c) (anum m c) (agate m c) (aup m c) (adown m c) := by
  funext i
  have hi0 : (i 0).val < 40960 := (i 0).isLt
  let t : Fin 160 := ⟨(i 0).val / 256, by omega⟩
  let b : Fin 256 := ⟨(i 0).val % 256, by omega⟩
  have hi : i = ix2 (at_ t b) (i 1) := funext fun a => match a with
    | ⟨0, _⟩ => Fin.ext (by show (i 0).val = (i 0).val / 256 * 256 + (i 0).val % 256; omega)
    | ⟨1, _⟩ => rfl
  rw [hi]
  exact (A_apply m hO c t b (i 1) ⟨_, hlt (ix1 t)⟩ rfl).trans
    (ref_apply (ax m c) (atok m c) (aexp m c) (anum m c) (agate m c) (aup m c) (adown m c) t b (i 1) ⟨_, hlt (ix1 t)⟩ rfl).symm

/-- The kernel and its reference have one result, from the same arguments. -/
theorem algebraic : Cert.algebraic_FfnIdeal_FfnRefIdeal := fun m ρ m' ρ' hpre hag => by
  have hO := ok_ideal m hpre
  refine ⟨fun c => (dats m hO 0 c).arrAt 4 (cfgM m hO).N, ?_, ?_⟩
  · exact (θ_run _ _ _).mono (fun _ h c => ⟨(h c).1 4,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_main m ρ hO)
  · refine (θ_run _ _ _).mono (fun _ h c => ⟨(h c).1.trans ?_, (h c).2⟩) (Cert.FfnRefIdeal.Value.run m' ρ')
    obtain ⟨g0, g1, g2, g3, g4, g5, g6⟩ := hag c
    rw [Cert.FfnRefIdeal.Read.val_main_v70_eq, g0, g1, g2, g3, g4, g5, g6]
    exact (A_eq_ref m hO c fun y => expert_lt _ _ _ _ _ _ _ (hpre c) y).symm

end Cert.Proof.Ffn

end
-- ==== Proof.InProjValue.lean ====
/- The value of `InProjIdeal`: every element of its result is the row of the first operand times the column of the second,
   plus the bias row's entry, whatever the grid's tiles. -/
module

public import proofs.«01_k».proof.Defs
public import proofs.«01_k».proof.Proof.Gen.InProjIdeal.Value
public import proofs.«01_k».proof.Proof.Mat
public import proofs.«01_k».proof.Proof.Gen.InProjRefIdeal.Run
public import proofs.«01_k».proof.Proof.Gen.InProjRefIdeal.Read
public import Idealize.ShloMosaic.Lib.Pipeline.Value
public import Idealize.ShloMosaic.Lib.ValueIdx

@[expose] public section

set_option maxRecDepth 16384

noncomputable section

namespace Cert.Proof.InProj

open Cert.InProjIdeal Cert.InProjIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's one store covers the block and its loads are whole: what it leaves is the payload. -/
theorem out_eq (x0 : Vec Ideal S512x2048 .bf16) (x1 : Vec Ideal S2048x512 .bf16) (x2 : Vec Ideal S1x512 .f32) :
    out0_3 (F := Ideal) x0 x1 x2 = k0_pay1 x0 x1 x2 := by
  have hz : (![0, 0] : Fin 2 → Nat) = fun _ => 0 := funext fun a => by fin_cases a <;> rfl
  unfold out0_3
  rw [View.canon_unit_zero (S := S512x512) hz, View.ld_unit_zero (S := S512x2048) hz, View.ld_unit_zero (S := S2048x512) hz,
    View.ld_unit_zero (S := S1x512) hz]

/-- The payload at an index of the block. -/
theorem pay_apply (x0 : Vec Ideal S512x2048 .bf16) (x1 : Vec Ideal S2048x512 .bf16) (x2 : Vec Ideal S1x512 .f32) (y : S512x512.Idx) :
    k0_pay1 (F := Ideal) x0 x1 x2 y
      = ((∑ k : Fin 2048, (x0 (ix2 (y 0) k) : EReal) * x1 (ix2 k (y 1))) + x2 (ix2 (⟨0, Nat.one_pos⟩ : Fin 1) (y 1)) : EReal) := by
  show matmul (F := Ideal) dot_S512x2048_S2048x512_S512x512_1_0_0_1_n_n none (shapeCast S512x2048 x0 shapeCasts_S512x2048_S512x2048)
      (shapeCast S2048x512 x1 shapeCasts_S2048x512_S2048x512) (constant S512x512 .f32 0x00000000#32) y
      + broadcastTo S512x512 (shapeCast S1x512 x2 shapeCasts_S1x512_S1x512) broadcasts_S1x512_S512x512 y = _
  rw [shapeCast_self, shapeCast_self, shapeCast_self]
  have h1 := Mat.matmul_apply (M := 512) (K := 2048) (N := 512) (φ₁ := .bf16) (φ₂ := .bf16) dot_S512x2048_S2048x512_S512x512_1_0_0_1_n_n.wf x0 x1 y
  have h2 : broadcastTo S512x512 x2 broadcasts_S1x512_S512x512 y = x2 (ix2 (⟨0, Nat.one_pos⟩ : Fin 1) (y 1)) :=
    broadcastTo_apply x2 broadcasts_S1x512_S512x512 y (ix2 (⟨0, Nat.one_pos⟩ : Fin 1) (y 1)) (fun a => match a with
      | ⟨0, _⟩ => (if_pos rfl).symm
      | ⟨1, _⟩ => by simp)
  rw [h2]
  exact congrArg (· + _) h1

/-- The grid point of tile row `p` and tile column `q`. -/
def pt (p : Fin 32) (q : Fin 35) : Fin cfg0.N := ⟨p.val * 35 + q.val, by have := p.isLt; have := q.isLt; show _ < 1120; omega⟩

theorem index0 : ∀ (p : Fin 32) (q : Fin 35), win0_0.index (pt p q) = ![p.val, 0] := by decide +kernel
theorem index1 : ∀ (p : Fin 32) (q : Fin 35), win0_1.index (pt p q) = ![0, q.val] := by decide +kernel
theorem index2 : ∀ (p : Fin 32) (q : Fin 35), win0_2.index (pt p q) = ![0, q.val] := by decide +kernel
theorem index3 : ∀ (p : Fin 32) (q : Fin 35), win0_3.index (pt p q) = ![p.val, q.val] := by decide +kernel

/-- Every grid point is one of these. -/
theorem pt_surj (t : Fin cfg0.N) : ∃ p q, t = pt p q := by
  have ht : t.val < 1120 := t.isLt
  exact ⟨⟨t.val / 35, by omega⟩, ⟨t.val % 35, by omega⟩, Fin.ext (by show t.val = t.val / 35 * 35 + t.val % 35; omega)⟩

/-- Two points' tiles of the result share no element. -/
theorem apart (t t' : Fin cfg0.N) (_ : (cfg0.win 3).flush t = true) (_ : (cfg0.win 3).flush t' = true) (hne : t ≠ t') :
    Disjoint ((cfg0.win 3).blk t).view.set ((cfg0.win 3).blk t').view.set := by
  obtain ⟨p, q, rfl⟩ := pt_surj t
  obtain ⟨p', q', rfl⟩ := pt_surj t'
  refine (cfg0.win 3).disjoint_blk fun h => hne ?_
  have h' : (![p.val, q.val] : Fin 2 → Nat) = ![p'.val, q'.val] := (index3 p q).symm.trans (h.trans (index3 p' q'))
  have e0 : p = p' := Fin.ext (congrFun h' 0)
  have e1 : q = q' := Fin.ext (congrFun h' 1)
  rw [e0, e1]

/-- The operands as the region finds them, and the blocks read off them. -/
def X (c : Dev nD) : S16384x2048.Idx → EReal := V m c main_v0
def W (c : Dev nD) : S2048x17920.Idx → EReal := V m c main_v5
def B (c : Dev nD) : S1x17920.Idx → EReal := V m c main_v10
def b0 (c : Dev nD) (t : Fin cfg0.N) : S512x2048.Idx → EReal := iblk m c 0 t
def b1 (c : Dev nD) (t : Fin cfg0.N) : S2048x512.Idx → EReal := iblk m c 1 t
def b2 (c : Dev nD) (t : Fin cfg0.N) : S1x512.Idx → EReal := iblk m c 2 t
/-- The result array after the run. -/
def A (c : Dev nD) : S16384x17920.Idx → EReal := (dats m 0 c).arrAt 3 cfg0.N

/-- The blocks read at an index: the array at the tile's offset. -/
theorem b0_apply (c : Dev nD) (p : Fin 32) (q : Fin 35) (y : S512x2048.Idx) (i : S16384x2048.Idx)
    (h0 : (i 0).val = p.val * 512 + (y 0).val) (h1 : (i 1).val = (y 1).val) : b0 m c (pt p q) y = X m c i := by
  show X m c (((cfg0.win 0).blk (pt p q)).view.emb y) = _
  refine congrArg _ (funext fun a => Fin.ext ((win0_0.rect_emb_val (pt p q) y a).trans ?_))
  rw [index0]
  match a with
  | ⟨0, _⟩ => exact h0.symm
  | ⟨1, _⟩ => show 0 * _ + (y 1).val = (i 1).val; omega

theorem b1_apply (c : Dev nD) (p : Fin 32) (q : Fin 35) (y : S2048x512.Idx) (i : S2048x17920.Idx)
    (h0 : (i 0).val = (y 0).val) (h1 : (i 1).val = q.val * 512 + (y 1).val) : b1 m c (pt p q) y = W m c i := by
  show W m c (((cfg0.win 1).blk (pt p q)).view.emb y) = _
  refine congrArg _ (funext fun a => Fin.ext ((win0_1.rect_emb_val (pt p q) y a).trans ?_))
  rw [index1]
  match a with
  | ⟨0, _⟩ => show 0 * _ + (y 0).val = (i 0).val; omega
  | ⟨1, _⟩ => exact h1.symm

theorem b2_apply (c : Dev nD) (p : Fin 32) (q : Fin 35) (y : S1x512.Idx) (i : S1x17920.Idx)
    (h0 : (i 0).val = (y 0).val) (h1 : (i 1).val = q.val * 512 + (y 1).val) : b2 m c (pt p q) y = B m c i := by
  show B m c (((cfg0.win 2).blk (pt p q)).view.emb y) = _
  refine congrArg _ (funext fun a => Fin.ext ((win0_2.rect_emb_val (pt p q) y a).trans ?_))
  rw [index2]
  match a with
  | ⟨0, _⟩ => show 0 * _ + (y 0).val = (i 0).val; omega
  | ⟨1, _⟩ => exact h1.symm

/-- The result array, element by element: row times column plus the bias row's entry. -/
theorem A_apply (c : Dev nD) (i : S16384x17920.Idx) :
    A m c i = (∑ k : Fin 2048, X m c (ix2 (i 0) k) * W m c (ix2 k (i 1))) + B m c (ix2 (⟨0, Nat.one_pos⟩ : Fin 1) (i 1)) := by
  have hi0 : (i 0).val < 16384 := (i 0).isLt
  have hi1 : (i 1).val < 17920 := (i 1).isLt
  let p : Fin 32 := ⟨(i 0).val / 512, by omega⟩
  let q : Fin 35 := ⟨(i 1).val / 512, by omega⟩
  let y : S512x512.Idx := ix2 (⟨(i 0).val % 512, by omega⟩ : Fin 512) (⟨(i 1).val % 512, by omega⟩ : Fin 512)
  have e0 : (i 0).val = p.val * 512 + (y 0).val := by show _ = (i 0).val / 512 * 512 + (i 0).val % 512; omega
  have e1 : (i 1).val = q.val * 512 + (y 1).val := by show _ = (i 1).val / 512 * 512 + (i 1).val % 512; omega
  have hemb : ((cfg0.win 3).blk (pt p q)).view.emb y = i := funext fun a => Fin.ext ((win0_3.rect_emb_val (pt p q) y a).trans (by
    rw [index3]
    match a with
    | ⟨0, _⟩ => exact e0.symm
    | ⟨1, _⟩ => exact e1.symm))
  have hb : A m c (((cfg0.win 3).blk (pt p q)).view.emb y) = out0_3 (F := Ideal) (b0 m c (pt p q)) (b1 m c (pt p q)) (b2 m c (pt p q)) y :=
    (congrFun ((dats m 0 c).read_blk_arrAt_eq_flushed 3 apart cfg0.N (pt p q) (pt p q).isLt (flush0_3 _)) y).trans
      (congrFun (Value.flushed3 (F := Ideal) m c (pt p q)) y)
  rw [hemb, out_eq, pay_apply] at hb
  rw [hb]
  refine congrArg₂ (· + ·) (Finset.sum_congr rfl fun k _ => ?_) (b2_apply m c p q _ _ rfl e1)
  exact congrArg₂ (· * ·) (b0_apply m c p q (ix2 (y 0) k) (ix2 (i 0) k) e0 rfl) (b1_apply m c p q (ix2 k (y 1)) (ix2 k (i 1)) rfl e1)

/-- The left operand is the argument (a cast changes nothing here). -/
theorem X_eq (c : Dev nD) : X m c = m ((c : Thread nD τ).loc main_arg0) := by
  show StableHlo.after hostOps0 _ _ = _
  after_results
  rfl

/-- The weights and the bias as launched. -/
def W₀ (c : Dev nD) : S2048x17440.Idx → EReal := m ((c : Thread nD τ).loc main_arg1)
def B₀ (c : Dev nD) : S17440.Idx → EReal := m ((c : Thread nD τ).loc main_arg2)

/-- The weights the call reads: the argument's columns with 480 zero columns put in after the first 8224. -/
theorem W_eq (c : Dev nD) : W m c = concatenate S2048x17920 1
    [⟨S2048x8224, extractStridedSlice S2048x8224 ![0, 0] (W₀ m c) slices_S2048x17440_S2048x8224_0_0⟩,
     ⟨S2048x480, broadcastInDim S2048x480 ![] bcast_S_S2048x480 (constant (F := Ideal) S_ .bf16 0x0000#16)⟩,
     ⟨S2048x9216, extractStridedSlice S2048x9216 ![0, 8224] (W₀ m c) slices_S2048x17440_S2048x9216_0_8224⟩]
    concatenates_S2048x8224_S2048x480_S2048x9216_S2048x17920_d1 := by
  show StableHlo.after hostOps0 _ _ = _
  after_results <;> rfl

/-- The bias row likewise. -/
theorem B_eq (c : Dev nD) : B m c = shapeCast S1x17920 (concatenate S17920 0
    [⟨S8224, extractStridedSlice S8224 ![0] (B₀ m c) slices_S17440_S8224_0⟩,
     ⟨S480, broadcastInDim S480 ![] bcast_S_S480 (constant (F := Ideal) S_ .f32 0x00000000#32)⟩,
     ⟨S9216, extractStridedSlice S9216 ![8224] (B₀ m c) slices_S17440_S9216_8224⟩]
    concatenates_S8224_S480_S9216_S17920_d0) shapeCasts_S17920_S1x17920 := by
  show StableHlo.after hostOps0 _ _ = _
  after_results <;> rfl

theorem W_left (c : Dev nD) (k : Fin 2048) (j : Fin 17920) (h : j.val < 8224) :
    W m c (ix2 k j) = W₀ m c (ix2 k (⟨j.val, by omega⟩ : Fin 17440)) := by
  rw [W_eq]
  exact (Mat.join_left _ _ _ _ k j (⟨j.val, h⟩ : Fin 8224) rfl).trans (Mat.cols_apply 0 (W₀ m c) _ _ _ _ (Nat.zero_add _).symm)

theorem W_gap (c : Dev nD) (k : Fin 2048) (j : Fin 17920) (h : 8224 ≤ j.val) (h' : j.val < 8704) : W m c (ix2 k j) = 0 := by
  rw [W_eq]
  exact (Mat.join_mid _ _ _ _ k j (⟨j.val - 8224, by omega⟩ : Fin 480) (by show 8224 + (j.val - 8224) = _; omega)).trans Mat.zero_bf16

theorem W_right (c : Dev nD) (k : Fin 2048) (j : Fin 17920) (h : 8704 ≤ j.val) :
    W m c (ix2 k j) = W₀ m c (ix2 k (⟨j.val - 480, by omega⟩ : Fin 17440)) := by
  rw [W_eq]
  exact (Mat.join_right _ _ _ _ k j (⟨j.val - 8704, by omega⟩ : Fin 9216) (by show 8224 + 480 + (j.val - 8704) = _; omega)).trans
    (Mat.cols_apply 8224 (W₀ m c) _ _ _ _ (by show j.val - 480 = 8224 + (j.val - 8704); omega))

theorem B_left (c : Dev nD) (j : Fin 17920) (h : j.val < 8224) :
    B m c (ix2 (⟨0, Nat.one_pos⟩ : Fin 1) j) = B₀ m c (ix1 (⟨j.val, by omega⟩ : Fin 17440)) := by
  rw [B_eq]
  exact ((Mat.row_apply _ _ j).trans (Mat.join1_left _ _ _ _ j (⟨j.val, h⟩ : Fin 8224) rfl)).trans
    (Mat.cols1_apply 0 (B₀ m c) _ _ _ (Nat.zero_add _).symm)

theorem B_gap (c : Dev nD) (j : Fin 17920) (h : 8224 ≤ j.val) (h' : j.val < 8704) : B m c (ix2 (⟨0, Nat.one_pos⟩ : Fin 1) j) = 0 := by
  rw [B_eq]
  exact ((Mat.row_apply _ _ j).trans (Mat.join1_mid _ _ _ _ j (⟨j.val - 8224, by omega⟩ : Fin 480) (by show 8224 + (j.val - 8224) = _; omega))).trans
    Ideal.ofBits_zero_f32

theorem B_right (c : Dev nD) (j : Fin 17920) (h : 8704 ≤ j.val) :
    B m c (ix2 (⟨0, Nat.one_pos⟩ : Fin 1) j) = B₀ m c (ix1 (⟨j.val - 480, by omega⟩ : Fin 17440)) := by
  rw [B_eq]
  exact ((Mat.row_apply _ _ j).trans (Mat.join1_right _ _ _ _ j (⟨j.val - 8704, by omega⟩ : Fin 9216) (by show 8224 + 480 + (j.val - 8704) = _; omega))).trans
    (Mat.cols1_apply 8224 (B₀ m c) _ _ _ (by show j.val - 480 = 8224 + (j.val - 8704); omega))

open Cert.InProjRefIdeal.Read in
/-- The reference's projection at a row and a column of the unpadded width. -/
theorem ref_apply (x : S16384x2048.Idx → EReal) (w : S2048x17440.Idx → EReal) (b : S17440.Idx → EReal) (r : Fin 16384) (j : Fin 17440) :
    val_main_v3 (F := Ideal) x w b (ix2 r j) = ((∑ k : Fin 2048, x (ix2 r k) * w (ix2 k j)) + b (ix1 j) : EReal) := by
  rw [val_main_v3_apply, val_main_v2_apply, val_main_v1_apply]
  exact congrArg₂ (· + ·) (Mat.dot_apply (M := 16384) (K := 2048) (N := 17440) (φ₁ := .f32) (φ₂ := .f32)
    Cert.InProjRefIdeal.dot_S16384x2048_S2048x17440_S16384x17440_1_0_0_1_n_n.wf x w (ix2 r j))
    (congrArg b (funext fun a => match a with | ⟨0, _⟩ => rfl))

open Cert.InProjRefIdeal.Read in
/-- The reference's padded result in the three ranges of columns. -/
theorem ref_left (x : S16384x2048.Idx → EReal) (w : S2048x17440.Idx → EReal) (b : S17440.Idx → EReal) (r : Fin 16384) (j : Fin 17920) (h : j.val < 8224) :
    val_main_v7 (F := Ideal) x w b (ix2 r j) = val_main_v3 (F := Ideal) x w b (ix2 r (⟨j.val, by omega⟩ : Fin 17440)) :=
  (Mat.join_left _ _ _ _ r j (⟨j.val, h⟩ : Fin 8224) rfl).trans (Mat.cols_apply 0 (val_main_v3 (F := Ideal) x w b) _ _ _ _ (Nat.zero_add _).symm)

open Cert.InProjRefIdeal.Read in
theorem ref_gap (x : S16384x2048.Idx → EReal) (w : S2048x17440.Idx → EReal) (b : S17440.Idx → EReal) (r : Fin 16384) (j : Fin 17920)
    (h : 8224 ≤ j.val) (h' : j.val < 8704) : val_main_v7 (F := Ideal) x w b (ix2 r j) = (0 : EReal) :=
  (Mat.join_mid _ _ _ _ r j (⟨j.val - 8224, by omega⟩ : Fin 480) (by show 8224 + (j.val - 8224) = _; omega)).trans Ideal.ofBits_zero_f32

open Cert.InProjRefIdeal.Read in
theorem ref_right (x : S16384x2048.Idx → EReal) (w : S2048x17440.Idx → EReal) (b : S17440.Idx → EReal) (r : Fin 16384) (j : Fin 17920) (h : 8704 ≤ j.val) :
    val_main_v7 (F := Ideal) x w b (ix2 r j) = val_main_v3 (F := Ideal) x w b (ix2 r (⟨j.val - 480, by omega⟩ : Fin 17440)) :=
  (Mat.join_right _ _ _ _ r j (⟨j.val - 8704, by omega⟩ : Fin 9216) (by show 8224 + 480 + (j.val - 8704) = _; omega)).trans
    (Mat.cols_apply 8224 (val_main_v3 (F := Ideal) x w b) _ _ _ _ (by show j.val - 480 = 8224 + (j.val - 8704); omega))

/-- The result is the reference's: the zero columns give zero on both sides. -/
theorem A_eq_ref (c : Dev nD) :
    A m c = Cert.InProjRefIdeal.Read.val_main_v7 (F := Ideal) (m ((c : Thread nD τ).loc main_arg0)) (W₀ m c) (B₀ m c) := by
  funext i
  obtain ⟨r, j, rfl⟩ : ∃ (r : Fin 16384) (j : Fin 17920), i = ix2 r j := ⟨i 0, i 1, eq_ix2 i⟩
  rw [A_apply, X_eq]
  show (∑ k : Fin 2048, _ * W m c (ix2 k j)) + B m c (ix2 (⟨0, Nat.one_pos⟩ : Fin 1) j) = _
  by_cases h : j.val < 8224
  · rw [ref_left _ _ _ _ _ h, ref_apply, B_left m c j h]
    exact congrArg (· + _) (Finset.sum_congr rfl fun k _ => by rw [W_left m c k j h])
  by_cases h' : j.val < 8704
  · rw [ref_gap _ _ _ _ _ (by omega) h', B_gap m c j (by omega) h']
    refine (add_zero _).trans (Finset.sum_eq_zero fun k _ => ?_)
    rw [W_gap m c k j (by omega) h', mul_zero]
  · rw [ref_right _ _ _ _ _ (by omega), ref_apply, B_right m c j (by omega)]
    exact congrArg (· + _) (Finset.sum_congr rfl fun k _ => by rw [W_right m c k j (by omega)])

/-- The kernel and its reference have one result, from the same arguments. -/
theorem algebraic : Cert.algebraic_InProjIdeal_InProjRefIdeal := fun m ρ m' ρ' _ hag =>
  ⟨fun c => (dats m 0 c).arrAt 3 cfg0.N, Value.run_blocks m ρ,
    (θ_run _ _ _).mono (fun _ h c => ⟨(h c).1.trans (by
        rw [Cert.InProjRefIdeal.Read.val_main_v7_eq, (hag c).1, (hag c).2.1, (hag c).2.2]; exact (A_eq_ref m c).symm), (h c).2⟩)
      (Cert.InProjRefIdeal.Value.run m' ρ')⟩

end Cert.Proof.InProj

end
-- ==== Proof.BranchValue.lean ====
/- The value of `BranchIdeal`: every element of its result is the row of the first operand times the column of the second,
   plus the bias row's entry, whatever the grid's tiles. -/
module

public import proofs.«01_k».proof.Defs
public import proofs.«01_k».proof.Proof.Gen.BranchIdeal.Value
public import proofs.«01_k».proof.Proof.Mat
public import proofs.«01_k».proof.Proof.Gen.BranchRefIdeal.Run
public import Idealize.ShloMosaic.Lib.Pipeline.Value
public import Idealize.ShloMosaic.Lib.ValueIdx

@[expose] public section

set_option maxRecDepth 16384

noncomputable section

namespace Cert.Proof.Branch

open Cert.BranchIdeal Cert.BranchIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's one store covers the block and its loads are whole: what it leaves is the payload. -/
theorem out_eq (x0 : Vec Ideal S512x1024 .bf16) (x1 : Vec Ideal S1024x512 .bf16) (x2 : Vec Ideal S1x512 .f32) :
    out0_3 (F := Ideal) x0 x1 x2 = k0_pay1 x0 x1 x2 := by
  have hz : (![0, 0] : Fin 2 → Nat) = fun _ => 0 := funext fun a => by fin_cases a <;> rfl
  unfold out0_3
  rw [View.canon_unit_zero (S := S512x512) hz, View.ld_unit_zero (S := S512x1024) hz, View.ld_unit_zero (S := S1024x512) hz,
    View.ld_unit_zero (S := S1x512) hz]

/-- The payload at an index of the block. -/
theorem pay_apply (x0 : Vec Ideal S512x1024 .bf16) (x1 : Vec Ideal S1024x512 .bf16) (x2 : Vec Ideal S1x512 .f32) (y : S512x512.Idx) :
    k0_pay1 (F := Ideal) x0 x1 x2 y
      = ((∑ k : Fin 1024, (x0 (ix2 (y 0) k) : EReal) * x1 (ix2 k (y 1))) + x2 (ix2 (⟨0, Nat.one_pos⟩ : Fin 1) (y 1)) : EReal) := by
  show matmul (F := Ideal) dot_S512x1024_S1024x512_S512x512_1_0_0_1_n_n none (shapeCast S512x1024 x0 shapeCasts_S512x1024_S512x1024)
      (shapeCast S1024x512 x1 shapeCasts_S1024x512_S1024x512) (constant S512x512 .f32 0x00000000#32) y
      + broadcastTo S512x512 (shapeCast S1x512 x2 shapeCasts_S1x512_S1x512) broadcasts_S1x512_S512x512 y = _
  rw [shapeCast_self, shapeCast_self, shapeCast_self]
  have h1 := Mat.matmul_apply (M := 512) (K := 1024) (N := 512) (φ₁ := .bf16) (φ₂ := .bf16) dot_S512x1024_S1024x512_S512x512_1_0_0_1_n_n.wf x0 x1 y
  have h2 : broadcastTo S512x512 x2 broadcasts_S1x512_S512x512 y = x2 (ix2 (⟨0, Nat.one_pos⟩ : Fin 1) (y 1)) :=
    broadcastTo_apply x2 broadcasts_S1x512_S512x512 y (ix2 (⟨0, Nat.one_pos⟩ : Fin 1) (y 1)) (fun a => match a with
      | ⟨0, _⟩ => (if_pos rfl).symm
      | ⟨1, _⟩ => by simp)
  rw [h2]
  exact congrArg (· + _) h1

/-- The grid point of tile row `p` and tile column `q`. -/
def pt (p : Fin 32) (q : Fin 4) : Fin cfg0.N := ⟨p.val * 4 + q.val, by have := p.isLt; have := q.isLt; show _ < 128; omega⟩

theorem index0 : ∀ (p : Fin 32) (q : Fin 4), win0_0.index (pt p q) = ![p.val, 0] := by decide +kernel
theorem index1 : ∀ (p : Fin 32) (q : Fin 4), win0_1.index (pt p q) = ![0, q.val] := by decide +kernel
theorem index2 : ∀ (p : Fin 32) (q : Fin 4), win0_2.index (pt p q) = ![0, q.val] := by decide +kernel
theorem index3 : ∀ (p : Fin 32) (q : Fin 4), win0_3.index (pt p q) = ![p.val, q.val] := by decide +kernel

/-- Every grid point is one of these. -/
theorem pt_surj (t : Fin cfg0.N) : ∃ p q, t = pt p q := by
  have ht : t.val < 128 := t.isLt
  exact ⟨⟨t.val / 4, by omega⟩, ⟨t.val % 4, by omega⟩, Fin.ext (by show t.val = t.val / 4 * 4 + t.val % 4; omega)⟩

/-- Two points' tiles of the result share no element. -/
theorem apart (t t' : Fin cfg0.N) (_ : (cfg0.win 3).flush t = true) (_ : (cfg0.win 3).flush t' = true) (hne : t ≠ t') :
    Disjoint ((cfg0.win 3).blk t).view.set ((cfg0.win 3).blk t').view.set := by
  obtain ⟨p, q, rfl⟩ := pt_surj t
  obtain ⟨p', q', rfl⟩ := pt_surj t'
  refine (cfg0.win 3).disjoint_blk fun h => hne ?_
  have h' : (![p.val, q.val] : Fin 2 → Nat) = ![p'.val, q'.val] := (index3 p q).symm.trans (h.trans (index3 p' q'))
  have e0 : p = p' := Fin.ext (congrFun h' 0)
  have e1 : q = q' := Fin.ext (congrFun h' 1)
  rw [e0, e1]

/-- The operands as the region finds them, and the blocks read off them. -/
def X (c : Dev nD) : S16384x1024.Idx → EReal := V m c main_v0
def W (c : Dev nD) : S1024x2048.Idx → EReal := V m c main_v1
def B (c : Dev nD) : S1x2048.Idx → EReal := V m c main_v3
def b0 (c : Dev nD) (t : Fin cfg0.N) : S512x1024.Idx → EReal := iblk m c 0 t
def b1 (c : Dev nD) (t : Fin cfg0.N) : S1024x512.Idx → EReal := iblk m c 1 t
def b2 (c : Dev nD) (t : Fin cfg0.N) : S1x512.Idx → EReal := iblk m c 2 t
/-- The result array after the run. -/
def A (c : Dev nD) : S16384x2048.Idx → EReal := (dats m 0 c).arrAt 3 cfg0.N

/-- The blocks read at an index: the array at the tile's offset. -/
theorem b0_apply (c : Dev nD) (p : Fin 32) (q : Fin 4) (y : S512x1024.Idx) (i : S16384x1024.Idx)
    (h0 : (i 0).val = p.val * 512 + (y 0).val) (h1 : (i 1).val = (y 1).val) : b0 m c (pt p q) y = X m c i := by
  show X m c (((cfg0.win 0).blk (pt p q)).view.emb y) = _
  refine congrArg _ (funext fun a => Fin.ext ((win0_0.rect_emb_val (pt p q) y a).trans ?_))
  rw [index0]
  match a with
  | ⟨0, _⟩ => exact h0.symm
  | ⟨1, _⟩ => show 0 * _ + (y 1).val = (i 1).val; omega

theorem b1_apply (c : Dev nD) (p : Fin 32) (q : Fin 4) (y : S1024x512.Idx) (i : S1024x2048.Idx)
    (h0 : (i 0).val = (y 0).val) (h1 : (i 1).val = q.val * 512 + (y 1).val) : b1 m c (pt p q) y = W m c i := by
  show W m c (((cfg0.win 1).blk (pt p q)).view.emb y) = _
  refine congrArg _ (funext fun a => Fin.ext ((win0_1.rect_emb_val (pt p q) y a).trans ?_))
  rw [index1]
  match a with
  | ⟨0, _⟩ => show 0 * _ + (y 0).val = (i 0).val; omega
  | ⟨1, _⟩ => exact h1.symm

theorem b2_apply (c : Dev nD) (p : Fin 32) (q : Fin 4) (y : S1x512.Idx) (i : S1x2048.Idx)
    (h0 : (i 0).val = (y 0).val) (h1 : (i 1).val = q.val * 512 + (y 1).val) : b2 m c (pt p q) y = B m c i := by
  show B m c (((cfg0.win 2).blk (pt p q)).view.emb y) = _
  refine congrArg _ (funext fun a => Fin.ext ((win0_2.rect_emb_val (pt p q) y a).trans ?_))
  rw [index2]
  match a with
  | ⟨0, _⟩ => show 0 * _ + (y 0).val = (i 0).val; omega
  | ⟨1, _⟩ => exact h1.symm

/-- The result array, element by element: row times column plus the bias row's entry. -/
theorem A_apply (c : Dev nD) (i : S16384x2048.Idx) :
    A m c i = (∑ k : Fin 1024, X m c (ix2 (i 0) k) * W m c (ix2 k (i 1))) + B m c (ix2 (⟨0, Nat.one_pos⟩ : Fin 1) (i 1)) := by
  have hi0 : (i 0).val < 16384 := (i 0).isLt
  have hi1 : (i 1).val < 2048 := (i 1).isLt
  let p : Fin 32 := ⟨(i 0).val / 512, by omega⟩
  let q : Fin 4 := ⟨(i 1).val / 512, by omega⟩
  let y : S512x512.Idx := ix2 (⟨(i 0).val % 512, by omega⟩ : Fin 512) (⟨(i 1).val % 512, by omega⟩ : Fin 512)
  have e0 : (i 0).val = p.val * 512 + (y 0).val := by show _ = (i 0).val / 512 * 512 + (i 0).val % 512; omega
  have e1 : (i 1).val = q.val * 512 + (y 1).val := by show _ = (i 1).val / 512 * 512 + (i 1).val % 512; omega
  have hemb : ((cfg0.win 3).blk (pt p q)).view.emb y = i := funext fun a => Fin.ext ((win0_3.rect_emb_val (pt p q) y a).trans (by
    rw [index3]
    match a with
    | ⟨0, _⟩ => exact e0.symm
    | ⟨1, _⟩ => exact e1.symm))
  have hb : A m c (((cfg0.win 3).blk (pt p q)).view.emb y) = out0_3 (F := Ideal) (b0 m c (pt p q)) (b1 m c (pt p q)) (b2 m c (pt p q)) y :=
    (congrFun ((dats m 0 c).read_blk_arrAt_eq_flushed 3 apart cfg0.N (pt p q) (pt p q).isLt (flush0_3 _)) y).trans
      (congrFun (Value.flushed3 (F := Ideal) m c (pt p q)) y)
  rw [hemb, out_eq, pay_apply] at hb
  rw [hb]
  refine congrArg₂ (· + ·) (Finset.sum_congr rfl fun k _ => ?_) (b2_apply m c p q _ _ rfl e1)
  exact congrArg₂ (· * ·) (b0_apply m c p q (ix2 (y 0) k) (ix2 (i 0) k) e0 rfl) (b1_apply m c p q (ix2 k (y 1)) (ix2 k (i 1)) rfl e1)

/-- The operands are the arguments (a cast changes nothing here), and the bias row is zero. -/
theorem X_eq (c : Dev nD) : X m c = m ((c : Thread nD τ).loc main_arg0) := by
  show StableHlo.after hostOps0 _ _ = _
  after_results
  rfl

theorem W_eq (c : Dev nD) : W m c = m ((c : Thread nD τ).loc main_arg1) := by
  show StableHlo.after hostOps0 _ _ = _
  after_results
  rfl

theorem B_eq (c : Dev nD) (j : S1x2048.Idx) : B m c j = 0 := by
  have h : B m c = shapeCast S1x2048 (broadcastInDim S2048 ![] bcast_S_S2048 (constant (F := Ideal) S_ .f32 0x00000000#32)) shapeCasts_S2048_S1x2048 := by
    show StableHlo.after hostOps0 _ _ = _
    after_results
    rfl
  rw [h]
  exact Ideal.ofBits_zero_f32

/-- The result is the reference's product. -/
theorem A_eq_dot (c : Dev nD) :
    A m c = Host.dotGeneral (F := Ideal) (φ₁ := .f32) (φ₂ := .f32) Cert.BranchRefIdeal.dot_S16384x1024_S1024x2048_S16384x2048_1_0_0_1_n_n none
          (m ((c : Thread nD τ).loc main_arg0)) (m ((c : Thread nD τ).loc main_arg1)) := by
  funext i
  rw [A_apply, B_eq, X_eq, W_eq]
  exact (add_zero _).trans (Mat.dot_apply (M := 16384) (K := 1024) (N := 2048) (φ₁ := .f32) (φ₂ := .f32) Cert.BranchRefIdeal.dot_S16384x1024_S1024x2048_S16384x2048_1_0_0_1_n_n.wf _ _ i).symm

/-- The kernel and its reference have one result, from the same arguments. -/
theorem algebraic : Cert.algebraic_BranchIdeal_BranchRefIdeal := fun m ρ m' ρ' _ hag =>
  ⟨fun c => (dats m 0 c).arrAt 3 cfg0.N, Value.run_blocks m ρ,
    (θ_run _ _ _).mono (fun _ h c => ⟨(h c).1.trans (by rw [(hag c).1, (hag c).2]; exact (A_eq_dot m c).symm), (h c).2⟩)
      (Cert.BranchRefIdeal.Value.run m' ρ')⟩

end Cert.Proof.Branch

end
-- ==== Proof.OutProjValue.lean ====
/- The value of `OutProjIdeal`: every element of its result is the row of the first operand times the column of the second,
   plus the bias row's entry, whatever the grid's tiles. -/
module

public import proofs.«01_k».proof.Defs
public import proofs.«01_k».proof.Proof.Gen.OutProjIdeal.Value
public import proofs.«01_k».proof.Proof.Mat
public import proofs.«01_k».proof.Proof.Gen.OutProjRefIdeal.Run
public import Idealize.ShloMosaic.Lib.Pipeline.Value
public import Idealize.ShloMosaic.Lib.ValueIdx

@[expose] public section

set_option maxRecDepth 16384

noncomputable section

namespace Cert.Proof.OutProj

open Cert.OutProjIdeal Cert.OutProjIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's one store covers the block and its loads are whole: what it leaves is the payload. -/
theorem out_eq (x0 : Vec Ideal S512x2048 .bf16) (x1 : Vec Ideal S2048x512 .bf16) (x2 : Vec Ideal S1x512 .f32) :
    out0_3 (F := Ideal) x0 x1 x2 = k0_pay1 x0 x1 x2 := by
  have hz : (![0, 0] : Fin 2 → Nat) = fun _ => 0 := funext fun a => by fin_cases a <;> rfl
  unfold out0_3
  rw [View.canon_unit_zero (S := S512x512) hz, View.ld_unit_zero (S := S512x2048) hz, View.ld_unit_zero (S := S2048x512) hz,
    View.ld_unit_zero (S := S1x512) hz]

/-- The payload at an index of the block. -/
theorem pay_apply (x0 : Vec Ideal S512x2048 .bf16) (x1 : Vec Ideal S2048x512 .bf16) (x2 : Vec Ideal S1x512 .f32) (y : S512x512.Idx) :
    k0_pay1 (F := Ideal) x0 x1 x2 y
      = ((∑ k : Fin 2048, (x0 (ix2 (y 0) k) : EReal) * x1 (ix2 k (y 1))) + x2 (ix2 (⟨0, Nat.one_pos⟩ : Fin 1) (y 1)) : EReal) := by
  show matmul (F := Ideal) dot_S512x2048_S2048x512_S512x512_1_0_0_1_n_n none (shapeCast S512x2048 x0 shapeCasts_S512x2048_S512x2048)
      (shapeCast S2048x512 x1 shapeCasts_S2048x512_S2048x512) (constant S512x512 .f32 0x00000000#32) y
      + broadcastTo S512x512 (shapeCast S1x512 x2 shapeCasts_S1x512_S1x512) broadcasts_S1x512_S512x512 y = _
  rw [shapeCast_self, shapeCast_self, shapeCast_self]
  have h1 := Mat.matmul_apply (M := 512) (K := 2048) (N := 512) (φ₁ := .bf16) (φ₂ := .bf16) dot_S512x2048_S2048x512_S512x512_1_0_0_1_n_n.wf x0 x1 y
  have h2 : broadcastTo S512x512 x2 broadcasts_S1x512_S512x512 y = x2 (ix2 (⟨0, Nat.one_pos⟩ : Fin 1) (y 1)) :=
    broadcastTo_apply x2 broadcasts_S1x512_S512x512 y (ix2 (⟨0, Nat.one_pos⟩ : Fin 1) (y 1)) (fun a => match a with
      | ⟨0, _⟩ => (if_pos rfl).symm
      | ⟨1, _⟩ => by simp)
  rw [h2]
  exact congrArg (· + _) h1

/-- The grid point of tile row `p` and tile column `q`. -/
def pt (p : Fin 32) (q : Fin 4) : Fin cfg0.N := ⟨p.val * 4 + q.val, by have := p.isLt; have := q.isLt; show _ < 128; omega⟩

theorem index0 : ∀ (p : Fin 32) (q : Fin 4), win0_0.index (pt p q) = ![p.val, 0] := by decide +kernel
theorem index1 : ∀ (p : Fin 32) (q : Fin 4), win0_1.index (pt p q) = ![0, q.val] := by decide +kernel
theorem index2 : ∀ (p : Fin 32) (q : Fin 4), win0_2.index (pt p q) = ![0, q.val] := by decide +kernel
theorem index3 : ∀ (p : Fin 32) (q : Fin 4), win0_3.index (pt p q) = ![p.val, q.val] := by decide +kernel

/-- Every grid point is one of these. -/
theorem pt_surj (t : Fin cfg0.N) : ∃ p q, t = pt p q := by
  have ht : t.val < 128 := t.isLt
  exact ⟨⟨t.val / 4, by omega⟩, ⟨t.val % 4, by omega⟩, Fin.ext (by show t.val = t.val / 4 * 4 + t.val % 4; omega)⟩

/-- Two points' tiles of the result share no element. -/
theorem apart (t t' : Fin cfg0.N) (_ : (cfg0.win 3).flush t = true) (_ : (cfg0.win 3).flush t' = true) (hne : t ≠ t') :
    Disjoint ((cfg0.win 3).blk t).view.set ((cfg0.win 3).blk t').view.set := by
  obtain ⟨p, q, rfl⟩ := pt_surj t
  obtain ⟨p', q', rfl⟩ := pt_surj t'
  refine (cfg0.win 3).disjoint_blk fun h => hne ?_
  have h' : (![p.val, q.val] : Fin 2 → Nat) = ![p'.val, q'.val] := (index3 p q).symm.trans (h.trans (index3 p' q'))
  have e0 : p = p' := Fin.ext (congrFun h' 0)
  have e1 : q = q' := Fin.ext (congrFun h' 1)
  rw [e0, e1]

/-- The operands as the region finds them, and the blocks read off them. -/
def X (c : Dev nD) : S16384x2048.Idx → EReal := V m c main_v0
def W (c : Dev nD) : S2048x2048.Idx → EReal := V m c main_v1
def B (c : Dev nD) : S1x2048.Idx → EReal := V m c main_v3
def b0 (c : Dev nD) (t : Fin cfg0.N) : S512x2048.Idx → EReal := iblk m c 0 t
def b1 (c : Dev nD) (t : Fin cfg0.N) : S2048x512.Idx → EReal := iblk m c 1 t
def b2 (c : Dev nD) (t : Fin cfg0.N) : S1x512.Idx → EReal := iblk m c 2 t
/-- The result array after the run. -/
def A (c : Dev nD) : S16384x2048.Idx → EReal := (dats m 0 c).arrAt 3 cfg0.N

/-- The blocks read at an index: the array at the tile's offset. -/
theorem b0_apply (c : Dev nD) (p : Fin 32) (q : Fin 4) (y : S512x2048.Idx) (i : S16384x2048.Idx)
    (h0 : (i 0).val = p.val * 512 + (y 0).val) (h1 : (i 1).val = (y 1).val) : b0 m c (pt p q) y = X m c i := by
  show X m c (((cfg0.win 0).blk (pt p q)).view.emb y) = _
  refine congrArg _ (funext fun a => Fin.ext ((win0_0.rect_emb_val (pt p q) y a).trans ?_))
  rw [index0]
  match a with
  | ⟨0, _⟩ => exact h0.symm
  | ⟨1, _⟩ => show 0 * _ + (y 1).val = (i 1).val; omega

theorem b1_apply (c : Dev nD) (p : Fin 32) (q : Fin 4) (y : S2048x512.Idx) (i : S2048x2048.Idx)
    (h0 : (i 0).val = (y 0).val) (h1 : (i 1).val = q.val * 512 + (y 1).val) : b1 m c (pt p q) y = W m c i := by
  show W m c (((cfg0.win 1).blk (pt p q)).view.emb y) = _
  refine congrArg _ (funext fun a => Fin.ext ((win0_1.rect_emb_val (pt p q) y a).trans ?_))
  rw [index1]
  match a with
  | ⟨0, _⟩ => show 0 * _ + (y 0).val = (i 0).val; omega
  | ⟨1, _⟩ => exact h1.symm

theorem b2_apply (c : Dev nD) (p : Fin 32) (q : Fin 4) (y : S1x512.Idx) (i : S1x2048.Idx)
    (h0 : (i 0).val = (y 0).val) (h1 : (i 1).val = q.val * 512 + (y 1).val) : b2 m c (pt p q) y = B m c i := by
  show B m c (((cfg0.win 2).blk (pt p q)).view.emb y) = _
  refine congrArg _ (funext fun a => Fin.ext ((win0_2.rect_emb_val (pt p q) y a).trans ?_))
  rw [index2]
  match a with
  | ⟨0, _⟩ => show 0 * _ + (y 0).val = (i 0).val; omega
  | ⟨1, _⟩ => exact h1.symm

/-- The result array, element by element: row times column plus the bias row's entry. -/
theorem A_apply (c : Dev nD) (i : S16384x2048.Idx) :
    A m c i = (∑ k : Fin 2048, X m c (ix2 (i 0) k) * W m c (ix2 k (i 1))) + B m c (ix2 (⟨0, Nat.one_pos⟩ : Fin 1) (i 1)) := by
  have hi0 : (i 0).val < 16384 := (i 0).isLt
  have hi1 : (i 1).val < 2048 := (i 1).isLt
  let p : Fin 32 := ⟨(i 0).val / 512, by omega⟩
  let q : Fin 4 := ⟨(i 1).val / 512, by omega⟩
  let y : S512x512.Idx := ix2 (⟨(i 0).val % 512, by omega⟩ : Fin 512) (⟨(i 1).val % 512, by omega⟩ : Fin 512)
  have e0 : (i 0).val = p.val * 512 + (y 0).val := by show _ = (i 0).val / 512 * 512 + (i 0).val % 512; omega
  have e1 : (i 1).val = q.val * 512 + (y 1).val := by show _ = (i 1).val / 512 * 512 + (i 1).val % 512; omega
  have hemb : ((cfg0.win 3).blk (pt p q)).view.emb y = i := funext fun a => Fin.ext ((win0_3.rect_emb_val (pt p q) y a).trans (by
    rw [index3]
    match a with
    | ⟨0, _⟩ => exact e0.symm
    | ⟨1, _⟩ => exact e1.symm))
  have hb : A m c (((cfg0.win 3).blk (pt p q)).view.emb y) = out0_3 (F := Ideal) (b0 m c (pt p q)) (b1 m c (pt p q)) (b2 m c (pt p q)) y :=
    (congrFun ((dats m 0 c).read_blk_arrAt_eq_flushed 3 apart cfg0.N (pt p q) (pt p q).isLt (flush0_3 _)) y).trans
      (congrFun (Value.flushed3 (F := Ideal) m c (pt p q)) y)
  rw [hemb, out_eq, pay_apply] at hb
  rw [hb]
  refine congrArg₂ (· + ·) (Finset.sum_congr rfl fun k _ => ?_) (b2_apply m c p q _ _ rfl e1)
  exact congrArg₂ (· * ·) (b0_apply m c p q (ix2 (y 0) k) (ix2 (i 0) k) e0 rfl) (b1_apply m c p q (ix2 k (y 1)) (ix2 k (i 1)) rfl e1)

/-- The operands are the arguments (a cast changes nothing here), and the bias row is zero. -/
theorem X_eq (c : Dev nD) : X m c = m ((c : Thread nD τ).loc main_arg0) := by
  show StableHlo.after hostOps0 _ _ = _
  after_results
  rfl

theorem W_eq (c : Dev nD) : W m c = m ((c : Thread nD τ).loc main_arg1) := by
  show StableHlo.after hostOps0 _ _ = _
  after_results
  rfl

theorem B_eq (c : Dev nD) (j : S1x2048.Idx) : B m c j = 0 := by
  have h : B m c = shapeCast S1x2048 (broadcastInDim S2048 ![] bcast_S_S2048 (constant (F := Ideal) S_ .f32 0x00000000#32)) shapeCasts_S2048_S1x2048 := by
    show StableHlo.after hostOps0 _ _ = _
    after_results
    rfl
  rw [h]
  exact Ideal.ofBits_zero_f32

/-- The result is the reference's product. -/
theorem A_eq_dot (c : Dev nD) :
    A m c = Host.dotGeneral (F := Ideal) (φ₁ := .f32) (φ₂ := .f32) Cert.OutProjRefIdeal.dot_S16384x2048_S2048x2048_S16384x2048_1_0_0_1_n_n none
          (m ((c : Thread nD τ).loc main_arg0)) (m ((c : Thread nD τ).loc main_arg1)) := by
  funext i
  rw [A_apply, B_eq, X_eq, W_eq]
  exact (add_zero _).trans (Mat.dot_apply (M := 16384) (K := 2048) (N := 2048) (φ₁ := .f32) (φ₂ := .f32) Cert.OutProjRefIdeal.dot_S16384x2048_S2048x2048_S16384x2048_1_0_0_1_n_n.wf _ _ i).symm

/-- The kernel and its reference have one result, from the same arguments. -/
theorem algebraic : Cert.algebraic_OutProjIdeal_OutProjRefIdeal := fun m ρ m' ρ' _ hag =>
  ⟨fun c => (dats m 0 c).arrAt 3 cfg0.N, Value.run_blocks m ρ,
    (θ_run _ _ _).mono (fun _ h c => ⟨(h c).1.trans (by rw [(hag c).1, (hag c).2]; exact (A_eq_dot m c).symm), (h c).2⟩)
      (Cert.OutProjRefIdeal.Value.run m' ρ')⟩

end Cert.Proof.OutProj

end
-- ==== Proof.NormValue.lean ====
/- The value of `NormIdeal`: every row divided by the root of its mean square plus the small constant, times the weight. -/
module

public import proofs.«01_k».proof.Defs
public import proofs.«01_k».proof.Proof.Gen.NormIdeal.Value
public import proofs.«01_k».proof.Proof.Gen.NormRefIdeal.Run
public import proofs.«01_k».proof.Proof.Gen.NormRefIdeal.Read
public import proofs.«01_k».proof.Proof.Mat
public import Idealize.ShloMosaic.Lib.Pipeline.Value
public import Idealize.ShloMosaic.Lib.ValueIdx

@[expose] public section

set_option maxRecDepth 16384

noncomputable section

namespace Cert.Proof.Norm

open Cert.NormIdeal Cert.NormIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What a row entry `a` becomes in a row whose squares sum to `s`, with weight `w`. -/
def scaled (a s w : EReal) : EReal :=
  FloatOps.mulf (F := Ideal) (φ := .f32) (FloatOps.mulf (F := Ideal) (φ := .f32) a
    (FloatOps.rsqrt (F := Ideal) (φ := .f32) (FloatOps.addf (F := Ideal) (φ := .f32)
      (FloatOps.divf (F := Ideal) (φ := .f32) s (FloatOps.ofBits .f32 0x45000000#32)) (FloatOps.ofBits .f32 0x358637BD#32)))) w

/-- The body's store leaves the scaled rows of the block. -/
theorem out_apply (x0 : Vec Ideal S512x2048 .f32) (x1 : Vec Ideal S1x2048 .f32) (y : S512x2048.Idx) :
    out0_2 (F := Ideal) x0 x1 y
      = scaled (x0 y) (∑ k : Fin 2048, (x0 (ix2 (y 0) k) : EReal) * x0 (ix2 (y 0) k)) (x1 (ix2 (⟨0, Nat.one_pos⟩ : Fin 1) (y 1))) := by
  have hz : (![0, 0] : Fin 2 → Nat) = fun _ => 0 := funext fun a => by fin_cases a <;> rfl
  unfold out0_2
  rw [View.ld_unit_zero (S := S512x2048) hz, View.ld_unit_zero (S := S1x2048) hz, Value.canon2_eq]
  have hs : (multiReduction (F := Ideal) .add [1] S512 (mulf x0 x0) 0x00000000#32 reduces_S512x2048_S512 (.inl rfl) rfl) (Value.ix2_1 y)
      = (∑ k : Fin 2048, (x0 (ix2 (y 0) k) : EReal) * x0 (ix2 (y 0) k) : EReal) := by
    refine (Ideal.multiReduction_add_single _ _ _ _ _ _).trans ?_
    refine Finset.sum_congr rfl fun k _ => ?_
    have e : ∀ z : S512x2048.Idx, (z 0).val = (y 0).val → (z 1).val = k.val → ((x0 z : EReal) * x0 z) = x0 (ix2 (y 0) k) * x0 (ix2 (y 0) k) := fun z h0 h1 => by
      have hz : z = ix2 (y 0) k := funext fun a => Fin.ext (match a with | ⟨0, _⟩ => h0 | ⟨1, _⟩ => h1)
      rw [hz]; rfl
    exact e _ rfl rfl
  have h0 : Value.ix2_0 y = y := funext fun a => match a with | ⟨0, _⟩ => rfl | ⟨1, _⟩ => rfl
  have h2 : Value.ix2_2 y = ix2 (⟨0, Nat.one_pos⟩ : Fin 1) (y 1) := funext fun a => match a with | ⟨0, _⟩ => rfl | ⟨1, _⟩ => rfl
  show scaled (x0 (Value.ix2_0 y)) (multiReduction (F := Ideal) .add [1] S512 (mulf x0 x0) 0x00000000#32 reduces_S512x2048_S512 (.inl rfl) rfl (Value.ix2_1 y)) (x1 (Value.ix2_2 y)) = _
  rw [hs, h0, h2]
  rfl

/-- The grid point of row block `p`. -/
def pt (p : Fin 32) : Fin cfg0.N := ⟨p.val, p.isLt⟩

theorem index0 : ∀ p : Fin 32, win0_0.index (pt p) = ![p.val, 0] := by decide +kernel
theorem index1 : ∀ p : Fin 32, win0_1.index (pt p) = ![0, 0] := by decide +kernel
theorem index2 : ∀ p : Fin 32, win0_2.index (pt p) = ![p.val, 0] := by decide +kernel

/-- The operands as the region finds them, the blocks read off them, and the result array after the run. -/
def X (c : Dev nD) : S16384x2048.Idx → EReal := V m c main_arg0
def W (c : Dev nD) : S1x2048.Idx → EReal := V m c main_v0
def b0 (c : Dev nD) (t : Fin cfg0.N) : S512x2048.Idx → EReal := iblk m c 0 t
def b1 (c : Dev nD) (t : Fin cfg0.N) : S1x2048.Idx → EReal := iblk m c 1 t
def A (c : Dev nD) : S16384x2048.Idx → EReal := (dats m 0 c).arrAt 2 cfg0.N

theorem b0_apply (c : Dev nD) (p : Fin 32) (y : S512x2048.Idx) (i : S16384x2048.Idx)
    (h0 : (i 0).val = p.val * 512 + (y 0).val) (h1 : (i 1).val = (y 1).val) : b0 m c (pt p) y = X m c i := by
  show X m c (((cfg0.win 0).blk (pt p)).view.emb y) = _
  refine congrArg _ (funext fun a => Fin.ext ((win0_0.rect_emb_val (pt p) y a).trans ?_))
  rw [index0]
  match a with
  | ⟨0, _⟩ => exact h0.symm
  | ⟨1, _⟩ => show 0 * _ + (y 1).val = (i 1).val; omega

theorem b1_eq (c : Dev nD) (p : Fin 32) : b1 m c (pt p) = W m c := by
  funext y
  show W m c (((cfg0.win 1).blk (pt p)).view.emb y) = _
  refine congrArg _ (funext fun a => Fin.ext ((win0_1.rect_emb_val (pt p) y a).trans ?_))
  rw [index1]
  match a with
  | ⟨0, _⟩ => show 0 * _ + (y 0).val = (y 0).val; omega
  | ⟨1, _⟩ => show 0 * _ + (y 1).val = (y 1).val; omega

/-- The result array, element by element. -/
theorem A_apply (c : Dev nD) (i : S16384x2048.Idx) :
    A m c i = scaled (X m c i) (∑ k : Fin 2048, X m c (ix2 (i 0) k) * X m c (ix2 (i 0) k)) (W m c (ix2 (⟨0, Nat.one_pos⟩ : Fin 1) (i 1))) := by
  have hi0 : (i 0).val < 16384 := (i 0).isLt
  let p : Fin 32 := ⟨(i 0).val / 512, by omega⟩
  let y : S512x2048.Idx := ix2 (⟨(i 0).val % 512, by omega⟩ : Fin 512) (i 1)
  have e0 : (i 0).val = p.val * 512 + (y 0).val := by show _ = (i 0).val / 512 * 512 + (i 0).val % 512; omega
  have hemb : ((cfg0.win 2).blk (pt p)).view.emb y = i := funext fun a => Fin.ext ((win0_2.rect_emb_val (pt p) y a).trans (by
    rw [index2]
    match a with
    | ⟨0, _⟩ => exact e0.symm
    | ⟨1, _⟩ => show 0 * _ + (i 1).val = (i 1).val; omega))
  have hb : A m c (((cfg0.win 2).blk (pt p)).view.emb y) = out0_2 (F := Ideal) (b0 m c (pt p)) (b1 m c (pt p)) y :=
    (congrFun (Value.blocks2 (F := Ideal) m c (pt p) (flush0_2 _)) y).trans
      (congrFun (Value.flushed2 (F := Ideal) m c (pt p)) y)
  rw [hemb, out_apply, b1_eq, b0_apply m c p y i e0 rfl] at hb
  rw [hb]
  refine congrArg₂ (scaled _) (Finset.sum_congr rfl fun k _ => ?_) rfl
  rw [b0_apply m c p (ix2 (y 0) k) (ix2 (i 0) k) e0 rfl]

theorem X_eq (c : Dev nD) : X m c = m ((c : Thread nD τ).loc main_arg0) := V_main_arg0 m c

/-- The weight row is the weight argument. -/
theorem W_apply (c : Dev nD) (j : Fin 2048) : W m c (ix2 (⟨0, Nat.one_pos⟩ : Fin 1) j) = (m ((c : Thread nD τ).loc main_arg1) : S2048.Idx → EReal) (ix1 j) := by
  have h : W m c = shapeCast S1x2048 (m ((c : Thread nD τ).loc main_arg1) : S2048.Idx → EReal) shapeCasts_S2048_S1x2048 := by
    show StableHlo.after hostOps0 _ _ = _
    after_results
    rfl
  rw [h]
  exact Mat.row_apply _ _ j

open Cert.NormRefIdeal.Read in
/-- The reference's value at an index. -/
theorem ref_apply (x : S16384x2048.Idx → EReal) (w : S2048.Idx → EReal) (i : S16384x2048.Idx) :
    val_main_v12 (F := Ideal) x w i = scaled (x i) (∑ k : Fin 2048, x (ix2 (i 0) k) * x (ix2 (i 0) k)) (w (ix1 (i 1))) := by
  rw [val_main_v12_apply, val_main_v9_apply, val_main_v8_apply, val_main_v7_apply, val_main_v6_apply, val_main_v4_apply, val_main_v2_apply,
    val_main_v1_apply, val_main_v11_apply, val_main_v10_apply, val_main_v5_apply, val_main_v3_apply]
  have hs : ((val_main_cst (F := Ideal)) (Shape.Idx.first Cert.NormRefIdeal.Gen.h_S_) + ∑ k : Fin 2048, (val_main_v0 (F := Ideal) x) (idx_main_v1 (idx_main_v2 (idx_main_v8 i)) k) : EReal)
      = ∑ k : Fin 2048, x (ix2 (i 0) k) * x (ix2 (i 0) k) := by
    show Ideal.ofBits .f32 0x00000000#32 + _ = _
    rw [Ideal.ofBits_zero_f32, zero_add]
    refine Finset.sum_congr rfl fun k _ => ?_
    have e : idx_main_v1 (idx_main_v2 (idx_main_v8 i)) k = ix2 (i 0) k := funext fun a => match a with | ⟨0, _⟩ => rfl | ⟨1, _⟩ => rfl
    rw [e]; rfl
  rw [hs]
  have hw : idx_main_v10 (idx_main_v11 i) = ix1 (i 1) := funext fun a => match a with | ⟨0, _⟩ => rfl
  rw [hw]
  rfl

/-- The kernel and its reference have one result, from the same arguments. -/
theorem A_eq_ref (c : Dev nD) :
    A m c = Cert.NormRefIdeal.Read.val_main_v12 (F := Ideal) (m ((c : Thread nD τ).loc main_arg0)) (m ((c : Thread nD τ).loc main_arg1)) := by
  funext i
  rw [A_apply, X_eq]
  exact (congrArg (scaled _ _) (W_apply m c (i 1))).trans (ref_apply _ _ i).symm

theorem algebraic : Cert.algebraic_NormIdeal_NormRefIdeal := fun m ρ m' ρ' _ hag =>
  ⟨fun c => (dats m 0 c).arrAt 2 cfg0.N, Value.run_blocks m ρ,
    (θ_run _ _ _).mono (fun _ h c => ⟨(h c).1.trans (by
        rw [Cert.NormRefIdeal.Read.val_main_v12_eq, (hag c).1, (hag c).2]; exact (A_eq_ref m c).symm), (h c).2⟩)
      (Cert.NormRefIdeal.Value.run m' ρ')⟩

end Cert.Proof.Norm

end
-- ==== Proof.GlaReal.lean ====
/- The recurrence over the real numbers: a pass over the blocks of 128 rows from the last to the first, each block adding its rows
   to a carried state, gives the sums over all the later rows at once. Nothing here knows of the programs. -/
module

public import Idealize.ShloMosaic.Lib.ValueIdxCore
public import Idealize.ShloMosaic.PureOps.Ideal.Laws
public import Idealize.ShloMosaic.Lib.Pipeline.Value
public import Mathlib.Algebra.BigOperators.Intervals
public import Mathlib.Tactic.Ring

@[expose] public section

noncomputable section

namespace Cert.Proof.Gla

open Finset

/-- The rows of a block are the range of its positions. -/
theorem block_sum (f : ℕ → ℝ) (j : ℕ) : ∑ s : Fin 128, f (128 * j + s.val) = ∑ r ∈ Ico (128 * j) (128 * (j + 1)), f r := by
  rw [Finset.sum_Ico_eq_sum_range, Finset.sum_range]
  have h : 128 * (j + 1) - 128 * j = 128 := by omega
  rw [h]

/-- The later rows of a block. -/
theorem block_tail (f : ℕ → ℝ) (j : ℕ) (t : Fin 128) :
    ∑ s : Fin 128, (if t ≤ s then f (128 * j + s.val) else 0) = ∑ r ∈ Ico (128 * j + t.val) (128 * (j + 1)), f r := by
  have ht := t.isLt
  have h := block_sum (fun r => if 128 * j + t.val ≤ r then f r else 0) j
  have e : ∀ s : Fin 128, (if t ≤ s then f (128 * j + s.val) else 0) = if 128 * j + t.val ≤ 128 * j + s.val then f (128 * j + s.val) else 0 := by
    intro s
    refine if_congr ?_ rfl rfl
    rw [Fin.le_def]; omega
  rw [Finset.sum_congr rfl fun s _ => e s, h, ← Finset.sum_filter]
  refine Finset.sum_congr ?_ fun _ _ => rfl
  ext r
  simp only [Finset.mem_filter, Finset.mem_Ico]
  omega

/-- The later rows of the whole sequence. -/
theorem seq_tail (N : ℕ) (f : ℕ → ℝ) (p : ℕ) : ∑ r : Fin N, (if p ≤ r.val then f r.val else 0) = ∑ r ∈ Ico p N, f r := by
  rw [← Finset.sum_range fun r => if p ≤ r then f r else 0, ← Finset.sum_filter]
  refine Finset.sum_congr ?_ fun _ _ => rfl
  ext r
  simp only [Finset.mem_filter, Finset.mem_Ico, Finset.mem_range]
  omega

/-- The length of the sequence. -/
abbrev len : ℕ := 16384

/-- The sum of the later entries, this one included. -/
def tail (g : ℕ → ℝ) (p : ℕ) : ℝ := ∑ r ∈ Ico p len, g r

/-- A block's own sum of later entries is the difference of two of the sequence's. -/
theorem block_tail_eq (g : ℕ → ℝ) (j : ℕ) (hj : j < 128) (t : Fin 128) :
    ∑ s : Fin 128, (if t ≤ s then g (128 * j + s.val) else 0) = tail g (128 * j + t.val) - tail g (128 * (j + 1)) := by
  have ht := t.isLt
  rw [block_tail, tail, tail, eq_sub_iff_add_eq]
  exact Finset.sum_Ico_consecutive g (by omega) (by unfold len; omega)

/-- What is carried into a block from the rows from `p` on: the given state, and each later row's product, decayed. -/
def carry (g k v : ℕ → ℝ) (s₀ : ℝ) (p : ℕ) : ℝ :=
  Real.exp (tail g p) * s₀ + ∑ r ∈ Ico p len, k r * Real.exp (tail g p - tail g r) * v r

theorem carry_last (g k v : ℕ → ℝ) (s₀ : ℝ) : carry g k v s₀ len = s₀ := by
  simp [carry, tail]

/-- Decaying what is carried over a span. -/
theorem decay_carry (g k v : ℕ → ℝ) (s₀ : ℝ) (p p' : ℕ) :
    Real.exp (tail g p - tail g p') * carry g k v s₀ p'
      = Real.exp (tail g p) * s₀ + ∑ r ∈ Ico p' len, k r * Real.exp (tail g p - tail g r) * v r := by
  unfold carry
  rw [mul_add, ← mul_assoc, ← Real.exp_add, sub_add_cancel, Finset.mul_sum]
  refine congrArg₂ (· + ·) rfl (Finset.sum_congr rfl fun r _ => ?_)
  rw [show tail g p - tail g r = (tail g p - tail g p') + (tail g p' - tail g r) by ring, Real.exp_add]
  ring

/-- One block's update of the state. -/
theorem carry_step (g k v : ℕ → ℝ) (s₀ : ℝ) (j : ℕ) (hj : j < 128) (c : Fin 128 → ℝ) (z : Fin 128)
    (hz : z.val = 0) (hc : ∀ t, c t = tail g (128 * j + t.val) - tail g (128 * (j + 1))) :
    carry g k v s₀ (128 * (j + 1)) * Real.exp (c z) + ∑ s : Fin 128, v (128 * j + s.val) * (k (128 * j + s.val) * Real.exp (c z - c s))
      = carry g k v s₀ (128 * j) := by
  have h0 : c z = tail g (128 * j) - tail g (128 * (j + 1)) := by rw [hc, hz, add_zero]
  have e : ∀ s : Fin 128, v (128 * j + s.val) * (k (128 * j + s.val) * Real.exp (c z - c s))
      = (fun r => k r * Real.exp (tail g (128 * j) - tail g r) * v r) (128 * j + s.val) := by
    intro s
    rw [h0, hc]
    show _ = k _ * Real.exp _ * v _
    rw [show tail g (128 * j) - tail g (128 * (j + 1)) - (tail g (128 * j + s.val) - tail g (128 * (j + 1)))
      = tail g (128 * j) - tail g (128 * j + s.val) by ring]
    ring
  rw [Finset.sum_congr rfl fun s _ => e s, block_sum (fun r => k r * Real.exp (tail g (128 * j) - tail g r) * v r), mul_comm, h0, decay_carry, carry, add_assoc,
    add_comm (∑ r ∈ Ico (128 * (j + 1)) len, _)]
  exact congrArg₂ (· + ·) rfl (Finset.sum_Ico_consecutive _ (by omega) (by unfold len; omega))

/-- One block's rows of the result: the state's part and the block's own rows are the sequence's rows together. -/
theorem row_eq {κ : Type} [Fintype κ] (g k q : κ → ℕ → ℝ) (S : κ → ℝ) (v : ℕ → ℝ) (j : ℕ) (hj : j < 128) (c : κ → Fin 128 → ℝ) (t : Fin 128)
    (hc : ∀ x t, c x t = tail (g x) (128 * j + t.val) - tail (g x) (128 * (j + 1))) :
    (∑ x, q x (128 * j + t.val) * Real.exp (c x t) * carry (g x) (k x) v (S x) (128 * (j + 1)))
        + ∑ s : Fin 128, (if t ≤ s then ∑ x, q x (128 * j + t.val) * k x (128 * j + s.val) * Real.exp (c x t - c x s) else 0) * v (128 * j + s.val)
      = (∑ x, q x (128 * j + t.val) * Real.exp (tail (g x) (128 * j + t.val)) * S x)
        + ∑ r ∈ Ico (128 * j + t.val) len,
            (∑ x, q x (128 * j + t.val) * k x r * Real.exp (tail (g x) (128 * j + t.val) - tail (g x) r)) * v r := by
  have ht := t.isLt
  have e1 : ∀ x, q x (128 * j + t.val) * Real.exp (c x t) * carry (g x) (k x) v (S x) (128 * (j + 1))
      = q x (128 * j + t.val) * Real.exp (tail (g x) (128 * j + t.val)) * S x
        + ∑ r ∈ Ico (128 * (j + 1)) len, (q x (128 * j + t.val) * k x r * Real.exp (tail (g x) (128 * j + t.val) - tail (g x) r)) * v r := by
    intro x
    rw [hc, mul_assoc, decay_carry, mul_add, Finset.mul_sum, mul_assoc]
    refine congrArg₂ (· + ·) rfl (Finset.sum_congr rfl fun r _ => ?_)
    ring
  have e2 : ∀ s : Fin 128, (if t ≤ s then ∑ x, q x (128 * j + t.val) * k x (128 * j + s.val) * Real.exp (c x t - c x s) else 0) * v (128 * j + s.val)
      = if t ≤ s then (fun r => (∑ x, q x (128 * j + t.val) * k x r * Real.exp (tail (g x) (128 * j + t.val) - tail (g x) r)) * v r) (128 * j + s.val) else 0 := by
    intro s
    rw [ite_mul, zero_mul]
    refine if_congr Iff.rfl ?_ rfl
    refine congrArg (· * _) (Finset.sum_congr rfl fun x _ => ?_)
    rw [hc, hc, show tail (g x) (128 * j + t.val) - tail (g x) (128 * (j + 1)) - (tail (g x) (128 * j + s.val) - tail (g x) (128 * (j + 1)))
      = tail (g x) (128 * j + t.val) - tail (g x) (128 * j + s.val) by ring]
  rw [Finset.sum_congr rfl fun x _ => e1 x, Finset.sum_congr rfl fun s _ => e2 s,
    block_tail (fun r => (∑ x, q x (128 * j + t.val) * k x r * Real.exp (tail (g x) (128 * j + t.val) - tail (g x) r)) * v r), Finset.sum_add_distrib, add_assoc,
    Finset.sum_comm, Finset.sum_congr rfl fun r _ => (Finset.sum_mul _ _ _).symm, add_comm (∑ r ∈ Ico (128 * (j + 1)) len, _)]
  exact congrArg₂ (· + ·) rfl (Finset.sum_Ico_consecutive _ (by omega) (by unfold len; omega))

/-! ## The levels of a block of 128 rows -/

/-- Row `t` is in the lower half and row `s` in the upper half of one block of `2 b` rows. -/
def meets (b t s : ℕ) : Bool := (t / (2 * b) == s / (2 * b)) && (s / b % 2 == 1) && (t / b % 2 == 0)

/-- Every pair of different rows meets at one level, the earlier row first. -/
theorem meets_once : ∀ t s : Fin 128,
    ((if meets 1 t.val s.val then 1 else 0) + (if meets 2 t.val s.val then 1 else 0) + (if meets 4 t.val s.val then 1 else 0)
      + (if meets 8 t.val s.val then 1 else 0) + (if meets 16 t.val s.val then 1 else 0) + (if meets 32 t.val s.val then 1 else 0)
      + (if meets 64 t.val s.val then 1 else 0) : ℕ) = if t < s then 1 else 0 := by decide +kernel

/-- The distance of a row from the middle of its block of `2 b` rows. -/
def arm (b : ℕ) (c : ℕ → ℝ) (t : ℕ) : ℝ :=
  if t / b % 2 = 1 then c t - c (t / (2 * b) * (2 * b) + b) else c (t / (2 * b) * (2 * b) + b) - c t

theorem arm_meets (b : ℕ) (c : ℕ → ℝ) (t s : ℕ) (h : meets b t s = true) : arm b c t + arm b c s = c s - c t := by
  unfold meets at h
  simp only [Bool.and_eq_true, beq_iff_eq] at h
  obtain ⟨⟨h1, h2⟩, h3⟩ := h
  unfold arm
  rw [if_neg (by omega), if_pos h2, h1]
  ring

end Cert.Proof.Gla

end
-- ==== Proof.GlaHead.lean ====
/- One head of one block of the recurrence at the exact arithmetic: the operations the body does, and what they are at an index on
   real data. -/
module

public import proofs.«01_k».proof.Defs
public import proofs.«01_k».proof.Proof.Mat
public import proofs.«01_k».proof.Proof.Gen.GlaBwdIdeal.Skeleton
public import proofs.«01_k».proof.Proof.GlaReal

@[expose] public section

set_option maxRecDepth 16384

noncomputable section

namespace Cert.Proof.Gla

open Cert.GlaBwdIdeal Cert.GlaBwdIdeal.Gen Idealize.ShloMosaic Idealize.ShloMosaic.ValueIdx

/-! ## Real data -/

/-- A matrix of real numbers. -/
def R2 {a b : Nat} (x : (⟨2, ![a, b]⟩ : Shape).Idx → EReal) (r : ℕ → ℕ → ℝ) : Prop :=
  ∀ (i : Fin a) (j : Fin b), x (ix2 i j) = ((r i.val j.val : ℝ) : EReal)

/-- One sheet of real numbers. -/
def R3 {a b : Nat} (x : (⟨3, ![1, a, b]⟩ : Shape).Idx → EReal) (r : ℕ → ℕ → ℝ) : Prop :=
  ∀ (i : Fin a) (j : Fin b), x (ix3 (⟨0, Nat.one_pos⟩ : Fin 1) i j) = ((r i.val j.val : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem zero_sub_coe (x : ℝ) : (0 : EReal) - (x : EReal) = ((0 - x : ℝ) : EReal) := by rw [EReal.coe_sub]; rfl

theorem coe_abs' (x : ℝ) : max (x : EReal) (-(x : EReal)) = ((|x| : ℝ) : EReal) := by
  rw [← EReal.coe_neg, abs_eq_max_neg]
  exact (EReal.coe_strictMono.monotone.map_max).symm

theorem coe_min0 (x : ℝ) : min (x : EReal) 0 = ((min x 0 : ℝ) : EReal) :=
  (EReal.coe_strictMono.monotone.map_min (a := x) (b := 0)).symm

theorem coe_max0 (x : ℝ) : max (x : EReal) 0 = ((max x 0 : ℝ) : EReal) :=
  (EReal.coe_strictMono.monotone.map_max (a := x) (b := 0)).symm

theorem exp_coe (x : ℝ) : Ideal.exp (x : EReal) = ((Real.exp x : ℝ) : EReal) := rfl

theorem log1p_coe (x : ℝ) (hx : 0 < x) : Ideal.log (1 + (x : EReal)) = ((Real.log (1 + x) : ℝ) : EReal) := by
  have h : (1 : EReal) + (x : EReal) = ((1 + x : ℝ) : EReal) := by rw [EReal.coe_add]; rfl
  rw [h]
  exact if_neg (not_le.mpr (by linarith))

/-! ## Products of matrices, one of them lying on its side -/

/-- Rows times rows. -/
abbrev dimsNT (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- Columns times columns. -/
abbrev dimsTN (M K N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem sumNT {M K N : Nat} (wf : DotDims.WF ⟨2, ![M, K]⟩ ⟨2, ![N, K]⟩ ⟨2, ![M, N]⟩ [1] [1] [0] [0] [] [])
    (f : (⟨2, ![M, K]⟩ : Shape).Idx → EReal) (g : (⟨2, ![N, K]⟩ : Shape).Idx → EReal) (i : (⟨2, ![M, N]⟩ : Shape).Idx) :
    ∑ q : (dimsNT M K N wf).contr.Idx, f ((dimsNT M K N wf).lhsIdx i q) * g ((dimsNT M K N wf).rhsIdx i q)
      = ∑ k : Fin K, f (ix2 (i 0) k) * g (ix2 (i 1) k) := by
  rw [← Equiv.sum_comp (contrEquiv1 (dimsNT M K N wf) K rfl rfl).symm]
  refine Finset.sum_congr rfl fun k _ => ?_
  have hk := contrEquiv1_symm_val (dimsNT M K N wf) K rfl rfl k
  generalize (contrEquiv1 (dimsNT M K N wf) K rfl rfl).symm k = q at hk
  have el : (dimsNT M K N wf).lhsIdx i q = ix2 (i 0) k := funext fun a => Fin.ext (by
    match a with
    | ⟨0, _⟩ =>
      show ((dimsNT M K N wf).lhsIdx i q 0).val = _
      unfold DotDims.lhsIdx
      rw [dif_neg (show ¬ (0 : Fin 2) ∈ (dimsNT M K N wf).lhsBatch by simp),
        dif_pos (show (0 : Fin 2) ∈ (dimsNT M K N wf).lhsNonContracting by simp)]
      rfl
    | ⟨1, _⟩ => exact ((dimsNT M K N wf).lhsIdx_val_of_single rfl i q).trans hk)
  have er : (dimsNT M K N wf).rhsIdx i q = ix2 (i 1) k := funext fun a => Fin.ext (by
    match a with
    | ⟨0, _⟩ =>
      show ((dimsNT M K N wf).rhsIdx i q 0).val = _
      unfold DotDims.rhsIdx
      rw [dif_neg (show ¬ (0 : Fin 2) ∈ (dimsNT M K N wf).rhsBatch by simp),
        dif_pos (show (0 : Fin 2) ∈ (dimsNT M K N wf).rhsNonContracting by simp)]
      rfl
    | ⟨1, _⟩ => exact ((dimsNT M K N wf).rhsIdx_val_of_single rfl i q).trans hk)
  rw [el, er]
  rfl

theorem sumTN {M K N : Nat} (wf : DotDims.WF ⟨2, ![K, M]⟩ ⟨2, ![K, N]⟩ ⟨2, ![M, N]⟩ [0] [0] [1] [1] [] [])
    (f : (⟨2, ![K, M]⟩ : Shape).Idx → EReal) (g : (⟨2, ![K, N]⟩ : Shape).Idx → EReal) (i : (⟨2, ![M, N]⟩ : Shape).Idx) :
    ∑ q : (dimsTN M K N wf).contr.Idx, f ((dimsTN M K N wf).lhsIdx i q) * g ((dimsTN M K N wf).rhsIdx i q)
      = ∑ k : Fin K, f (ix2 k (i 0)) * g (ix2 k (i 1)) := by
  rw [← Equiv.sum_comp (contrEquiv1 (dimsTN M K N wf) K rfl rfl).symm]
  refine Finset.sum_congr rfl fun k _ => ?_
  have hk := contrEquiv1_symm_val (dimsTN M K N wf) K rfl rfl k
  generalize (contrEquiv1 (dimsTN M K N wf) K rfl rfl).symm k = q at hk
  have el : (dimsTN M K N wf).lhsIdx i q = ix2 k (i 0) := funext fun a => Fin.ext (by
    match a with
    | ⟨0, _⟩ => exact ((dimsTN M K N wf).lhsIdx_val_of_single rfl i q).trans hk
    | ⟨1, _⟩ =>
      show ((dimsTN M K N wf).lhsIdx i q 1).val = _
      unfold DotDims.lhsIdx
      rw [dif_neg (show ¬ (1 : Fin 2) ∈ (dimsTN M K N wf).lhsBatch by simp),
        dif_pos (show (1 : Fin 2) ∈ (dimsTN M K N wf).lhsNonContracting by simp)]
      rfl)
  have er : (dimsTN M K N wf).rhsIdx i q = ix2 k (i 1) := funext fun a => Fin.ext (by
    match a with
    | ⟨0, _⟩ => exact ((dimsTN M K N wf).rhsIdx_val_of_single rfl i q).trans hk
    | ⟨1, _⟩ =>
      show ((dimsTN M K N wf).rhsIdx i q 1).val = _
      unfold DotDims.rhsIdx
      rw [dif_neg (show ¬ (1 : Fin 2) ∈ (dimsTN M K N wf).rhsBatch by simp),
        dif_pos (show (1 : Fin 2) ∈ (dimsTN M K N wf).rhsNonContracting by simp)]
      rfl)
  rw [el, er]
  rfl

variable {φ₁ φ₂ : FTy}

/-- The three kinds of product on real data. -/
theorem R2.nn {M K N : Nat} (wf : DotDims.WF ⟨2, ![M, K]⟩ ⟨2, ![K, N]⟩ ⟨2, ![M, N]⟩ [1] [0] [0] [1] [] [])
    {f : FVec Ideal ⟨2, ![M, K]⟩ φ₁} {g : FVec Ideal ⟨2, ![K, N]⟩ φ₂} {fr gr : ℕ → ℕ → ℝ} (hf : R2 f fr) (hg : R2 g gr) :
    R2 (matmul (F := Ideal) (Mat.dims M K N wf) none f g (constant ⟨2, ![M, N]⟩ .f32 0x00000000#32)) fun i j => ∑ k : Fin K, fr i k * gr k j := by
  intro i j
  refine (Mat.matmul_apply wf f g (ix2 i j)).trans ?_
  rw [coe_sum]
  refine Finset.sum_congr rfl fun k _ => ?_
  rw [EReal.coe_mul]
  exact congrArg₂ (· * ·) (hf i k) (hg k j)

theorem R2.nt {M K N : Nat} (wf : DotDims.WF ⟨2, ![M, K]⟩ ⟨2, ![N, K]⟩ ⟨2, ![M, N]⟩ [1] [1] [0] [0] [] [])
    {f : FVec Ideal ⟨2, ![M, K]⟩ φ₁} {g : FVec Ideal ⟨2, ![N, K]⟩ φ₂} {fr gr : ℕ → ℕ → ℝ} (hf : R2 f fr) (hg : R2 g gr) :
    R2 (matmul (F := Ideal) (dimsNT M K N wf) none f g (constant ⟨2, ![M, N]⟩ .f32 0x00000000#32)) fun i j => ∑ k : Fin K, fr i k * gr j k := by
  intro i j
  refine ((Ideal.matmul_constant_zero_apply (dimsNT M K N wf) none f g (ix2 i j)).trans (sumNT wf f g (ix2 i j))).trans ?_
  rw [coe_sum]
  refine Finset.sum_congr rfl fun k _ => ?_
  rw [EReal.coe_mul]
  exact congrArg₂ (· * ·) (hf i k) (hg j k)

theorem R2.tn {M K N : Nat} (wf : DotDims.WF ⟨2, ![K, M]⟩ ⟨2, ![K, N]⟩ ⟨2, ![M, N]⟩ [0] [0] [1] [1] [] [])
    {f : FVec Ideal ⟨2, ![K, M]⟩ φ₁} {g : FVec Ideal ⟨2, ![K, N]⟩ φ₂} {fr gr : ℕ → ℕ → ℝ} (hf : R2 f fr) (hg : R2 g gr) :
    R2 (matmul (F := Ideal) (dimsTN M K N wf) none f g (constant ⟨2, ![M, N]⟩ .f32 0x00000000#32)) fun i j => ∑ k : Fin K, fr k i * gr k j := by
  intro i j
  refine ((Ideal.matmul_constant_zero_apply (dimsTN M K N wf) none f g (ix2 i j)).trans (sumTN wf f g (ix2 i j))).trans ?_
  rw [coe_sum]
  refine Finset.sum_congr rfl fun k _ => ?_
  rw [EReal.coe_mul]
  exact congrArg₂ (· * ·) (hf k i) (hg k j)

section Ops
variable {a b : Nat} {x y : FVec Ideal ⟨2, ![a, b]⟩ φ₁} {r s : ℕ → ℕ → ℝ}

theorem R2.add (hx : R2 x r) (hy : R2 y s) : R2 (addf x y) fun i j => r i j + s i j := fun i j =>
  (congrArg₂ (· + ·) (hx i j) (hy i j)).trans (EReal.coe_add _ _).symm
theorem R2.sub (hx : R2 x r) (hy : R2 y s) : R2 (subf x y) fun i j => r i j - s i j := fun i j =>
  (congrArg₂ (· - ·) (hx i j) (hy i j)).trans (EReal.coe_sub _ _).symm
theorem R2.mul (hx : R2 x r) (hy : R2 y s) : R2 (mulf x y) fun i j => r i j * s i j := fun i j =>
  (congrArg₂ (· * ·) (hx i j) (hy i j)).trans (EReal.coe_mul _ _).symm
theorem R2.exp (hx : R2 x r) : R2 (exp x) fun i j => Real.exp (r i j) := fun i j => congrArg Ideal.exp (hx i j)
theorem R2.congr (hx : R2 x r) (h : ∀ (i : Fin a) (j : Fin b), r i j = s i j) : R2 x s := fun i j => (hx i j).trans (by rw [h])
end Ops

theorem R2.zero {a b : Nat} : R2 (broadcast (⟨2, ![a, b]⟩ : Shape) (Scalar.ofBits (F := Ideal) .f32 0x00000000#32)) fun _ _ => 0 := fun _ _ =>
  Ideal.ofBits_zero_f32

/-- The sheet of a state or of a mask as a matrix, and back. -/
theorem R3.flat {a b : Nat} {x : (⟨3, ![1, a, b]⟩ : Shape).Idx → EReal} {r : ℕ → ℕ → ℝ} (hx : R3 x r)
    (h : (⟨3, ![1, a, b]⟩ : Shape).ShapeCasts ⟨2, ![a, b]⟩) : R2 (shapeCast ⟨2, ![a, b]⟩ x h) r := fun i j =>
  (shapeCast_apply x h (ix2 i j) (ix3 ⟨0, Nat.one_pos⟩ i j) (by
    rw [Shape.rowMajor_val_three, Shape.rowMajor_val_two]
    show (0 * a + i.val) * b + j.val = i.val * b + j.val
    rw [Nat.zero_mul, Nat.zero_add])).trans (hx i j)

theorem R2.sheet {a b : Nat} {x : (⟨2, ![a, b]⟩ : Shape).Idx → EReal} {r : ℕ → ℕ → ℝ} (hx : R2 x r)
    (h : (⟨2, ![a, b]⟩ : Shape).ShapeCasts ⟨3, ![1, a, b]⟩) : R3 (shapeCast ⟨3, ![1, a, b]⟩ x h) r := fun i j =>
  (shapeCast_apply x h (ix3 ⟨0, Nat.one_pos⟩ i j) (ix2 i j) (by
    rw [Shape.rowMajor_val_three, Shape.rowMajor_val_two]
    show i.val * b + j.val = (0 * a + i.val) * b + j.val
    rw [Nat.zero_mul, Nat.zero_add])).trans (hx i j)

/-- A range of rows. -/
theorem R2.rows {a b n : Nat} {x : (⟨2, ![a, b]⟩ : Shape).Idx → EReal} {r : ℕ → ℕ → ℝ} (hx : R2 x r) (o : Nat)
    (h : (⟨2, ![a, b]⟩ : Shape).Slices ![o, 0] ⟨2, ![n, b]⟩) : R2 (extractStridedSlice ⟨2, ![n, b]⟩ ![o, 0] x h) fun i j => r (o + i) j := fun i j => by
  have ho : o + n ≤ a := h.2 0
  have hi := i.isLt
  exact (extractStridedSlice_apply ![o, 0] x h (ix2 i j) (ix2 ⟨o + i.val, by omega⟩ j) (fun d => match d with
    | ⟨0, _⟩ => rfl
    | ⟨1, _⟩ => (Nat.zero_add _).symm)).trans (hx _ _)

/-- One row repeated. -/
theorem R2.spread {b n : Nat} {x : (⟨2, ![1, b]⟩ : Shape).Idx → EReal} {r : ℕ → ℕ → ℝ} (hx : R2 x r) (hb : b ≠ 1)
    (h : (⟨2, ![1, b]⟩ : Shape).Broadcasts ⟨2, ![n, b]⟩) : R2 (broadcastTo ⟨2, ![n, b]⟩ x h) fun _ j => r 0 j := fun i j =>
  (broadcastTo_apply x h (ix2 i j) (ix2 (⟨0, Nat.one_pos⟩ : Fin 1) j) (fun d => match d with
    | ⟨0, _⟩ => rfl
    | ⟨1, _⟩ => (if_neg hb).symm)).trans (hx _ _)

/-! ## The gate and its sums -/

/-- The gate's logarithm: the logarithm of the sigmoid over sixteen. -/
def gateOf (x : FVec Ideal S128x128 .f32) : FVec Ideal S128x128 .f32 :=
  mulf (subf (minimumf x (broadcast S128x128 (Scalar.ofBits .f32 0x00000000#32)))
    (log1p (exp (subf (broadcast S128x128 (Scalar.ofBits .f32 0x00000000#32)) (absf x)))))
    (broadcast S128x128 (Scalar.ofBits .f32 0x3D800000#32))

/-- The same of a real number. -/
def lgate (x : ℝ) : ℝ := (min x 0 - Real.log (1 + Real.exp (0 - |x|))) * (1 / 16)

theorem sixteenth : Ideal.ofBits .f32 0x3D800000#32 = ((1 / 16 : ℝ) : EReal) := by
  simp [Ideal.ofBits, Ideal.ieee, -EReal.coe_mul]; norm_num

theorem R2.gate {x : FVec Ideal S128x128 .f32} {r : ℕ → ℕ → ℝ} (hx : R2 x r) : R2 (gateOf x) fun i j => lgate (r i j) := fun i j => by
  show (min (x (ix2 i j)) (Ideal.ofBits .f32 0x00000000#32) - Ideal.log (1 + Ideal.exp (Ideal.ofBits .f32 0x00000000#32 - max (x (ix2 i j)) (-(x (ix2 i j))))))
    * Ideal.ofBits .f32 0x3D800000#32 = _
  rw [hx i j, Ideal.ofBits_zero_f32, coe_min0, coe_abs', zero_sub_coe, exp_coe, log1p_coe _ (Real.exp_pos _), ← EReal.coe_sub, sixteenth, ← EReal.coe_mul]
  rfl

/-- The sums of the gates of the later rows of the block, the gates in three parts of a shorter format. -/
def cumOf (tri : FVec Ideal S128x128 .bf16) (g : FVec Ideal S128x128 .f32) : FVec Ideal S128x128 .f32 :=
  addf (addf
    (matmul dot_S128x128_S128x128_S128x128_1_0_0_1_n_n none tri (truncf .bf16 g bitsLt_bf16_f32) (constant S128x128 .f32 0x00000000#32))
    (matmul dot_S128x128_S128x128_S128x128_1_0_0_1_n_n none tri
      (truncf .bf16 (subf g (extf .f32 (truncf .bf16 g bitsLt_bf16_f32) bitsLt_bf16_f32)) bitsLt_bf16_f32) (constant S128x128 .f32 0x00000000#32)))
    (matmul dot_S128x128_S128x128_S128x128_1_0_0_1_n_n none tri
      (truncf .bf16 (subf (subf g (extf .f32 (truncf .bf16 g bitsLt_bf16_f32) bitsLt_bf16_f32))
        (extf .f32 (truncf .bf16 (subf g (extf .f32 (truncf .bf16 g bitsLt_bf16_f32) bitsLt_bf16_f32)) bitsLt_bf16_f32) bitsLt_bf16_f32)) bitsLt_bf16_f32)
      (constant S128x128 .f32 0x00000000#32))

/-- One where the row is not after the column. -/
def triR (t s : ℕ) : ℝ := if t ≤ s then 1 else 0

theorem R2.cum {tri : FVec Ideal S128x128 .bf16} {g : FVec Ideal S128x128 .f32} {r : ℕ → ℕ → ℝ} (ht : R2 tri triR) (hg : R2 g r) :
    R2 (cumOf tri g) fun t k => ∑ s : Fin 128, if t ≤ s.val then r s k else 0 := by
  have h2 : R2 (subf g g) fun _ _ => 0 := (hg.sub hg).congr fun _ _ => sub_self _
  have h3 : R2 (subf (subf g g) (subf g g)) fun _ _ => 0 := (h2.sub h2).congr fun _ _ => sub_self _
  have h := ((R2.nn (φ₁ := .bf16) (φ₂ := .bf16) dot_S128x128_S128x128_S128x128_1_0_0_1_n_n.wf ht hg).add
    (R2.nn (φ₁ := .bf16) (φ₂ := .bf16) dot_S128x128_S128x128_S128x128_1_0_0_1_n_n.wf ht h2)).add
    (R2.nn (φ₁ := .bf16) (φ₂ := .bf16) dot_S128x128_S128x128_S128x128_1_0_0_1_n_n.wf ht h3)
  refine R2.congr (x := cumOf tri g) h fun t k => ?_
  simp only [mul_zero, Finset.sum_const_zero, add_zero]
  refine Finset.sum_congr rfl fun s _ => ?_
  unfold triR
  split <;> simp

/-! ## The levels below eight rows -/

/-- The row within a group of eight. -/
def sub3 : IVec S16x8x128 32 := iota .tc S16x8x128 32 [1] iota_S16x8x128_d1_w32

/-- The row in the middle of the row's block. -/
def midRow (l : BitVec 32) : IVec S16x8x128 32 :=
  shli (ori (shrsi sub3 (broadcast S16x8x128 l)) (broadcast S16x8x128 1#32)) (broadcast S16x8x128 l)

/-- Whether the row is in the upper half of its block. -/
def upperRow (l : BitVec 32) : IVec S16x8x128 1 :=
  cmpi .eq (andi (shrsi sub3 (broadcast S16x8x128 l)) (broadcast S16x8x128 1#32)) (broadcast S16x8x128 1#32)

/-- One row of each group of eight, repeated. -/
def row3 (r : Nat) (h : S16x8x128.Slices ![0, r, 0] S16x1x128) (c : FVec Ideal S16x8x128 .f32) : FVec Ideal S16x8x128 .f32 :=
  broadcastTo S16x8x128 (shapeCast S16x1x128 (extractStridedSlice S16x1x128 ![0, r, 0] c h) shapeCasts_S16x1x128_S16x1x128) broadcasts_S16x1x128_S16x8x128

/-- The distances from the middle rows, both ways. -/
def arms3 (l : BitVec 32) (c ref : FVec Ideal S16x8x128 .f32) : FVec Ideal S128x128 .f32 :=
  shapeCast S128x128 (select (upperRow l) (subf c ref) (subf ref c)) shapeCasts_S16x8x128_S128x128

def groups (c : FVec Ideal S128x128 .f32) : FVec Ideal S16x8x128 .f32 := shapeCast S16x8x128 c shapeCasts_S128x128_S16x8x128

def lev0 (c : FVec Ideal S128x128 .f32) : FVec Ideal S128x128 .f32 :=
  arms3 0#32 (groups c)
    (select (cmpi .eq (midRow 0#32) (broadcast S16x8x128 7#32)) (row3 7 slices_S16x8x128_o0_7_0_S16x1x128 (groups c))
    (select (cmpi .eq (midRow 0#32) (broadcast S16x8x128 5#32)) (row3 5 slices_S16x8x128_o0_5_0_S16x1x128 (groups c))
    (select (cmpi .eq (midRow 0#32) (broadcast S16x8x128 3#32)) (row3 3 slices_S16x8x128_o0_3_0_S16x1x128 (groups c))
      (row3 1 slices_S16x8x128_o0_1_0_S16x1x128 (groups c)))))

def lev1 (c : FVec Ideal S128x128 .f32) : FVec Ideal S128x128 .f32 :=
  arms3 1#32 (groups c)
    (select (cmpi .eq (midRow 1#32) (broadcast S16x8x128 6#32)) (row3 6 slices_S16x8x128_o0_6_0_S16x1x128 (groups c))
      (row3 2 slices_S16x8x128_o0_2_0_S16x1x128 (groups c)))

def lev2 (c : FVec Ideal S128x128 .f32) : FVec Ideal S128x128 .f32 :=
  arms3 2#32 (groups c) (row3 4 slices_S16x8x128_o0_4_0_S16x1x128 (groups c))

theorem groups_apply (c : FVec Ideal S128x128 .f32) (a : Fin 16) (b : Fin 8) (k : Fin 128) :
    groups c (ix3 a b k) = c (ix2 ⟨8 * a.val + b.val, by have := a.isLt; have := b.isLt; omega⟩ k) :=
  shapeCast_apply c _ (ix3 a b k) _ (by
    rw [Shape.rowMajor_val_three, Shape.rowMajor_val_two]
    show (8 * a.val + b.val) * 128 + k.val = (a.val * 8 + b.val) * 128 + k.val
    omega)

theorem row3_apply (r : Fin 8) (h : S16x8x128.Slices ![0, r.val, 0] S16x1x128) (c : FVec Ideal S16x8x128 .f32) (a : Fin 16) (b : Fin 8) (k : Fin 128) :
    row3 r.val h c (ix3 a b k) = c (ix3 a r k) := by
  unfold row3
  rw [shapeCast_self]
  refine (broadcastTo_apply _ _ (ix3 a b k) (ix3 a (⟨0, Nat.one_pos⟩ : Fin 1) k) (fun d => match d with
    | ⟨0, _⟩ => rfl
    | ⟨1, _⟩ => rfl
    | ⟨2, _⟩ => rfl)).trans ?_
  exact extractStridedSlice_apply ![0, r.val, 0] c h (ix3 a ⟨0, Nat.one_pos⟩ k) (ix3 a r k) (fun d => match d with
    | ⟨0, _⟩ => (Nat.zero_add _).symm
    | ⟨1, _⟩ => rfl
    | ⟨2, _⟩ => (Nat.zero_add _).symm)

theorem upper_apply (l : BitVec 32) (a : Fin 16) (b : Fin 8) (k : Fin 128) :
    upperRow l (ix3 a b k) = IntOp.cmpi .eq (IntOp.andi (IntOp.shrsi .vector (BitVec.ofNat 32 (0 * 8 + b.val)) l) 1#32) 1#32 := rfl

theorem mid_apply (l r : BitVec 32) (a : Fin 16) (b : Fin 8) (k : Fin 128) :
    cmpi .eq (midRow l) (broadcast S16x8x128 r) (ix3 a b k)
      = IntOp.cmpi .eq (IntOp.shli .vector (IntOp.ori (IntOp.shrsi .vector (BitVec.ofNat 32 (0 * 8 + b.val)) l) 1#32) l) r := rfl

theorem arms3_apply (l : BitVec 32) (c ref : FVec Ideal S16x8x128 .f32) (a : Fin 16) (b : Fin 8) (k : Fin 128) (t : Fin 128)
    (ht : t.val = 8 * a.val + b.val) :
    arms3 l c ref (ix2 t k) = if upperRow l (ix3 a b k) = 1#1 then c (ix3 a b k) - ref (ix3 a b k) else ref (ix3 a b k) - c (ix3 a b k) :=
  shapeCast_apply _ _ (ix2 t k) (ix3 a b k) (by
    rw [Shape.rowMajor_val_three, Shape.rowMajor_val_two]
    show (a.val * 8 + b.val) * 128 + k.val = t.val * 128 + k.val
    omega)

theorem upper_val (b : Fin 8) :
    (IntOp.cmpi .eq (IntOp.andi (IntOp.shrsi .vector (BitVec.ofNat 32 (0 * 8 + b.val)) 0#32) 1#32) 1#32 = 1#1 ↔ b.val / 1 % 2 = 1)
    ∧ (IntOp.cmpi .eq (IntOp.andi (IntOp.shrsi .vector (BitVec.ofNat 32 (0 * 8 + b.val)) 1#32) 1#32) 1#32 = 1#1 ↔ b.val / 2 % 2 = 1)
    ∧ (IntOp.cmpi .eq (IntOp.andi (IntOp.shrsi .vector (BitVec.ofNat 32 (0 * 8 + b.val)) 2#32) 1#32) 1#32 = 1#1 ↔ b.val / 4 % 2 = 1) := by
  revert b; decide +kernel

theorem mid_val (b : Fin 8) :
    (IntOp.cmpi .eq (IntOp.shli .vector (IntOp.ori (IntOp.shrsi .vector (BitVec.ofNat 32 (0 * 8 + b.val)) 0#32) 1#32) 0#32) 7#32 = 1#1 ↔ b.val / 2 = 3)
    ∧ (IntOp.cmpi .eq (IntOp.shli .vector (IntOp.ori (IntOp.shrsi .vector (BitVec.ofNat 32 (0 * 8 + b.val)) 0#32) 1#32) 0#32) 5#32 = 1#1 ↔ b.val / 2 = 2)
    ∧ (IntOp.cmpi .eq (IntOp.shli .vector (IntOp.ori (IntOp.shrsi .vector (BitVec.ofNat 32 (0 * 8 + b.val)) 0#32) 1#32) 0#32) 3#32 = 1#1 ↔ b.val / 2 = 1)
    ∧ (IntOp.cmpi .eq (IntOp.shli .vector (IntOp.ori (IntOp.shrsi .vector (BitVec.ofNat 32 (0 * 8 + b.val)) 1#32) 1#32) 1#32) 6#32 = 1#1 ↔ b.val / 4 = 1) := by
  revert b; decide +kernel

/-- The distance of a row on real data, given the middle row's place. -/
theorem arm_of {c : FVec Ideal S128x128 .f32} {r : ℕ → ℕ → ℝ} (hc : R2 c r) (w : ℕ) (t m k : Fin 128) (u : Prop) [Decidable u]
    (hu : u ↔ t.val / w % 2 = 1) (hm : m.val = t.val / (2 * w) * (2 * w) + w) :
    (if u then c (ix2 t k) - c (ix2 m k) else c (ix2 m k) - c (ix2 t k)) = ((arm w (fun s => r s k) t.val : ℝ) : EReal) := by
  rw [hc, hc, ← EReal.coe_sub, ← EReal.coe_sub]
  unfold arm
  rw [← hm]
  by_cases h : u
  · rw [if_pos h, if_pos (hu.mp h)]
  · rw [if_neg h, if_neg fun e => h (hu.mpr e)]

theorem R2.lev0 {c : FVec Ideal S128x128 .f32} {r : ℕ → ℕ → ℝ} (hc : R2 c r) : R2 (lev0 c) fun t k => arm 1 (fun s => r s k) t := fun t k => by
  have ht := t.isLt
  have hb : t.val % 8 < 8 := Nat.mod_lt _ (by omega)
  have ha : t.val / 8 < 16 := by omega
  have e : t = ⟨8 * (⟨t.val / 8, ha⟩ : Fin 16).val + (⟨t.val % 8, hb⟩ : Fin 8).val, by show 8 * (t.val / 8) + t.val % 8 < 128; omega⟩ := Fin.ext (by show t.val = 8 * (t.val / 8) + t.val % 8; omega)
  have hv := upper_val ⟨t.val % 8, hb⟩
  have hm := mid_val ⟨t.val % 8, hb⟩
  refine (arms3_apply 0#32 _ _ ⟨t.val / 8, ha⟩ ⟨t.val % 8, hb⟩ k t (by show t.val = 8 * (t.val / 8) + t.val % 8; omega)).trans ?_
  rw [upper_apply, groups_apply, ← e]
  show (if _ then c (ix2 t k) - (if cmpi .eq (midRow 0#32) (broadcast S16x8x128 7#32) _ = 1#1 then row3 (7 : Fin 8).val _ _ _
      else if cmpi .eq (midRow 0#32) (broadcast S16x8x128 5#32) _ = 1#1 then row3 (5 : Fin 8).val _ _ _
      else if cmpi .eq (midRow 0#32) (broadcast S16x8x128 3#32) _ = 1#1 then row3 (3 : Fin 8).val _ _ _ else row3 (1 : Fin 8).val _ _ _)
    else (if cmpi .eq (midRow 0#32) (broadcast S16x8x128 7#32) _ = 1#1 then row3 (7 : Fin 8).val _ _ _
      else if cmpi .eq (midRow 0#32) (broadcast S16x8x128 5#32) _ = 1#1 then row3 (5 : Fin 8).val _ _ _
      else if cmpi .eq (midRow 0#32) (broadcast S16x8x128 3#32) _ = 1#1 then row3 (3 : Fin 8).val _ _ _ else row3 (1 : Fin 8).val _ _ _) - c (ix2 t k)) = _
  rw [mid_apply, mid_apply, mid_apply, row3_apply, row3_apply, row3_apply, row3_apply, groups_apply, groups_apply, groups_apply, groups_apply]
  have hu : _ ↔ t.val / 1 % 2 = 1 := hv.1.trans (by show t.val % 8 / 1 % 2 = 1 ↔ _; omega)
  have h7 : _ ↔ t.val % 8 / 2 = 3 := hm.1
  have h5 : _ ↔ t.val % 8 / 2 = 2 := hm.2.1
  have h3 : _ ↔ t.val % 8 / 2 = 1 := hm.2.2.1
  by_cases c7 : t.val % 8 / 2 = 3
  · rw [if_pos (h7.mpr c7)]
    exact arm_of hc 1 t _ k _ hu (by show 8 * (t.val / 8) + 7 = _; omega)
  rw [if_neg fun h => c7 (h7.mp h)]
  by_cases c5 : t.val % 8 / 2 = 2
  · rw [if_pos (h5.mpr c5)]
    exact arm_of hc 1 t _ k _ hu (by show 8 * (t.val / 8) + 5 = _; omega)
  rw [if_neg fun h => c5 (h5.mp h)]
  by_cases c3 : t.val % 8 / 2 = 1
  · rw [if_pos (h3.mpr c3)]
    exact arm_of hc 1 t _ k _ hu (by show 8 * (t.val / 8) + 3 = _; omega)
  rw [if_neg fun h => c3 (h3.mp h)]
  exact arm_of hc 1 t _ k _ hu (by show 8 * (t.val / 8) + 1 = _; omega)

theorem R2.lev1 {c : FVec Ideal S128x128 .f32} {r : ℕ → ℕ → ℝ} (hc : R2 c r) : R2 (lev1 c) fun t k => arm 2 (fun s => r s k) t := fun t k => by
  have ht := t.isLt
  have hb : t.val % 8 < 8 := Nat.mod_lt _ (by omega)
  have ha : t.val / 8 < 16 := by omega
  have e : t = ⟨8 * (⟨t.val / 8, ha⟩ : Fin 16).val + (⟨t.val % 8, hb⟩ : Fin 8).val, by show 8 * (t.val / 8) + t.val % 8 < 128; omega⟩ := Fin.ext (by show t.val = 8 * (t.val / 8) + t.val % 8; omega)
  have hv := upper_val ⟨t.val % 8, hb⟩
  have hm := mid_val ⟨t.val % 8, hb⟩
  refine (arms3_apply 1#32 _ _ ⟨t.val / 8, ha⟩ ⟨t.val % 8, hb⟩ k t (by show t.val = 8 * (t.val / 8) + t.val % 8; omega)).trans ?_
  rw [upper_apply, groups_apply, ← e]
  show (if _ then c (ix2 t k) - (if cmpi .eq (midRow 1#32) (broadcast S16x8x128 6#32) _ = 1#1 then row3 (6 : Fin 8).val _ _ _ else row3 (2 : Fin 8).val _ _ _)
    else (if cmpi .eq (midRow 1#32) (broadcast S16x8x128 6#32) _ = 1#1 then row3 (6 : Fin 8).val _ _ _ else row3 (2 : Fin 8).val _ _ _) - c (ix2 t k)) = _
  rw [mid_apply, row3_apply, row3_apply, groups_apply, groups_apply]
  have hu : _ ↔ t.val / 2 % 2 = 1 := hv.2.1.trans (by show t.val % 8 / 2 % 2 = 1 ↔ _; omega)
  have h6 : _ ↔ t.val % 8 / 4 = 1 := hm.2.2.2
  by_cases c6 : t.val % 8 / 4 = 1
  · rw [if_pos (h6.mpr c6)]
    exact arm_of hc 2 t _ k _ hu (by show 8 * (t.val / 8) + 6 = _; omega)
  rw [if_neg fun h => c6 (h6.mp h)]
  exact arm_of hc 2 t _ k _ hu (by show 8 * (t.val / 8) + 2 = _; omega)

theorem R2.lev2 {c : FVec Ideal S128x128 .f32} {r : ℕ → ℕ → ℝ} (hc : R2 c r) : R2 (lev2 c) fun t k => arm 4 (fun s => r s k) t := fun t k => by
  have ht := t.isLt
  have hb : t.val % 8 < 8 := Nat.mod_lt _ (by omega)
  have ha : t.val / 8 < 16 := by omega
  have e : t = ⟨8 * (⟨t.val / 8, ha⟩ : Fin 16).val + (⟨t.val % 8, hb⟩ : Fin 8).val, by show 8 * (t.val / 8) + t.val % 8 < 128; omega⟩ := Fin.ext (by show t.val = 8 * (t.val / 8) + t.val % 8; omega)
  have hv := upper_val ⟨t.val % 8, hb⟩
  refine (arms3_apply 2#32 _ _ ⟨t.val / 8, ha⟩ ⟨t.val % 8, hb⟩ k t (by show t.val = 8 * (t.val / 8) + t.val % 8; omega)).trans ?_
  rw [upper_apply, groups_apply, ← e]
  show (if _ then c (ix2 t k) - row3 (4 : Fin 8).val _ _ _ else row3 (4 : Fin 8).val _ _ _ - c (ix2 t k)) = _
  rw [row3_apply, groups_apply]
  have hu : _ ↔ t.val / 4 % 2 = 1 := hv.2.2.trans (by show t.val % 8 / 4 % 2 = 1 ↔ _; omega)
  exact arm_of hc 4 t _ k _ hu (by show 8 * (t.val / 8) + 4 = _; omega)

end Cert.Proof.Gla

end
-- ==== Proof.GlaLev.lean ====
/- The levels of a block of 128 rows from eight rows on: half blocks piled on one another. -/
module

public import proofs.«01_k».proof.Proof.GlaHead

@[expose] public section

set_option maxRecDepth 16384

noncomputable section

namespace Cert.Proof.Gla

open Cert.GlaBwdIdeal Cert.GlaBwdIdeal.Gen Idealize.ShloMosaic Idealize.ShloMosaic.ValueIdx

/-- A lower half block against its middle row. -/
def loPart (n o p : Nat) (h : S128x128.Slices ![o, 0] S1x128) (h' : S128x128.Slices ![p, 0] ⟨2, ![n, 128]⟩) (hb : S1x128.Broadcasts ⟨2, ![n, 128]⟩)
    (c : FVec Ideal S128x128 .f32) : FVec Ideal ⟨2, ![n, 128]⟩ .f32 :=
  subf (broadcastTo ⟨2, ![n, 128]⟩ (extractStridedSlice S1x128 ![o, 0] c h) hb) (extractStridedSlice ⟨2, ![n, 128]⟩ ![p, 0] c h')

/-- An upper half block against its middle row. -/
def hiPart (n o : Nat) (h : S128x128.Slices ![o, 0] S1x128) (h' : S128x128.Slices ![o, 0] ⟨2, ![n, 128]⟩) (hb : S1x128.Broadcasts ⟨2, ![n, 128]⟩)
    (c : FVec Ideal S128x128 .f32) : FVec Ideal ⟨2, ![n, 128]⟩ .f32 :=
  subf (extractStridedSlice ⟨2, ![n, 128]⟩ ![o, 0] c h') (broadcastTo ⟨2, ![n, 128]⟩ (extractStridedSlice S1x128 ![o, 0] c h) hb)

theorem lo_at {n o p : Nat} {h : S128x128.Slices ![o, 0] S1x128} {h' : S128x128.Slices ![p, 0] ⟨2, ![n, 128]⟩} {hb : S1x128.Broadcasts ⟨2, ![n, 128]⟩}
    {c : FVec Ideal S128x128 .f32} {r : ℕ → ℕ → ℝ} (hc : R2 c r) (i : Fin n) (k : Fin 128) (t : ℕ) (ht : p + i.val = t)
    (h1 : ¬ t / n % 2 = 1) (h2 : o = t / (2 * n) * (2 * n) + n) :
    loPart n o p h h' hb c (ix2 i k) = ((arm n (fun s => r s k) t : ℝ) : EReal) := by
  refine (((hc.rows o h).spread (by decide) hb).sub (φ₁ := .f32) (hc.rows p h') i k).trans ?_
  unfold arm
  rw [if_neg h1, ← h2, ← ht]
  rfl

theorem hi_at {n o : Nat} {h : S128x128.Slices ![o, 0] S1x128} {h' : S128x128.Slices ![o, 0] ⟨2, ![n, 128]⟩} {hb : S1x128.Broadcasts ⟨2, ![n, 128]⟩}
    {c : FVec Ideal S128x128 .f32} {r : ℕ → ℕ → ℝ} (hc : R2 c r) (i : Fin n) (k : Fin 128) (t : ℕ) (ht : o + i.val = t)
    (h1 : t / n % 2 = 1) (h2 : o = t / (2 * n) * (2 * n) + n) :
    hiPart n o h h' hb c (ix2 i k) = ((arm n (fun s => r s k) t : ℝ) : EReal) := by
  refine ((hc.rows o h').sub (φ₁ := .f32) ((hc.rows o h).spread (by decide) hb) i k).trans ?_
  unfold arm
  rw [if_pos h1, ← h2, ← ht]
  rfl

/-- A row of a pile of blocks of rows. -/
theorem pile_at (xs : List ((s : Shape) × (s.Idx → EReal))) (h : Shape.Concatenates (xs.map (·.1)) S128x128 0) (t k : Fin 128)
    (p : Nat) (hp : p < xs.length) (n : Nat) (x : (⟨2, ![n, 128]⟩ : Shape).Idx → EReal) (hx : xs[p] = ⟨⟨2, ![n, 128]⟩, x⟩) (o : Nat)
    (ho : (((xs.take p).map (·.1)).map fun s => if h : s.rank = S128x128.rank then s.size ((0 : Fin 2).cast h.symm) else 0).sum = o)
    (i : Fin n) (hi : o + i.val = t.val) : concatenate S128x128 0 xs h (ix2 t k) = x (ix2 i k) :=
  concatenate_apply_piece (t := S128x128) 0 xs h (ix2 t k) p hp _ x hx rfl o ho (ix2 i k)
    (fun b hb => match b with | ⟨0, _⟩ => absurd rfl hb | ⟨1, _⟩ => rfl) hi

set_option maxHeartbeats 2000000 in
theorem pile8 (x : Fin 16 → (S8x128.Idx → EReal)) (h : Shape.Concatenates [S8x128, S8x128, S8x128, S8x128, S8x128, S8x128, S8x128, S8x128, S8x128, S8x128, S8x128, S8x128, S8x128, S8x128, S8x128, S8x128] S128x128 0) (t k : Fin 128) (p : Fin 16)
    (i : Fin 8) (hi : p.val * 8 + i.val = t.val) :
    concatenate S128x128 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h (ix2 t k) = x p (ix2 i k) :=
  match p, hi with
  | ⟨0, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 0 (show 0 < 16 by decide) 8 (x 0) rfl 0 rfl i hi
  | ⟨1, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 1 (show 1 < 16 by decide) 8 (x 1) rfl 8 rfl i hi
  | ⟨2, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 2 (show 2 < 16 by decide) 8 (x 2) rfl 16 rfl i hi
  | ⟨3, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 3 (show 3 < 16 by decide) 8 (x 3) rfl 24 rfl i hi
  | ⟨4, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 4 (show 4 < 16 by decide) 8 (x 4) rfl 32 rfl i hi
  | ⟨5, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 5 (show 5 < 16 by decide) 8 (x 5) rfl 40 rfl i hi
  | ⟨6, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 6 (show 6 < 16 by decide) 8 (x 6) rfl 48 rfl i hi
  | ⟨7, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 7 (show 7 < 16 by decide) 8 (x 7) rfl 56 rfl i hi
  | ⟨8, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 8 (show 8 < 16 by decide) 8 (x 8) rfl 64 rfl i hi
  | ⟨9, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 9 (show 9 < 16 by decide) 8 (x 9) rfl 72 rfl i hi
  | ⟨10, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 10 (show 10 < 16 by decide) 8 (x 10) rfl 80 rfl i hi
  | ⟨11, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 11 (show 11 < 16 by decide) 8 (x 11) rfl 88 rfl i hi
  | ⟨12, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 12 (show 12 < 16 by decide) 8 (x 12) rfl 96 rfl i hi
  | ⟨13, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 13 (show 13 < 16 by decide) 8 (x 13) rfl 104 rfl i hi
  | ⟨14, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 14 (show 14 < 16 by decide) 8 (x 14) rfl 112 rfl i hi
  | ⟨15, _⟩, hi => pile_at [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h t k 15 (show 15 < 16 by decide) 8 (x 15) rfl 120 rfl i hi
  | ⟨q + 16, h⟩, _ => absurd h (by omega)

/-- The distances at the level of 8 rows, half block by half block. -/
def parts3 (c : FVec Ideal S128x128 .f32) : Fin 16 → (S8x128.Idx → EReal) :=
  ![loPart 8 8 0 slices_S128x128_o8_0_S1x128 slices_S128x128_o0_0_S8x128 broadcasts_S1x128_S8x128 c,
    hiPart 8 8 slices_S128x128_o8_0_S1x128 slices_S128x128_o8_0_S8x128 broadcasts_S1x128_S8x128 c,
    loPart 8 24 16 slices_S128x128_o24_0_S1x128 slices_S128x128_o16_0_S8x128 broadcasts_S1x128_S8x128 c,
    hiPart 8 24 slices_S128x128_o24_0_S1x128 slices_S128x128_o24_0_S8x128 broadcasts_S1x128_S8x128 c,
    loPart 8 40 32 slices_S128x128_o40_0_S1x128 slices_S128x128_o32_0_S8x128 broadcasts_S1x128_S8x128 c,
    hiPart 8 40 slices_S128x128_o40_0_S1x128 slices_S128x128_o40_0_S8x128 broadcasts_S1x128_S8x128 c,
    loPart 8 56 48 slices_S128x128_o56_0_S1x128 slices_S128x128_o48_0_S8x128 broadcasts_S1x128_S8x128 c,
    hiPart 8 56 slices_S128x128_o56_0_S1x128 slices_S128x128_o56_0_S8x128 broadcasts_S1x128_S8x128 c,
    loPart 8 72 64 slices_S128x128_o72_0_S1x128 slices_S128x128_o64_0_S8x128 broadcasts_S1x128_S8x128 c,
    hiPart 8 72 slices_S128x128_o72_0_S1x128 slices_S128x128_o72_0_S8x128 broadcasts_S1x128_S8x128 c,
    loPart 8 88 80 slices_S128x128_o88_0_S1x128 slices_S128x128_o80_0_S8x128 broadcasts_S1x128_S8x128 c,
    hiPart 8 88 slices_S128x128_o88_0_S1x128 slices_S128x128_o88_0_S8x128 broadcasts_S1x128_S8x128 c,
    loPart 8 104 96 slices_S128x128_o104_0_S1x128 slices_S128x128_o96_0_S8x128 broadcasts_S1x128_S8x128 c,
    hiPart 8 104 slices_S128x128_o104_0_S1x128 slices_S128x128_o104_0_S8x128 broadcasts_S1x128_S8x128 c,
    loPart 8 120 112 slices_S128x128_o120_0_S1x128 slices_S128x128_o112_0_S8x128 broadcasts_S1x128_S8x128 c,
    hiPart 8 120 slices_S128x128_o120_0_S1x128 slices_S128x128_o120_0_S8x128 broadcasts_S1x128_S8x128 c]

def lev3 (c : FVec Ideal S128x128 .f32) : FVec Ideal S128x128 .f32 :=
  concatenate S128x128 0 [⟨S8x128, loPart 8 8 0 slices_S128x128_o8_0_S1x128 slices_S128x128_o0_0_S8x128 broadcasts_S1x128_S8x128 c⟩,
    ⟨S8x128, hiPart 8 8 slices_S128x128_o8_0_S1x128 slices_S128x128_o8_0_S8x128 broadcasts_S1x128_S8x128 c⟩,
    ⟨S8x128, loPart 8 24 16 slices_S128x128_o24_0_S1x128 slices_S128x128_o16_0_S8x128 broadcasts_S1x128_S8x128 c⟩,
    ⟨S8x128, hiPart 8 24 slices_S128x128_o24_0_S1x128 slices_S128x128_o24_0_S8x128 broadcasts_S1x128_S8x128 c⟩,
    ⟨S8x128, loPart 8 40 32 slices_S128x128_o40_0_S1x128 slices_S128x128_o32_0_S8x128 broadcasts_S1x128_S8x128 c⟩,
    ⟨S8x128, hiPart 8 40 slices_S128x128_o40_0_S1x128 slices_S128x128_o40_0_S8x128 broadcasts_S1x128_S8x128 c⟩,
    ⟨S8x128, loPart 8 56 48 slices_S128x128_o56_0_S1x128 slices_S128x128_o48_0_S8x128 broadcasts_S1x128_S8x128 c⟩,
    ⟨S8x128, hiPart 8 56 slices_S128x128_o56_0_S1x128 slices_S128x128_o56_0_S8x128 broadcasts_S1x128_S8x128 c⟩,
    ⟨S8x128, loPart 8 72 64 slices_S128x128_o72_0_S1x128 slices_S128x128_o64_0_S8x128 broadcasts_S1x128_S8x128 c⟩,
    ⟨S8x128, hiPart 8 72 slices_S128x128_o72_0_S1x128 slices_S128x128_o72_0_S8x128 broadcasts_S1x128_S8x128 c⟩,
    ⟨S8x128, loPart 8 88 80 slices_S128x128_o88_0_S1x128 slices_S128x128_o80_0_S8x128 broadcasts_S1x128_S8x128 c⟩,
    ⟨S8x128, hiPart 8 88 slices_S128x128_o88_0_S1x128 slices_S128x128_o88_0_S8x128 broadcasts_S1x128_S8x128 c⟩,
    ⟨S8x128, loPart 8 104 96 slices_S128x128_o104_0_S1x128 slices_S128x128_o96_0_S8x128 broadcasts_S1x128_S8x128 c⟩,
    ⟨S8x128, hiPart 8 104 slices_S128x128_o104_0_S1x128 slices_S128x128_o104_0_S8x128 broadcasts_S1x128_S8x128 c⟩,
    ⟨S8x128, loPart 8 120 112 slices_S128x128_o120_0_S1x128 slices_S128x128_o112_0_S8x128 broadcasts_S1x128_S8x128 c⟩,
    ⟨S8x128, hiPart 8 120 slices_S128x128_o120_0_S1x128 slices_S128x128_o120_0_S8x128 broadcasts_S1x128_S8x128 c⟩]
    concatenates_S8x128_S8x128_S8x128_S8x128_S8x128_S8x128_S8x128_S8x128_S8x128_S8x128_S8x128_S8x128_S8x128_S8x128_S8x128_S8x128_S128x128_d0

theorem parts3_at {c : FVec Ideal S128x128 .f32} {r : ℕ → ℕ → ℝ} (hc : R2 c r) (p : Fin 16) (i : Fin 8) (k : Fin 128) :
    parts3 c p (ix2 i k) = ((arm 8 (fun s => r s k) (p.val * 8 + i.val) : ℝ) : EReal) :=
  have hi := i.isLt
  match p with
  | ⟨0, _⟩ => lo_at hc i k (0 * 8 + i.val) (by omega) (by omega) (by omega)
  | ⟨1, _⟩ => hi_at hc i k (1 * 8 + i.val) (by omega) (by omega) (by omega)
  | ⟨2, _⟩ => lo_at hc i k (2 * 8 + i.val) (by omega) (by omega) (by omega)
  | ⟨3, _⟩ => hi_at hc i k (3 * 8 + i.val) (by omega) (by omega) (by omega)
  | ⟨4, _⟩ => lo_at hc i k (4 * 8 + i.val) (by omega) (by omega) (by omega)
  | ⟨5, _⟩ => hi_at hc i k (5 * 8 + i.val) (by omega) (by omega) (by omega)
  | ⟨6, _⟩ => lo_at hc i k (6 * 8 + i.val) (by omega) (by omega) (by omega)
  | ⟨7, _⟩ => hi_at hc i k (7 * 8 + i.val) (by omega) (by omega) (by omega)
  | ⟨8, _⟩ => lo_at hc i k (8 * 8 + i.val) (by omega) (by omega) (by omega)
  | ⟨9, _⟩ => hi_at hc i k (9 * 8 + i.val) (by omega) (by omega) (by omega)
  | ⟨10, _⟩ => lo_at hc i k (10 * 8 + i.val) (by omega) (by omega) (by omega)
  | ⟨11, _⟩ => hi_at hc i k (11 * 8 + i.val) (by omega) (by omega) (by omega)
  | ⟨12, _⟩ => lo_at hc i k (12 * 8 + i.val) (by omega) (by omega) (by omega)
  | ⟨13, _⟩ => hi_at hc i k (13 * 8 + i.val) (by omega) (by omega) (by omega)
  | ⟨14, _⟩ => lo_at hc i k (14 * 8 + i.val) (by omega) (by omega) (by omega)
  | ⟨15, _⟩ => hi_at hc i k (15 * 8 + i.val) (by omega) (by omega) (by omega)
  | ⟨q + 16, h⟩ => absurd h (by omega)

theorem R2.lev3 {c : FVec Ideal S128x128 .f32} {r : ℕ → ℕ → ℝ} (hc : R2 c r) : R2 (lev3 c) fun t k => arm 8 (fun s => r s k) t := fun t k => by
  have ht := t.isLt
  have hp : t.val / 8 < 16 := by omega
  have hm : t.val % 8 < 8 := Nat.mod_lt _ (by omega)
  have e : t.val / 8 * 8 + t.val % 8 = t.val := by omega
  refine (pile8 (parts3 c) concatenates_S8x128_S8x128_S8x128_S8x128_S8x128_S8x128_S8x128_S8x128_S8x128_S8x128_S8x128_S8x128_S8x128_S8x128_S8x128_S8x128_S128x128_d0 t k ⟨t.val / 8, hp⟩ ⟨t.val % 8, hm⟩ e).trans ((parts3_at hc _ _ k).trans ?_)
  show ((arm 8 (fun s => r s k) (t.val / 8 * 8 + t.val % 8) : ℝ) : EReal) = _
  rw [e]

set_option maxHeartbeats 2000000 in
theorem pile16 (x : Fin 8 → (S16x128.Idx → EReal)) (h : Shape.Concatenates [S16x128, S16x128, S16x128, S16x128, S16x128, S16x128, S16x128, S16x128] S128x128 0) (t k : Fin 128) (p : Fin 8)
    (i : Fin 16) (hi : p.val * 16 + i.val = t.val) :
    concatenate S128x128 0 [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h (ix2 t k) = x p (ix2 i k) :=
  match p, hi with
  | ⟨0, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 0 (show 0 < 8 by decide) 16 (x 0) rfl 0 rfl i hi
  | ⟨1, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 1 (show 1 < 8 by decide) 16 (x 1) rfl 16 rfl i hi
  | ⟨2, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 2 (show 2 < 8 by decide) 16 (x 2) rfl 32 rfl i hi
  | ⟨3, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 3 (show 3 < 8 by decide) 16 (x 3) rfl 48 rfl i hi
  | ⟨4, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 4 (show 4 < 8 by decide) 16 (x 4) rfl 64 rfl i hi
  | ⟨5, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 5 (show 5 < 8 by decide) 16 (x 5) rfl 80 rfl i hi
  | ⟨6, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 6 (show 6 < 8 by decide) 16 (x 6) rfl 96 rfl i hi
  | ⟨7, _⟩, hi => pile_at [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩] h t k 7 (show 7 < 8 by decide) 16 (x 7) rfl 112 rfl i hi

/-- The distances at the level of 16 rows, half block by half block. -/
def parts4 (c : FVec Ideal S128x128 .f32) : Fin 8 → (S16x128.Idx → EReal) :=
  ![loPart 16 16 0 slices_S128x128_o16_0_S1x128 slices_S128x128_o0_0_S16x128 broadcasts_S1x128_S16x128 c,
    hiPart 16 16 slices_S128x128_o16_0_S1x128 slices_S128x128_o16_0_S16x128 broadcasts_S1x128_S16x128 c,
    loPart 16 48 32 slices_S128x128_o48_0_S1x128 slices_S128x128_o32_0_S16x128 broadcasts_S1x128_S16x128 c,
    hiPart 16 48 slices_S128x128_o48_0_S1x128 slices_S128x128_o48_0_S16x128 broadcasts_S1x128_S16x128 c,
    loPart 16 80 64 slices_S128x128_o80_0_S1x128 slices_S128x128_o64_0_S16x128 broadcasts_S1x128_S16x128 c,
    hiPart 16 80 slices_S128x128_o80_0_S1x128 slices_S128x128_o80_0_S16x128 broadcasts_S1x128_S16x128 c,
    loPart 16 112 96 slices_S128x128_o112_0_S1x128 slices_S128x128_o96_0_S16x128 broadcasts_S1x128_S16x128 c,
    hiPart 16 112 slices_S128x128_o112_0_S1x128 slices_S128x128_o112_0_S16x128 broadcasts_S1x128_S16x128 c]

def lev4 (c : FVec Ideal S128x128 .f32) : FVec Ideal S128x128 .f32 :=
  concatenate S128x128 0 [⟨S16x128, loPart 16 16 0 slices_S128x128_o16_0_S1x128 slices_S128x128_o0_0_S16x128 broadcasts_S1x128_S16x128 c⟩,
    ⟨S16x128, hiPart 16 16 slices_S128x128_o16_0_S1x128 slices_S128x128_o16_0_S16x128 broadcasts_S1x128_S16x128 c⟩,
    ⟨S16x128, loPart 16 48 32 slices_S128x128_o48_0_S1x128 slices_S128x128_o32_0_S16x128 broadcasts_S1x128_S16x128 c⟩,
    ⟨S16x128, hiPart 16 48 slices_S128x128_o48_0_S1x128 slices_S128x128_o48_0_S16x128 broadcasts_S1x128_S16x128 c⟩,
    ⟨S16x128, loPart 16 80 64 slices_S128x128_o80_0_S1x128 slices_S128x128_o64_0_S16x128 broadcasts_S1x128_S16x128 c⟩,
    ⟨S16x128, hiPart 16 80 slices_S128x128_o80_0_S1x128 slices_S128x128_o80_0_S16x128 broadcasts_S1x128_S16x128 c⟩,
    ⟨S16x128, loPart 16 112 96 slices_S128x128_o112_0_S1x128 slices_S128x128_o96_0_S16x128 broadcasts_S1x128_S16x128 c⟩,
    ⟨S16x128, hiPart 16 112 slices_S128x128_o112_0_S1x128 slices_S128x128_o112_0_S16x128 broadcasts_S1x128_S16x128 c⟩]
    concatenates_S16x128_S16x128_S16x128_S16x128_S16x128_S16x128_S16x128_S16x128_S128x128_d0

theorem parts4_at {c : FVec Ideal S128x128 .f32} {r : ℕ → ℕ → ℝ} (hc : R2 c r) (p : Fin 8) (i : Fin 16) (k : Fin 128) :
    parts4 c p (ix2 i k) = ((arm 16 (fun s => r s k) (p.val * 16 + i.val) : ℝ) : EReal) :=
  have hi := i.isLt
  match p with
  | ⟨0, _⟩ => lo_at hc i k (0 * 16 + i.val) (by omega) (by omega) (by omega)
  | ⟨1, _⟩ => hi_at hc i k (1 * 16 + i.val) (by omega) (by omega) (by omega)
  | ⟨2, _⟩ => lo_at hc i k (2 * 16 + i.val) (by omega) (by omega) (by omega)
  | ⟨3, _⟩ => hi_at hc i k (3 * 16 + i.val) (by omega) (by omega) (by omega)
  | ⟨4, _⟩ => lo_at hc i k (4 * 16 + i.val) (by omega) (by omega) (by omega)
  | ⟨5, _⟩ => hi_at hc i k (5 * 16 + i.val) (by omega) (by omega) (by omega)
  | ⟨6, _⟩ => lo_at hc i k (6 * 16 + i.val) (by omega) (by omega) (by omega)
  | ⟨7, _⟩ => hi_at hc i k (7 * 16 + i.val) (by omega) (by omega) (by omega)

theorem R2.lev4 {c : FVec Ideal S128x128 .f32} {r : ℕ → ℕ → ℝ} (hc : R2 c r) : R2 (lev4 c) fun t k => arm 16 (fun s => r s k) t := fun t k => by
  have ht := t.isLt
  have hp : t.val / 16 < 8 := by omega
  have hm : t.val % 16 < 16 := Nat.mod_lt _ (by omega)
  have e : t.val / 16 * 16 + t.val % 16 = t.val := by omega
  refine (pile16 (parts4 c) concatenates_S16x128_S16x128_S16x128_S16x128_S16x128_S16x128_S16x128_S16x128_S128x128_d0 t k ⟨t.val / 16, hp⟩ ⟨t.val % 16, hm⟩ e).trans ((parts4_at hc _ _ k).trans ?_)
  show ((arm 16 (fun s => r s k) (t.val / 16 * 16 + t.val % 16) : ℝ) : EReal) = _
  rw [e]

set_option maxHeartbeats 2000000 in
theorem pile32 (x : Fin 4 → (S32x128.Idx → EReal)) (h : Shape.Concatenates [S32x128, S32x128, S32x128, S32x128] S128x128 0) (t k : Fin 128) (p : Fin 4)
    (i : Fin 32) (hi : p.val * 32 + i.val = t.val) :
    concatenate S128x128 0 [⟨S32x128, x 0⟩, ⟨S32x128, x 1⟩, ⟨S32x128, x 2⟩, ⟨S32x128, x 3⟩] h (ix2 t k) = x p (ix2 i k) :=
  match p, hi with
  | ⟨0, _⟩, hi => pile_at [⟨S32x128, x 0⟩, ⟨S32x128, x 1⟩, ⟨S32x128, x 2⟩, ⟨S32x128, x 3⟩] h t k 0 (show 0 < 4 by decide) 32 (x 0) rfl 0 rfl i hi
  | ⟨1, _⟩, hi => pile_at [⟨S32x128, x 0⟩, ⟨S32x128, x 1⟩, ⟨S32x128, x 2⟩, ⟨S32x128, x 3⟩] h t k 1 (show 1 < 4 by decide) 32 (x 1) rfl 32 rfl i hi
  | ⟨2, _⟩, hi => pile_at [⟨S32x128, x 0⟩, ⟨S32x128, x 1⟩, ⟨S32x128, x 2⟩, ⟨S32x128, x 3⟩] h t k 2 (show 2 < 4 by decide) 32 (x 2) rfl 64 rfl i hi
  | ⟨3, _⟩, hi => pile_at [⟨S32x128, x 0⟩, ⟨S32x128, x 1⟩, ⟨S32x128, x 2⟩, ⟨S32x128, x 3⟩] h t k 3 (show 3 < 4 by decide) 32 (x 3) rfl 96 rfl i hi

/-- The distances at the level of 32 rows, half block by half block. -/
def parts5 (c : FVec Ideal S128x128 .f32) : Fin 4 → (S32x128.Idx → EReal) :=
  ![loPart 32 32 0 slices_S128x128_o32_0_S1x128 slices_S128x128_o0_0_S32x128 broadcasts_S1x128_S32x128 c,
    hiPart 32 32 slices_S128x128_o32_0_S1x128 slices_S128x128_o32_0_S32x128 broadcasts_S1x128_S32x128 c,
    loPart 32 96 64 slices_S128x128_o96_0_S1x128 slices_S128x128_o64_0_S32x128 broadcasts_S1x128_S32x128 c,
    hiPart 32 96 slices_S128x128_o96_0_S1x128 slices_S128x128_o96_0_S32x128 broadcasts_S1x128_S32x128 c]

def lev5 (c : FVec Ideal S128x128 .f32) : FVec Ideal S128x128 .f32 :=
  concatenate S128x128 0 [⟨S32x128, loPart 32 32 0 slices_S128x128_o32_0_S1x128 slices_S128x128_o0_0_S32x128 broadcasts_S1x128_S32x128 c⟩,
    ⟨S32x128, hiPart 32 32 slices_S128x128_o32_0_S1x128 slices_S128x128_o32_0_S32x128 broadcasts_S1x128_S32x128 c⟩,
    ⟨S32x128, loPart 32 96 64 slices_S128x128_o96_0_S1x128 slices_S128x128_o64_0_S32x128 broadcasts_S1x128_S32x128 c⟩,
    ⟨S32x128, hiPart 32 96 slices_S128x128_o96_0_S1x128 slices_S128x128_o96_0_S32x128 broadcasts_S1x128_S32x128 c⟩]
    concatenates_S32x128_S32x128_S32x128_S32x128_S128x128_d0

theorem parts5_at {c : FVec Ideal S128x128 .f32} {r : ℕ → ℕ → ℝ} (hc : R2 c r) (p : Fin 4) (i : Fin 32) (k : Fin 128) :
    parts5 c p (ix2 i k) = ((arm 32 (fun s => r s k) (p.val * 32 + i.val) : ℝ) : EReal) :=
  have hi := i.isLt
  match p with
  | ⟨0, _⟩ => lo_at hc i k (0 * 32 + i.val) (by omega) (by omega) (by omega)
  | ⟨1, _⟩ => hi_at hc i k (1 * 32 + i.val) (by omega) (by omega) (by omega)
  | ⟨2, _⟩ => lo_at hc i k (2 * 32 + i.val) (by omega) (by omega) (by omega)
  | ⟨3, _⟩ => hi_at hc i k (3 * 32 + i.val) (by omega) (by omega) (by omega)

theorem R2.lev5 {c : FVec Ideal S128x128 .f32} {r : ℕ → ℕ → ℝ} (hc : R2 c r) : R2 (lev5 c) fun t k => arm 32 (fun s => r s k) t := fun t k => by
  have ht := t.isLt
  have hp : t.val / 32 < 4 := by omega
  have hm : t.val % 32 < 32 := Nat.mod_lt _ (by omega)
  have e : t.val / 32 * 32 + t.val % 32 = t.val := by omega
  refine (pile32 (parts5 c) concatenates_S32x128_S32x128_S32x128_S32x128_S128x128_d0 t k ⟨t.val / 32, hp⟩ ⟨t.val % 32, hm⟩ e).trans ((parts5_at hc _ _ k).trans ?_)
  show ((arm 32 (fun s => r s k) (t.val / 32 * 32 + t.val % 32) : ℝ) : EReal) = _
  rw [e]

set_option maxHeartbeats 2000000 in
theorem pile64 (x : Fin 2 → (S64x128.Idx → EReal)) (h : Shape.Concatenates [S64x128, S64x128] S128x128 0) (t k : Fin 128) (p : Fin 2)
    (i : Fin 64) (hi : p.val * 64 + i.val = t.val) :
    concatenate S128x128 0 [⟨S64x128, x 0⟩, ⟨S64x128, x 1⟩] h (ix2 t k) = x p (ix2 i k) :=
  match p, hi with
  | ⟨0, _⟩, hi => pile_at [⟨S64x128, x 0⟩, ⟨S64x128, x 1⟩] h t k 0 (show 0 < 2 by decide) 64 (x 0) rfl 0 rfl i hi
  | ⟨1, _⟩, hi => pile_at [⟨S64x128, x 0⟩, ⟨S64x128, x 1⟩] h t k 1 (show 1 < 2 by decide) 64 (x 1) rfl 64 rfl i hi

/-- The distances at the level of 64 rows, half block by half block. -/
def parts6 (c : FVec Ideal S128x128 .f32) : Fin 2 → (S64x128.Idx → EReal) :=
  ![loPart 64 64 0 slices_S128x128_o64_0_S1x128 slices_S128x128_o0_0_S64x128 broadcasts_S1x128_S64x128 c,
    hiPart 64 64 slices_S128x128_o64_0_S1x128 slices_S128x128_o64_0_S64x128 broadcasts_S1x128_S64x128 c]

def lev6 (c : FVec Ideal S128x128 .f32) : FVec Ideal S128x128 .f32 :=
  concatenate S128x128 0 [⟨S64x128, loPart 64 64 0 slices_S128x128_o64_0_S1x128 slices_S128x128_o0_0_S64x128 broadcasts_S1x128_S64x128 c⟩,
    ⟨S64x128, hiPart 64 64 slices_S128x128_o64_0_S1x128 slices_S128x128_o64_0_S64x128 broadcasts_S1x128_S64x128 c⟩]
    concatenates_S64x128_S64x128_S128x128_d0

theorem parts6_at {c : FVec Ideal S128x128 .f32} {r : ℕ → ℕ → ℝ} (hc : R2 c r) (p : Fin 2) (i : Fin 64) (k : Fin 128) :
    parts6 c p (ix2 i k) = ((arm 64 (fun s => r s k) (p.val * 64 + i.val) : ℝ) : EReal) :=
  have hi := i.isLt
  match p with
  | ⟨0, _⟩ => lo_at hc i k (0 * 64 + i.val) (by omega) (by omega) (by omega)
  | ⟨1, _⟩ => hi_at hc i k (1 * 64 + i.val) (by omega) (by omega) (by omega)

theorem R2.lev6 {c : FVec Ideal S128x128 .f32} {r : ℕ → ℕ → ℝ} (hc : R2 c r) : R2 (lev6 c) fun t k => arm 64 (fun s => r s k) t := fun t k => by
  have ht := t.isLt
  have hp : t.val / 64 < 2 := by omega
  have hm : t.val % 64 < 64 := Nat.mod_lt _ (by omega)
  have e : t.val / 64 * 64 + t.val % 64 = t.val := by omega
  refine (pile64 (parts6 c) concatenates_S64x128_S64x128_S128x128_d0 t k ⟨t.val / 64, hp⟩ ⟨t.val % 64, hm⟩ e).trans ((parts6_at hc _ _ k).trans ?_)
  show ((arm 64 (fun s => r s k) (t.val / 64 * 64 + t.val % 64) : ℝ) : EReal) = _
  rw [e]

end Cert.Proof.Gla

end
-- ==== Proof.GlaScore.lean ====
/- One head's scores, rows and state over one block. -/
module

public import proofs.«01_k».proof.Proof.GlaLev

@[expose] public section

set_option maxRecDepth 16384

noncomputable section

namespace Cert.Proof.Gla

open Cert.GlaBwdIdeal Cert.GlaBwdIdeal.Gen Idealize.ShloMosaic Idealize.ShloMosaic.ValueIdx

/-! ## The rows' scores -/

/-- One level's part of the scores. -/
def stepOf (q k acc a : FVec Ideal S128x128 .f32) (m : Vec Ideal S1x128x128 .f32) : FVec Ideal S128x128 .f32 :=
  addf acc (mulf (shapeCast S128x128 m shapeCasts_S1x128x128_S128x128)
    (matmul dot_S128x128_S128x128_S128x128_1_1_0_0_n_n none
      (truncf .bf16 (mulf q (exp (subf (broadcast S128x128 (Scalar.ofBits .f32 0x00000000#32)) a))) bitsLt_bf16_f32)
      (truncf .bf16 (mulf k (exp (subf (broadcast S128x128 (Scalar.ofBits .f32 0x00000000#32)) a))) bitsLt_bf16_f32)
      (constant S128x128 .f32 0x00000000#32)))

/-- The row against itself. -/
def selfOf (q k : FVec Ideal S128x128 .f32) (m : Vec Ideal S1x128x128 .f32) : FVec Ideal S128x128 .f32 :=
  mulf (shapeCast S128x128 m shapeCasts_S1x128x128_S128x128)
    (matmul dot_S128x128_S128x128_S128x128_1_1_0_0_n_n none (truncf .bf16 q bitsLt_bf16_f32) (truncf .bf16 k bitsLt_bf16_f32)
      (constant S128x128 .f32 0x00000000#32))

/-- The scores up to the level of thirty-two rows, then all. -/
def scoreOf (q k c : FVec Ideal S128x128 .f32) (m0 m1 m2 m3 m4 m5 m6 m7 : Vec Ideal S1x128x128 .f32) : FVec Ideal S128x128 .f32 :=
  stepOf q k (stepOf q k (stepOf q k (stepOf q k (stepOf q k (stepOf q k (stepOf q k (selfOf q k m0) (lev0 c) m1) (lev1 c) m2) (lev2 c) m3)
    (lev3 c) m4) (lev4 c) m5) (lev5 c) m6) (lev6 c) m7

/-- One where the rows meet at the level. -/
def meetR (b t s : ℕ) : ℝ := if meets b t s then 1 else 0

/-- One on the diagonal. -/
def eqR (t s : ℕ) : ℝ := if t = s then 1 else 0

theorem R2.step {q k acc a : FVec Ideal S128x128 .f32} {m : Vec Ideal S1x128x128 .f32} {qr kr sr cr : ℕ → ℕ → ℝ} {b : ℕ}
    (hq : R2 q qr) (hk : R2 k kr) (hacc : R2 acc sr) (ha : R2 a fun t x => arm b (fun s => cr s x) t) (hm : R3 m (meetR b)) :
    R2 (stepOf q k acc a m) fun t s => sr t s + meetR b t s * ∑ x : Fin 128, qr t x * kr s x * Real.exp (cr t x - cr s x) := by
  have h := hacc.add (φ₁ := .f32) ((hm.flat shapeCasts_S1x128x128_S128x128).mul (φ₁ := .f32)
    (R2.nt (φ₁ := .bf16) (φ₂ := .bf16) dot_S128x128_S128x128_S128x128_1_1_0_0_n_n.wf (hq.mul (φ₁ := .f32) ((R2.zero.sub (φ₁ := .f32) ha).exp (φ₁ := .f32)))
      (hk.mul (φ₁ := .f32) ((R2.zero.sub (φ₁ := .f32) ha).exp (φ₁ := .f32)))))
  refine R2.congr (φ₁ := .f32) (x := stepOf q k acc a m) h fun t s => ?_
  refine congrArg₂ (· + ·) rfl ?_
  unfold meetR
  by_cases e : meets b t.val s.val = true
  · rw [if_pos e, one_mul, one_mul]
    refine Finset.sum_congr rfl fun x _ => ?_
    have := arm_meets b (fun s => cr s x) t.val s.val e
    rw [show cr t x - cr s x = (0 - arm b (fun s => cr s x) t.val) + (0 - arm b (fun s => cr s x) s.val) by linarith, Real.exp_add]
    ring
  · rw [if_neg e, zero_mul, zero_mul]

theorem R2.self {q k : FVec Ideal S128x128 .f32} {m : Vec Ideal S1x128x128 .f32} {qr kr : ℕ → ℕ → ℝ} (cr : ℕ → ℕ → ℝ)
    (hq : R2 q qr) (hk : R2 k kr) (hm : R3 m eqR) :
    R2 (selfOf q k m) fun t s => eqR t s * ∑ x : Fin 128, qr t x * kr s x * Real.exp (cr t x - cr s x) := by
  have h := (hm.flat shapeCasts_S1x128x128_S128x128).mul (φ₁ := .f32) (R2.nt (φ₁ := .bf16) (φ₂ := .bf16) dot_S128x128_S128x128_S128x128_1_1_0_0_n_n.wf hq hk)
  refine R2.congr (φ₁ := .f32) (x := selfOf q k m) h fun t s => ?_
  unfold eqR
  by_cases e : t.val = s.val
  · rw [if_pos e, e]
    simp
  · rw [if_neg e, zero_mul, zero_mul]

/-- The scores on real data: each earlier row against each later row, decayed over the rows between. -/
theorem R2.score {q k c : FVec Ideal S128x128 .f32} {m0 m1 m2 m3 m4 m5 m6 m7 : Vec Ideal S1x128x128 .f32} {qr kr cr : ℕ → ℕ → ℝ}
    (hq : R2 q qr) (hk : R2 k kr) (hc : R2 c cr) (h0 : R3 m0 eqR) (h1 : R3 m1 (meetR 1)) (h2 : R3 m2 (meetR 2)) (h3 : R3 m3 (meetR 4))
    (h4 : R3 m4 (meetR 8)) (h5 : R3 m5 (meetR 16)) (h6 : R3 m6 (meetR 32)) (h7 : R3 m7 (meetR 64)) :
    R2 (scoreOf q k c m0 m1 m2 m3 m4 m5 m6 m7) fun t s => if t ≤ s then ∑ x : Fin 128, qr t x * kr s x * Real.exp (cr t x - cr s x) else 0 := by
  have g := R2.step hq hk (R2.step hq hk (R2.step hq hk (R2.step hq hk (R2.step hq hk (R2.step hq hk (R2.step hq hk (R2.self cr hq hk h0)
    hc.lev0 h1) hc.lev1 h2) hc.lev2 h3) hc.lev3 h4) hc.lev4 h5) hc.lev5 h6) hc.lev6 h7
  refine R2.congr (φ₁ := .f32) (x := scoreOf q k c m0 m1 m2 m3 m4 m5 m6 m7) g fun t s => ?_
  have e : eqR t s + meetR 1 t s + meetR 2 t s + meetR 4 t s + meetR 8 t s + meetR 16 t s + meetR 32 t s + meetR 64 t s = if t.val ≤ s.val then 1 else 0 := by
    have h := congrArg (fun n : ℕ => (n : ℝ)) (meets_once t s)
    simp only [Nat.cast_add, Nat.cast_ite, Nat.cast_one, Nat.cast_zero] at h
    have h' : meetR 1 t s + meetR 2 t s + meetR 4 t s + meetR 8 t s + meetR 16 t s + meetR 32 t s + meetR 64 t s = if t < s then 1 else 0 := h
    have hd : eqR t s + (if t < s then 1 else 0) = if t.val ≤ s.val then (1 : ℝ) else 0 := by
      unfold eqR
      by_cases a : t.val = s.val
      · rw [if_pos a, if_neg (by rw [Fin.lt_def]; omega), if_pos (by omega), add_zero]
      · rw [if_neg a, zero_add]
        exact if_congr (by rw [Fin.lt_def]; omega) rfl rfl
    rw [← hd, ← h']
    ring
  rw [← add_mul, ← add_mul, ← add_mul, ← add_mul, ← add_mul, ← add_mul, ← add_mul, e]
  split <;> simp

/-! ## A head's rows and its state -/

/-- The block's rows of the result. -/
def headO (q k c : FVec Ideal S128x128 .f32) (v : FVec Ideal S128x256 .bf16) (T : Vec Ideal S1x256x128 .f32)
    (m0 m1 m2 m3 m4 m5 m6 m7 : Vec Ideal S1x128x128 .f32) : FVec Ideal S128x256 .f32 :=
  addf (matmul dot_S128x128_S256x128_S128x256_1_1_0_0_n_n none (truncf .bf16 (mulf q (exp c)) bitsLt_bf16_f32)
      (truncf .bf16 (shapeCast S256x128 T shapeCasts_S1x256x128_S256x128) bitsLt_bf16_f32) (constant S128x256 .f32 0x00000000#32))
    (matmul dot_S128x128_S128x256_S128x256_1_0_0_1_n_n none (truncf .bf16 (scoreOf q k c m0 m1 m2 m3 m4 m5 m6 m7) bitsLt_bf16_f32) v
      (constant S128x256 .f32 0x00000000#32))

/-- The state after the block. -/
def headS (k c : FVec Ideal S128x128 .f32) (v : FVec Ideal S128x256 .bf16) (T : Vec Ideal S1x256x128 .f32) : FVec Ideal S1x256x128 .f32 :=
  shapeCast S1x256x128
    (addf (mulf (shapeCast S256x128 T shapeCasts_S1x256x128_S256x128)
        (broadcastTo S256x128 (exp (extractStridedSlice S1x128 ![0, 0] c slices_S128x128_o0_0_S1x128)) broadcasts_S1x128_S256x128))
      (matmul dot_S128x256_S128x128_S256x128_0_0_1_1_n_n none v
        (truncf .bf16 (mulf k (exp (subf (broadcastTo S128x128 (extractStridedSlice S1x128 ![0, 0] c slices_S128x128_o0_0_S1x128) broadcasts_S1x128_S128x128) c)))
          bitsLt_bf16_f32) (constant S256x128 .f32 0x00000000#32))) shapeCasts_S256x128_S1x256x128

theorem R2.headO {q k c : FVec Ideal S128x128 .f32} {v : FVec Ideal S128x256 .bf16} {T : Vec Ideal S1x256x128 .f32}
    {m0 m1 m2 m3 m4 m5 m6 m7 : Vec Ideal S1x128x128 .f32} {qr kr cr vr Tr : ℕ → ℕ → ℝ}
    (hq : R2 q qr) (hk : R2 k kr) (hc : R2 c cr) (hv : R2 v vr) (hT : R3 T Tr) (h0 : R3 m0 eqR) (h1 : R3 m1 (meetR 1)) (h2 : R3 m2 (meetR 2))
    (h3 : R3 m3 (meetR 4)) (h4 : R3 m4 (meetR 8)) (h5 : R3 m5 (meetR 16)) (h6 : R3 m6 (meetR 32)) (h7 : R3 m7 (meetR 64)) :
    R2 (headO q k c v T m0 m1 m2 m3 m4 m5 m6 m7) fun t w => (∑ x : Fin 128, qr t x * Real.exp (cr t x) * Tr w x)
      + ∑ s : Fin 128, (if t ≤ s.val then ∑ x : Fin 128, qr t x * kr s x * Real.exp (cr t x - cr s x) else 0) * vr s w :=
  R2.add (φ₁ := .f32)
    (R2.nt (φ₁ := .bf16) (φ₂ := .bf16) dot_S128x128_S256x128_S128x256_1_1_0_0_n_n.wf (hq.mul (φ₁ := .f32) (hc.exp (φ₁ := .f32)))
      (hT.flat shapeCasts_S1x256x128_S256x128))
    (R2.nn (φ₁ := .bf16) (φ₂ := .bf16) dot_S128x128_S128x256_S128x256_1_0_0_1_n_n.wf (R2.score hq hk hc h0 h1 h2 h3 h4 h5 h6 h7) hv)

theorem R2.headS {k c : FVec Ideal S128x128 .f32} {v : FVec Ideal S128x256 .bf16} {T : Vec Ideal S1x256x128 .f32} {kr cr vr Tr : ℕ → ℕ → ℝ}
    (hk : R2 k kr) (hc : R2 c cr) (hv : R2 v vr) (hT : R3 T Tr) :
    R3 (headS k c v T) fun w x => Tr w x * Real.exp (cr 0 x) + ∑ s : Fin 128, vr s w * (kr s x * Real.exp (cr 0 x - cr s x)) :=
  R2.sheet (R2.add (φ₁ := .f32)
    ((hT.flat shapeCasts_S1x256x128_S256x128).mul (φ₁ := .f32)
      (((hc.rows 0 slices_S128x128_o0_0_S1x128).exp (φ₁ := .f32)).spread (by decide) broadcasts_S1x128_S256x128))
    (R2.tn (φ₁ := .bf16) (φ₂ := .bf16) dot_S128x256_S128x128_S256x128_0_0_1_1_n_n.wf hv (hk.mul (φ₁ := .f32)
      ((((hc.rows 0 slices_S128x128_o0_0_S1x128).spread (by decide) broadcasts_S1x128_S128x128).sub (φ₁ := .f32) hc).exp (φ₁ := .f32)))))
    shapeCasts_S256x128_S1x256x128

end Cert.Proof.Gla

end
-- ==== Proof.GlaRun.lean ====
/- What the body leaves, head by head: each store's value is the head's rows or its state. -/
module

public import proofs.«01_k».proof.Proof.GlaScore
public import proofs.«01_k».proof.Proof.Gen.GlaBwdIdeal.Value

@[expose] public section

set_option maxRecDepth 65536

noncomputable section

namespace Cert.Proof.Gla

open Cert.GlaBwdIdeal Cert.GlaBwdIdeal.Gen Idealize.ShloMosaic Idealize.ShloMosaic.TcCoe Idealize.ShloMosaic.ValueIdx

variable (c : Dev nD) (i : grid0.Coords) (arg1 : Memref sig .tc .vmem S128x512 .f32) (harg1 : arg1.IsWhole) (arg2 : Memref sig .tc .vmem S128x512 .f32) (harg2 : arg2.IsWhole)
  (arg3 : Memref sig .tc .vmem S128x1024 .f32) (harg3 : arg3.IsWhole) (arg4 : Memref sig .tc .vmem S128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S4x256x128 .f32) (harg7 : arg7.IsWhole) (arg8 : Memref sig .tc .vmem S8x128x128 .f32) (harg8 : arg8.IsWhole)
  (arg9 : Memref sig .tc .vmem S128x128 .bf16) (harg9 : arg9.IsWhole) (arg10 : Memref sig .tc .vmem S128x1024 .f32) (harg10 : arg10.IsWhole)
  (arg11 : Memref sig .tc .vmem S4x256x128 .f32) (harg11 : arg11.IsWhole)
  (x0 : Vec Ideal S128x512 .f32) (x1 : Vec Ideal S128x512 .f32) (x2 : Vec Ideal S128x1024 .f32) (x3 : Vec Ideal S128x128 .f32)
  (x4 : Vec Ideal S128x512 .bf16) (x5 : Vec Ideal S1x512 .f32) (x6 : Vec Ideal S4x256x128 .f32) (x7 : Vec Ideal S8x128x128 .f32)
  (x8 : Vec Ideal S128x128 .bf16) (xo10 : Vec Ideal S4x256x128 .f32)

/-- The loads of the body. -/
abbrev ldQ (o : Nat) (h : ∀ a, ![0, o] a + S128x128.size a ≤ S128x512.size a) : FVec Ideal S128x128 .f32 :=
  View.readAt (Elt Ideal) arg1.view (Rect.unit (s := S128x512) ![0, o] S128x128.size h).toLoadRect (harg1.unread x0)
abbrev ldV (o : Nat) (h : ∀ a, ![0, o] a + S128x256.size a ≤ S128x1024.size a) : FVec Ideal S128x256 .f32 :=
  View.readAt (Elt Ideal) arg3.view (Rect.unit (s := S128x1024) ![0, o] S128x256.size h).toLoadRect (harg3.unread x2)
abbrev ldM (o : Nat) (h : ∀ a, ![o, 0, 0] a + S1x128x128.size a ≤ S8x128x128.size a) : Vec Ideal S1x128x128 .f32 :=
  View.readAt (Elt Ideal) arg8.view (Rect.unit (s := S8x128x128) ![o, 0, 0] S1x128x128.size h).toLoadRect (harg8.unread x7)
abbrev ldS (o : Nat) (h : ∀ a, ![o, 0, 0] a + S1x256x128.size a ≤ S4x256x128.size a) : Vec Ideal S1x256x128 .f32 :=
  View.readAt (Elt Ideal) arg11.view (Rect.unit (s := S4x256x128) ![o, 0, 0] S1x256x128.size h).toLoadRect (harg11.unread xo10)
abbrev ldT : Vec Ideal S128x128 .bf16 :=
  View.readAt (Elt Ideal) arg9.view (Rect.unit (s := S128x128) ![0, 0] S128x128.size inb_S128x128_S128x128_0_0).toLoadRect (harg9.unread x8)
abbrev ldA : Vec Ideal S128x128 .f32 :=
  View.readAt (Elt Ideal) arg4.view (Rect.unit (s := S128x128) ![0, 0] S128x128.size inb_S128x128_S128x128_0_0).toLoadRect (harg4.unread x3)
abbrev ldW : Vec Ideal S128x512 .bf16 :=
  View.readAt (Elt Ideal) arg5.view (Rect.unit (s := S128x512) ![0, 0] S128x512.size inb_S128x512_S128x512_0_0).toLoadRect (harg5.unread x4)
abbrev ldB : Vec Ideal S1x512 .f32 :=
  View.readAt (Elt Ideal) arg6.view (Rect.unit (s := S1x512) ![0, 0] S1x512.size inb_S1x512_S1x512_0_0).toLoadRect (harg6.unread x5)

/-- The scaled queries, and the sums of a head's gates. -/
def scaled (x : FVec Ideal S128x128 .f32) : FVec Ideal S128x128 .f32 := mulf x (broadcast S128x128 (Scalar.ofBits .f32 0x3DB504F3#32))
def sums (o : Nat) (h : S128x512.Slices ![0, o] S128x128) (tri : Vec Ideal S128x128 .bf16) (a : Vec Ideal S128x128 .f32) (w : Vec Ideal S128x512 .bf16)
    (b : Vec Ideal S1x512 .f32) : FVec Ideal S128x128 .f32 :=
  cumOf (shapeCast S128x128 tri shapeCasts_S128x128_S128x128) (gateOf (extractStridedSlice S128x128 ![0, o] (k0_pay2 (F := Ideal) a w b) h))

def headRows (o : Nat) (h : S128x512.Slices ![0, o] S128x128) (q k : FVec Ideal S128x128 .f32) (v : FVec Ideal S128x256 .f32) (T : Vec Ideal S1x256x128 .f32)
    (tri : Vec Ideal S128x128 .bf16) (a : Vec Ideal S128x128 .f32) (w : Vec Ideal S128x512 .bf16) (b : Vec Ideal S1x512 .f32)
    (m0 m1 m2 m3 m4 m5 m6 m7 : Vec Ideal S1x128x128 .f32) : FVec Ideal S128x256 .f32 :=
  headO (scaled q) k (sums o h tri a w b) (truncf .bf16 v bitsLt_bf16_f32) T m0 m1 m2 m3 m4 m5 m6 m7
def headState (o : Nat) (h : S128x512.Slices ![0, o] S128x128) (k : FVec Ideal S128x128 .f32) (v : FVec Ideal S128x256 .f32) (T : Vec Ideal S1x256x128 .f32)
    (tri : Vec Ideal S128x128 .bf16) (a : Vec Ideal S128x128 .f32) (w : Vec Ideal S128x512 .bf16) (b : Vec Ideal S1x512 .f32) : FVec Ideal S1x256x128 .f32 :=
  headS k (sums o h tri a w b) (truncf .bf16 v bitsLt_bf16_f32) T

def LA0 (arg2 : Memref sig .tc .vmem S128x512 .f32) (harg2 : arg2.IsWhole)
  (arg3 : Memref sig .tc .vmem S128x1024 .f32) (harg3 : arg3.IsWhole) (arg4 : Memref sig .tc .vmem S128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S4x256x128 .f32) (harg7 : arg7.IsWhole)
  (arg9 : Memref sig .tc .vmem S128x128 .bf16) (harg9 : arg9.IsWhole)
  (arg11 : Memref sig .tc .vmem S4x256x128 .f32)
  (x1 : Vec Ideal S128x512 .f32) (x2 : Vec Ideal S128x1024 .f32) (x3 : Vec Ideal S128x128 .f32)
  (x4 : Vec Ideal S128x512 .bf16) (x5 : Vec Ideal S1x512 .f32) (x6 : Vec Ideal S4x256x128 .f32)
  (x8 : Vec Ideal S128x128 .bf16) : List (View.Piece (Elt Ideal) S4x256x128 .f32) :=
  [⟨Rect.unit ![0, 0, 0] S4x256x128.size inb_S4x256x128_S4x256x128_0_0_0,
      View.readAt (Elt Ideal) arg7.view (Rect.unit ![0, 0, 0] S4x256x128.size inb_S4x256x128_S4x256x128_0_0_0).toLoadRect (harg7.unread x6)⟩]
def LA1 (arg2 : Memref sig .tc .vmem S128x512 .f32) (harg2 : arg2.IsWhole)
  (arg3 : Memref sig .tc .vmem S128x1024 .f32) (harg3 : arg3.IsWhole) (arg4 : Memref sig .tc .vmem S128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S4x256x128 .f32) (harg7 : arg7.IsWhole)
  (arg9 : Memref sig .tc .vmem S128x128 .bf16) (harg9 : arg9.IsWhole)
  (arg11 : Memref sig .tc .vmem S4x256x128 .f32)
  (x1 : Vec Ideal S128x512 .f32) (x2 : Vec Ideal S128x1024 .f32) (x3 : Vec Ideal S128x128 .f32)
  (x4 : Vec Ideal S128x512 .bf16) (x5 : Vec Ideal S1x512 .f32) (x6 : Vec Ideal S4x256x128 .f32)
  (x8 : Vec Ideal S128x128 .bf16) : List (View.Piece (Elt Ideal) S4x256x128 .f32) :=
  ⟨(Rect.unit (s := S4x256x128) ![0, 0, 0] S1x256x128.size inb_S4x256x128_S1x256x128_0_0_0), headState 0 slices_S128x512_o0_0_S128x128 (ldQ arg2 harg2 x1 0 inb_S128x512_S128x128_0_0) (ldV arg3 harg3 x2 0 inb_S128x1024_S128x256_0_0) (View.readCov (Val := Elt Ideal) arg11.view (LA0 arg2 harg2 arg3 harg3 arg4 harg4 arg5 harg5 arg6 harg6 arg7 harg7 arg9 harg9 arg11 x1 x2 x3 x4 x5 x6 x8) (Rect.unit (s := S4x256x128) ![0, 0, 0] S1x256x128.size inb_S4x256x128_S1x256x128_0_0_0).toLoadRect)
        (ldT arg9 harg9 x8) (ldA arg4 harg4 x3) (ldW arg5 harg5 x4) (ldB arg6 harg6 x5)⟩ :: LA0 arg2 harg2 arg3 harg3 arg4 harg4 arg5 harg5 arg6 harg6 arg7 harg7 arg9 harg9 arg11 x1 x2 x3 x4 x5 x6 x8
def LA2 (arg2 : Memref sig .tc .vmem S128x512 .f32) (harg2 : arg2.IsWhole)
  (arg3 : Memref sig .tc .vmem S128x1024 .f32) (harg3 : arg3.IsWhole) (arg4 : Memref sig .tc .vmem S128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S4x256x128 .f32) (harg7 : arg7.IsWhole)
  (arg9 : Memref sig .tc .vmem S128x128 .bf16) (harg9 : arg9.IsWhole)
  (arg11 : Memref sig .tc .vmem S4x256x128 .f32)
  (x1 : Vec Ideal S128x512 .f32) (x2 : Vec Ideal S128x1024 .f32) (x3 : Vec Ideal S128x128 .f32)
  (x4 : Vec Ideal S128x512 .bf16) (x5 : Vec Ideal S1x512 .f32) (x6 : Vec Ideal S4x256x128 .f32)
  (x8 : Vec Ideal S128x128 .bf16) : List (View.Piece (Elt Ideal) S4x256x128 .f32) :=
  ⟨(Rect.unit (s := S4x256x128) ![1, 0, 0] S1x256x128.size inb_S4x256x128_S1x256x128_1_0_0), headState 128 slices_S128x512_o0_128_S128x128 (ldQ arg2 harg2 x1 128 inb_S128x512_S128x128_0_128) (ldV arg3 harg3 x2 256 inb_S128x1024_S128x256_0_256) (View.readCov (Val := Elt Ideal) arg11.view (LA1 arg2 harg2 arg3 harg3 arg4 harg4 arg5 harg5 arg6 harg6 arg7 harg7 arg9 harg9 arg11 x1 x2 x3 x4 x5 x6 x8) (Rect.unit (s := S4x256x128) ![1, 0, 0] S1x256x128.size inb_S4x256x128_S1x256x128_1_0_0).toLoadRect)
        (ldT arg9 harg9 x8) (ldA arg4 harg4 x3) (ldW arg5 harg5 x4) (ldB arg6 harg6 x5)⟩ :: LA1 arg2 harg2 arg3 harg3 arg4 harg4 arg5 harg5 arg6 harg6 arg7 harg7 arg9 harg9 arg11 x1 x2 x3 x4 x5 x6 x8
def LA3 (arg2 : Memref sig .tc .vmem S128x512 .f32) (harg2 : arg2.IsWhole)
  (arg3 : Memref sig .tc .vmem S128x1024 .f32) (harg3 : arg3.IsWhole) (arg4 : Memref sig .tc .vmem S128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S4x256x128 .f32) (harg7 : arg7.IsWhole)
  (arg9 : Memref sig .tc .vmem S128x128 .bf16) (harg9 : arg9.IsWhole)
  (arg11 : Memref sig .tc .vmem S4x256x128 .f32)
  (x1 : Vec Ideal S128x512 .f32) (x2 : Vec Ideal S128x1024 .f32) (x3 : Vec Ideal S128x128 .f32)
  (x4 : Vec Ideal S128x512 .bf16) (x5 : Vec Ideal S1x512 .f32) (x6 : Vec Ideal S4x256x128 .f32)
  (x8 : Vec Ideal S128x128 .bf16) : List (View.Piece (Elt Ideal) S4x256x128 .f32) :=
  ⟨(Rect.unit (s := S4x256x128) ![2, 0, 0] S1x256x128.size inb_S4x256x128_S1x256x128_2_0_0), headState 256 slices_S128x512_o0_256_S128x128 (ldQ arg2 harg2 x1 256 inb_S128x512_S128x128_0_256) (ldV arg3 harg3 x2 512 inb_S128x1024_S128x256_0_512) (View.readCov (Val := Elt Ideal) arg11.view (LA2 arg2 harg2 arg3 harg3 arg4 harg4 arg5 harg5 arg6 harg6 arg7 harg7 arg9 harg9 arg11 x1 x2 x3 x4 x5 x6 x8) (Rect.unit (s := S4x256x128) ![2, 0, 0] S1x256x128.size inb_S4x256x128_S1x256x128_2_0_0).toLoadRect)
        (ldT arg9 harg9 x8) (ldA arg4 harg4 x3) (ldW arg5 harg5 x4) (ldB arg6 harg6 x5)⟩ :: LA2 arg2 harg2 arg3 harg3 arg4 harg4 arg5 harg5 arg6 harg6 arg7 harg7 arg9 harg9 arg11 x1 x2 x3 x4 x5 x6 x8
def LA4 (arg2 : Memref sig .tc .vmem S128x512 .f32) (harg2 : arg2.IsWhole)
  (arg3 : Memref sig .tc .vmem S128x1024 .f32) (harg3 : arg3.IsWhole) (arg4 : Memref sig .tc .vmem S128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S4x256x128 .f32) (harg7 : arg7.IsWhole)
  (arg9 : Memref sig .tc .vmem S128x128 .bf16) (harg9 : arg9.IsWhole)
  (arg11 : Memref sig .tc .vmem S4x256x128 .f32)
  (x1 : Vec Ideal S128x512 .f32) (x2 : Vec Ideal S128x1024 .f32) (x3 : Vec Ideal S128x128 .f32)
  (x4 : Vec Ideal S128x512 .bf16) (x5 : Vec Ideal S1x512 .f32) (x6 : Vec Ideal S4x256x128 .f32)
  (x8 : Vec Ideal S128x128 .bf16) : List (View.Piece (Elt Ideal) S4x256x128 .f32) :=
  ⟨(Rect.unit (s := S4x256x128) ![3, 0, 0] S1x256x128.size inb_S4x256x128_S1x256x128_3_0_0), headState 384 slices_S128x512_o0_384_S128x128 (ldQ arg2 harg2 x1 384 inb_S128x512_S128x128_0_384) (ldV arg3 harg3 x2 768 inb_S128x1024_S128x256_0_768) (View.readCov (Val := Elt Ideal) arg11.view (LA3 arg2 harg2 arg3 harg3 arg4 harg4 arg5 harg5 arg6 harg6 arg7 harg7 arg9 harg9 arg11 x1 x2 x3 x4 x5 x6 x8) (Rect.unit (s := S4x256x128) ![3, 0, 0] S1x256x128.size inb_S4x256x128_S1x256x128_3_0_0).toLoadRect)
        (ldT arg9 harg9 x8) (ldA arg4 harg4 x3) (ldW arg5 harg5 x4) (ldB arg6 harg6 x5)⟩ :: LA3 arg2 harg2 arg3 harg3 arg4 harg4 arg5 harg5 arg6 harg6 arg7 harg7 arg9 harg9 arg11 x1 x2 x3 x4 x5 x6 x8

theorem listB9 (hc0 : ¬cond0_0 i) : (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo10).1 =
    [⟨(Rect.unit (s := S128x1024) ![0, 768] S128x256.size inb_S128x1024_S128x256_0_768), headRows 384 slices_S128x512_o0_384_S128x128 (ldQ arg1 harg1 x0 384 inb_S128x512_S128x128_0_384) (ldQ arg2 harg2 x1 384 inb_S128x512_S128x128_0_384) (ldV arg3 harg3 x2 768 inb_S128x1024_S128x256_0_768) (ldS arg11 harg11 xo10 3 inb_S4x256x128_S1x256x128_3_0_0)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩,
     ⟨(Rect.unit (s := S128x1024) ![0, 512] S128x256.size inb_S128x1024_S128x256_0_512), headRows 256 slices_S128x512_o0_256_S128x128 (ldQ arg1 harg1 x0 256 inb_S128x512_S128x128_0_256) (ldQ arg2 harg2 x1 256 inb_S128x512_S128x128_0_256) (ldV arg3 harg3 x2 512 inb_S128x1024_S128x256_0_512) (ldS arg11 harg11 xo10 2 inb_S4x256x128_S1x256x128_2_0_0)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩,
     ⟨(Rect.unit (s := S128x1024) ![0, 256] S128x256.size inb_S128x1024_S128x256_0_256), headRows 128 slices_S128x512_o0_128_S128x128 (ldQ arg1 harg1 x0 128 inb_S128x512_S128x128_0_128) (ldQ arg2 harg2 x1 128 inb_S128x512_S128x128_0_128) (ldV arg3 harg3 x2 256 inb_S128x1024_S128x256_0_256) (ldS arg11 harg11 xo10 1 inb_S4x256x128_S1x256x128_1_0_0)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩,
     ⟨(Rect.unit (s := S128x1024) ![0, 0] S128x256.size inb_S128x1024_S128x256_0_0), headRows 0 slices_S128x512_o0_0_S128x128 (ldQ arg1 harg1 x0 0 inb_S128x512_S128x128_0_0) (ldQ arg2 harg2 x1 0 inb_S128x512_S128x128_0_0) (ldV arg3 harg3 x2 0 inb_S128x1024_S128x256_0_0) (ldS arg11 harg11 xo10 0 inb_S4x256x128_S1x256x128_0_0_0)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩] := by
  rfl

theorem listB10 (hc0 : ¬cond0_0 i) : (kernelRun0_B c i arg1 harg1 arg2 harg2 arg3 harg3 arg4 harg4 arg5 harg5 arg6 harg6 arg7 harg7 arg8 harg8 arg9 harg9 arg10 harg10 arg11 harg11 hc0 x0 x1 x2 x3 x4 x5 x6 x7 x8 xo10).2.1 =
    [⟨(Rect.unit (s := S4x256x128) ![3, 0, 0] S1x256x128.size inb_S4x256x128_S1x256x128_3_0_0), headState 384 slices_S128x512_o0_384_S128x128 (ldQ arg2 harg2 x1 384 inb_S128x512_S128x128_0_384) (ldV arg3 harg3 x2 768 inb_S128x1024_S128x256_0_768) (ldS arg11 harg11 xo10 3 inb_S4x256x128_S1x256x128_3_0_0)
        (ldT arg9 harg9 x8) (ldA arg4 harg4 x3) (ldW arg5 harg5 x4) (ldB arg6 harg6 x5)⟩,
     ⟨(Rect.unit (s := S4x256x128) ![2, 0, 0] S1x256x128.size inb_S4x256x128_S1x256x128_2_0_0), headState 256 slices_S128x512_o0_256_S128x128 (ldQ arg2 harg2 x1 256 inb_S128x512_S128x128_0_256) (ldV arg3 harg3 x2 512 inb_S128x1024_S128x256_0_512) (ldS arg11 harg11 xo10 2 inb_S4x256x128_S1x256x128_2_0_0)
        (ldT arg9 harg9 x8) (ldA arg4 harg4 x3) (ldW arg5 harg5 x4) (ldB arg6 harg6 x5)⟩,
     ⟨(Rect.unit (s := S4x256x128) ![1, 0, 0] S1x256x128.size inb_S4x256x128_S1x256x128_1_0_0), headState 128 slices_S128x512_o0_128_S128x128 (ldQ arg2 harg2 x1 128 inb_S128x512_S128x128_0_128) (ldV arg3 harg3 x2 256 inb_S128x1024_S128x256_0_256) (ldS arg11 harg11 xo10 1 inb_S4x256x128_S1x256x128_1_0_0)
        (ldT arg9 harg9 x8) (ldA arg4 harg4 x3) (ldW arg5 harg5 x4) (ldB arg6 harg6 x5)⟩,
     ⟨(Rect.unit (s := S4x256x128) ![0, 0, 0] S1x256x128.size inb_S4x256x128_S1x256x128_0_0_0), headState 0 slices_S128x512_o0_0_S128x128 (ldQ arg2 harg2 x1 0 inb_S128x512_S128x128_0_0) (ldV arg3 harg3 x2 0 inb_S128x1024_S128x256_0_0) (ldS arg11 harg11 xo10 0 inb_S4x256x128_S1x256x128_0_0_0)
        (ldT arg9 harg9 x8) (ldA arg4 harg4 x3) (ldW arg5 harg5 x4) (ldB arg6 harg6 x5)⟩] := by
  rfl

theorem listA9 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7 x8).1 =
    [⟨(Rect.unit (s := S128x1024) ![0, 768] S128x256.size inb_S128x1024_S128x256_0_768), headRows 384 slices_S128x512_o0_384_S128x128 (ldQ arg1 harg1 x0 384 inb_S128x512_S128x128_0_384) (ldQ arg2 harg2 x1 384 inb_S128x512_S128x128_0_384) (ldV arg3 harg3 x2 768 inb_S128x1024_S128x256_0_768) (View.readCov (Val := Elt Ideal) arg11.view (LA3 arg2 harg2 arg3 harg3 arg4 harg4 arg5 harg5 arg6 harg6 arg7 harg7 arg9 harg9 arg11 x1 x2 x3 x4 x5 x6 x8) (Rect.unit (s := S4x256x128) ![3, 0, 0] S1x256x128.size inb_S4x256x128_S1x256x128_3_0_0).toLoadRect)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩,
     ⟨(Rect.unit (s := S128x1024) ![0, 512] S128x256.size inb_S128x1024_S128x256_0_512), headRows 256 slices_S128x512_o0_256_S128x128 (ldQ arg1 harg1 x0 256 inb_S128x512_S128x128_0_256) (ldQ arg2 harg2 x1 256 inb_S128x512_S128x128_0_256) (ldV arg3 harg3 x2 512 inb_S128x1024_S128x256_0_512) (View.readCov (Val := Elt Ideal) arg11.view (LA2 arg2 harg2 arg3 harg3 arg4 harg4 arg5 harg5 arg6 harg6 arg7 harg7 arg9 harg9 arg11 x1 x2 x3 x4 x5 x6 x8) (Rect.unit (s := S4x256x128) ![2, 0, 0] S1x256x128.size inb_S4x256x128_S1x256x128_2_0_0).toLoadRect)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩,
     ⟨(Rect.unit (s := S128x1024) ![0, 256] S128x256.size inb_S128x1024_S128x256_0_256), headRows 128 slices_S128x512_o0_128_S128x128 (ldQ arg1 harg1 x0 128 inb_S128x512_S128x128_0_128) (ldQ arg2 harg2 x1 128 inb_S128x512_S128x128_0_128) (ldV arg3 harg3 x2 256 inb_S128x1024_S128x256_0_256) (View.readCov (Val := Elt Ideal) arg11.view (LA1 arg2 harg2 arg3 harg3 arg4 harg4 arg5 harg5 arg6 harg6 arg7 harg7 arg9 harg9 arg11 x1 x2 x3 x4 x5 x6 x8) (Rect.unit (s := S4x256x128) ![1, 0, 0] S1x256x128.size inb_S4x256x128_S1x256x128_1_0_0).toLoadRect)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩,
     ⟨(Rect.unit (s := S128x1024) ![0, 0] S128x256.size inb_S128x1024_S128x256_0_0), headRows 0 slices_S128x512_o0_0_S128x128 (ldQ arg1 harg1 x0 0 inb_S128x512_S128x128_0_0) (ldQ arg2 harg2 x1 0 inb_S128x512_S128x128_0_0) (ldV arg3 harg3 x2 0 inb_S128x1024_S128x256_0_0) (View.readCov (Val := Elt Ideal) arg11.view (LA0 arg2 harg2 arg3 harg3 arg4 harg4 arg5 harg5 arg6 harg6 arg7 harg7 arg9 harg9 arg11 x1 x2 x3 x4 x5 x6 x8) (Rect.unit (s := S4x256x128) ![0, 0, 0] S1x256x128.size inb_S4x256x128_S1x256x128_0_0_0).toLoadRect)
        (ldT arg9 harg9 x8) (ldA arg4 harg4 x3) (ldW arg5 harg5 x4) (ldB arg6 harg6 x5)
        (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)⟩] := by
  rfl

theorem listA10 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1 = LA4 arg2 harg2 arg3 harg3 arg4 harg4 arg5 harg5 arg6 harg6 arg7 harg7 arg9 harg9 arg11 x1 x2 x3 x4 x5 x6 x8 := by
  rfl

end Cert.Proof.Gla

end
-- ==== Proof.GlaSeq.lean ====
/- The gated recurrence, on real numbers: what both programs compute. -/
module

public import proofs.«01_k».proof.Proof.GlaHead

@[expose] public section

noncomputable section

namespace Cert.Proof.Gla

open Idealize.ShloMosaic
open Finset (Ico)

/-- The scale of the queries. -/
def sc : ℝ := 11863283 / 134217728

theorem sc_eq : Ideal.ofBits .f32 0x3DB504F3#32 = ((sc : ℝ) : EReal) := by
  unfold sc
  simp [Ideal.ofBits, Ideal.ieee, -EReal.coe_mul]; norm_num

/-- The gate's argument of row `p`, column `k`. -/
def gz (z w : ℕ → ℕ → ℝ) (b : ℕ → ℝ) (p k : ℕ) : ℝ := (∑ x : Fin 16, z p (8208 + x) * w x k) + b k

variable (z w : ℕ → ℕ → ℝ) (b : ℕ → ℝ) (s : ℕ → ℕ → ℕ → ℝ)

/-- The log gate of row `p` in head `h`, column `x`. -/
def gG (h x p : ℕ) : ℝ := lgate (gz z w b p (128 * h + x))
/-- What head `h` carries into the rows before `p`. -/
def St (h y x p : ℕ) : ℝ := carry (gG z w b h x) (fun r => z r (5632 + (128 * h + x))) (fun r => z r (6144 + (256 * h + y))) (s h y x) p
/-- Head `h`'s output at row `p`, column `y`. -/
def Out (h y p : ℕ) : ℝ :=
  (∑ x : Fin 128, z p (5120 + (128 * h + x)) * sc * Real.exp (tail (gG z w b h x) p) * s h y x)
    + ∑ r ∈ Ico p len, (∑ x : Fin 128, z p (5120 + (128 * h + x)) * sc * z r (5632 + (128 * h + x)) * Real.exp (tail (gG z w b h x) p - tail (gG z w b h x) r))
        * z r (6144 + (256 * h + y))

end Cert.Proof.Gla

end
-- ==== Proof.GlaOut.lean ====
/- What the body leaves, at an index, on real data. -/
module

public import proofs.«01_k».proof.Proof.GlaRun
public import proofs.«01_k».proof.Proof.GlaSeq

@[expose] public section

set_option maxRecDepth 65536

noncomputable section

namespace Cert.Proof.Gla

open Cert.GlaBwdIdeal Cert.GlaBwdIdeal.Gen Idealize.ShloMosaic Idealize.ShloMosaic.TcCoe Idealize.ShloMosaic.ValueIdx

/-! ## Reading a block back from what was written by heads -/

theorem col_emb (o : Nat) (inb : ∀ a, ![0, o] a + S128x256.size a ≤ S128x1024.size a) (t : Fin 128) (w : Fin 256) (hb : o + w.val < 1024) :
    (ix2 t (⟨o + w.val, hb⟩ : Fin 1024) : S128x1024.Idx) = (Rect.unit (s := S128x1024) ![0, o] S128x256.size inb).emb (ix2 t w : S128x256.Idx) := by
  funext a
  match a with
  | ⟨0, _⟩ => exact Fin.ext (show t.val = 0 + 1 * t.val by omega)
  | ⟨1, _⟩ => exact Fin.ext (show o + w.val = o + 1 * w.val by omega)

theorem sheet_emb (o : Nat) (inb : ∀ a, ![o, 0, 0] a + S1x256x128.size a ≤ S4x256x128.size a) (h : Fin 4) (ho : h.val = o) (w : Fin 256) (x : Fin 128) :
    (ix3 h w x : S4x256x128.Idx) = (Rect.unit (s := S4x256x128) ![o, 0, 0] S1x256x128.size inb).emb (ix3 (⟨0, Nat.one_pos⟩ : Fin 1) w x : S1x256x128.Idx) := by
  funext a
  match a with
  | ⟨0, _⟩ => exact Fin.ext (show h.val = o + 1 * 0 by omega)
  | ⟨1, _⟩ => exact Fin.ext (show w.val = 0 + 1 * w.val by omega)
  | ⟨2, _⟩ => exact Fin.ext (show x.val = 0 + 1 * x.val by omega)

theorem col_hit (o : Nat) (inb : ∀ a, ![0, o] a + S128x256.size a ≤ S128x1024.size a) (P : S128x256.Idx → EReal)
    (L : List (View.Piece (Elt Ideal) S128x1024 .f32)) (t : Fin 128) (w : Fin 256) (hb : o + w.val < 1024) :
    View.canon ((⟨Rect.unit (s := S128x1024) ![0, o] S128x256.size inb, P⟩ : View.Piece (Elt Ideal) S128x1024 .f32) :: L) (ix2 t (⟨o + w.val, hb⟩ : Fin 1024)) = P (ix2 t w) := by
  rw [col_emb o inb t w hb]
  exact View.canon_cons_emb (Rect.unit (s := S128x1024) ![0, o] S128x256.size inb) P L (ix2 t w : S128x256.Idx)

theorem col_miss (o : Nat) (inb : ∀ a, ![0, o] a + S128x256.size a ≤ S128x1024.size a) (P : S128x256.Idx → EReal)
    (L : List (View.Piece (Elt Ideal) S128x1024 .f32)) (t : Fin 128) (j : Fin 1024) (hm : j.val < o ∨ o + 256 ≤ j.val) :
    View.canon ((⟨Rect.unit (s := S128x1024) ![0, o] S128x256.size inb, P⟩ : View.Piece (Elt Ideal) S128x1024 .f32) :: L) (ix2 t j) = View.canon L (ix2 t j) := by
  refine View.canon_cons_of_not_mem _ L fun hin => ?_
  have h := (Rect.mem_set_unit (s := S128x1024) (off := ![0, o]) (size := S128x256.size) (inb := inb)).mp hin (1 : Fin 2)
  have h1 : o ≤ j.val := h.1
  have h2 : j.val < o + 256 := h.2
  omega

theorem sheet_hit (o : Nat) (inb : ∀ a, ![o, 0, 0] a + S1x256x128.size a ≤ S4x256x128.size a) (P : S1x256x128.Idx → EReal)
    (L : List (View.Piece (Elt Ideal) S4x256x128 .f32)) (h : Fin 4) (ho : h.val = o) (w : Fin 256) (x : Fin 128) :
    View.canon ((⟨Rect.unit (s := S4x256x128) ![o, 0, 0] S1x256x128.size inb, P⟩ : View.Piece (Elt Ideal) S4x256x128 .f32) :: L) (ix3 h w x)
      = P (ix3 (⟨0, Nat.one_pos⟩ : Fin 1) w x) := by
  rw [sheet_emb o inb h ho w x]
  exact View.canon_cons_emb (Rect.unit (s := S4x256x128) ![o, 0, 0] S1x256x128.size inb) P L (ix3 (⟨0, Nat.one_pos⟩ : Fin 1) w x : S1x256x128.Idx)

theorem sheet_miss (o : Nat) (inb : ∀ a, ![o, 0, 0] a + S1x256x128.size a ≤ S4x256x128.size a) (P : S1x256x128.Idx → EReal)
    (L : List (View.Piece (Elt Ideal) S4x256x128 .f32)) (h : Fin 4) (ho : h.val ≠ o) (w : Fin 256) (x : Fin 128) :
    View.canon ((⟨Rect.unit (s := S4x256x128) ![o, 0, 0] S1x256x128.size inb, P⟩ : View.Piece (Elt Ideal) S4x256x128 .f32) :: L) (ix3 h w x)
      = View.canon L (ix3 h w x) := by
  refine View.canon_cons_of_not_mem _ L fun hin => ?_
  have h' := (Rect.mem_set_unit (s := S4x256x128) (off := ![o, 0, 0]) (size := S1x256x128.size) (inb := inb)).mp hin (0 : Fin 3)
  have h1 : o ≤ h.val := h'.1
  have h2 : h.val < o + 1 := h'.2
  omega

variable (c : Dev nD) (i : grid0.Coords) (arg1 : Memref sig .tc .vmem S128x512 .f32) (harg1 : arg1.IsWhole) (arg2 : Memref sig .tc .vmem S128x512 .f32) (harg2 : arg2.IsWhole)
  (arg3 : Memref sig .tc .vmem S128x1024 .f32) (harg3 : arg3.IsWhole) (arg4 : Memref sig .tc .vmem S128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S4x256x128 .f32) (harg7 : arg7.IsWhole) (arg8 : Memref sig .tc .vmem S8x128x128 .f32) (harg8 : arg8.IsWhole)
  (arg9 : Memref sig .tc .vmem S128x128 .bf16) (harg9 : arg9.IsWhole) (arg10 : Memref sig .tc .vmem S128x1024 .f32) (harg10 : arg10.IsWhole)
  (arg11 : Memref sig .tc .vmem S4x256x128 .f32) (harg11 : arg11.IsWhole)
  (x0 : Vec Ideal S128x512 .f32) (x1 : Vec Ideal S128x512 .f32) (x2 : Vec Ideal S128x1024 .f32) (x3 : Vec Ideal S128x128 .f32)
  (x4 : Vec Ideal S128x512 .bf16) (x5 : Vec Ideal S1x512 .f32) (x6 : Vec Ideal S4x256x128 .f32) (x7 : Vec Ideal S8x128x128 .f32)
  (x8 : Vec Ideal S128x128 .bf16) (xo10 : Vec Ideal S4x256x128 .f32)

/-! ## The loads on real data -/

theorem R2.ldQ {r : ℕ → ℕ → ℝ} (h : R2 x0 r) (o : Nat) (inb : ∀ a, ![0, o] a + S128x128.size a ≤ S128x512.size a) :
    R2 (ldQ arg1 harg1 x0 o inb) fun t x => r t (o + x) := fun i j => by
  have hb : o + 128 ≤ 512 := inb 1
  have hj := j.isLt
  unfold Gla.ldQ
  rw [View.readAt_eq_ld, Memref.IsWhole.read_unread]
  exact (congrArg x0 (show _ = ix2 i (⟨o + j.val, by omega⟩ : Fin 512) from funext fun a => match a with
    | ⟨0, _⟩ => Fin.ext (show 0 + 1 * i.val = i.val by omega)
    | ⟨1, _⟩ => Fin.ext (show o + 1 * j.val = o + j.val by omega))).trans (h i _)

theorem R2.ldV {r : ℕ → ℕ → ℝ} (h : R2 x2 r) (o : Nat) (inb : ∀ a, ![0, o] a + S128x256.size a ≤ S128x1024.size a) :
    R2 (ldV arg3 harg3 x2 o inb) fun t x => r t (o + x) := fun i j => by
  have hb : o + 256 ≤ 1024 := inb 1
  have hj := j.isLt
  unfold Gla.ldV
  rw [View.readAt_eq_ld, Memref.IsWhole.read_unread]
  exact (congrArg x2 (show _ = ix2 i (⟨o + j.val, by omega⟩ : Fin 1024) from funext fun a => match a with
    | ⟨0, _⟩ => Fin.ext (show 0 + 1 * i.val = i.val by omega)
    | ⟨1, _⟩ => Fin.ext (show o + 1 * j.val = o + j.val by omega))).trans (h i _)

theorem R3.ldM {r : ℕ → ℕ → ℝ} (n : Fin 8) (h : ∀ i j : Fin 128, x7 (ix3 n i j) = ((r i.val j.val : ℝ) : EReal))
    (o : Nat) (ho : n.val = o) (inb : ∀ a, ![o, 0, 0] a + S1x128x128.size a ≤ S8x128x128.size a) :
    R3 (ldM arg8 harg8 x7 o inb) r := fun i j => by
  unfold Gla.ldM
  rw [View.readAt_eq_ld, Memref.IsWhole.read_unread]
  exact (congrArg x7 (show _ = ix3 n i j from funext fun a => match a with
    | ⟨0, _⟩ => Fin.ext (show o + 1 * 0 = n.val by omega)
    | ⟨1, _⟩ => Fin.ext (show 0 + 1 * i.val = i.val by omega)
    | ⟨2, _⟩ => Fin.ext (show 0 + 1 * j.val = j.val by omega))).trans (h i j)

theorem R3.ldS {r : ℕ → ℕ → ℝ} (n : Fin 4) (h : ∀ (i : Fin 256) (j : Fin 128), xo10 (ix3 n i j) = ((r i.val j.val : ℝ) : EReal))
    (o : Nat) (ho : n.val = o) (inb : ∀ a, ![o, 0, 0] a + S1x256x128.size a ≤ S4x256x128.size a) :
    R3 (ldS arg11 harg11 xo10 o inb) r := fun i j => by
  unfold Gla.ldS
  rw [View.readAt_eq_ld, Memref.IsWhole.read_unread]
  exact (congrArg xo10 (sheet_emb o inb n ho i j).symm).trans (h i j)

theorem ldT_eq : ldT arg9 harg9 x8 = x8 := by
  unfold ldT; rw [View.readAt_eq_ld, Memref.IsWhole.read_unread]; exact View.ld_unit_zero (S := S128x128) (by decide) _ _
theorem ldA_eq : ldA arg4 harg4 x3 = x3 := by
  unfold ldA; rw [View.readAt_eq_ld, Memref.IsWhole.read_unread]; exact View.ld_unit_zero (S := S128x128) (by decide) _ _
theorem ldW_eq : ldW arg5 harg5 x4 = x4 := by
  unfold ldW; rw [View.readAt_eq_ld, Memref.IsWhole.read_unread]; exact View.ld_unit_zero (S := S128x512) (by decide) _ _
theorem ldB_eq : ldB arg6 harg6 x5 = x5 := by
  unfold ldB; rw [View.readAt_eq_ld, Memref.IsWhole.read_unread]; exact View.ld_unit_zero (S := S1x512) (by decide) _ _

/-! ## One block's data as real numbers -/

theorem R2.scaled {x : FVec Ideal S128x128 .f32} {r : ℕ → ℕ → ℝ} (h : R2 x r) : R2 (scaled x) fun i j => r i j * sc := fun i j =>
  (congrArg₂ (· * ·) (h i j) sc_eq).trans (EReal.coe_mul _ _).symm

/-- The sums of the gates from row `t` of the block to its end, for one head. -/
def cR (z : ℕ → ℕ → ℝ) (h t x : ℕ) : ℝ := ∑ s : Fin 128, if t ≤ s.val then lgate (z s.val (128 * h + x)) else 0

/-- A head's rows. -/
def rowsR (q k v z T : ℕ → ℕ → ℝ) (h t w : ℕ) : ℝ :=
  (∑ x : Fin 128, q t (128 * h + x) * sc * Real.exp (cR z h t x) * T w x)
    + ∑ s : Fin 128, (if t ≤ s.val then ∑ x : Fin 128, q t (128 * h + x) * sc * k s (128 * h + x) * Real.exp (cR z h t x - cR z h s x) else 0)
        * v s (256 * h + w)

/-- A head's state after the block. -/
def stateR (k v z T : ℕ → ℕ → ℝ) (h w x : ℕ) : ℝ :=
  T w x * Real.exp (cR z h 0 x) + ∑ s : Fin 128, v s (256 * h + w) * (k s (128 * h + x) * Real.exp (cR z h 0 x - cR z h s x))

/-- What the block's inputs are. -/
structure Data (q k v z : ℕ → ℕ → ℝ) : Prop where
  q : R2 x0 q
  k : R2 x1 k
  v : R2 x2 v
  z : R2 (k0_pay2 (F := Ideal) x3 x4 x5) z
  t : R2 x8 triR
  m0 : ∀ i j : Fin 128, x7 (ix3 (0 : Fin 8) i j) = ((eqR i.val j.val : ℝ) : EReal)
  m1 : ∀ i j : Fin 128, x7 (ix3 (1 : Fin 8) i j) = ((meetR 1 i.val j.val : ℝ) : EReal)
  m2 : ∀ i j : Fin 128, x7 (ix3 (2 : Fin 8) i j) = ((meetR 2 i.val j.val : ℝ) : EReal)
  m3 : ∀ i j : Fin 128, x7 (ix3 (3 : Fin 8) i j) = ((meetR 4 i.val j.val : ℝ) : EReal)
  m4 : ∀ i j : Fin 128, x7 (ix3 (4 : Fin 8) i j) = ((meetR 8 i.val j.val : ℝ) : EReal)
  m5 : ∀ i j : Fin 128, x7 (ix3 (5 : Fin 8) i j) = ((meetR 16 i.val j.val : ℝ) : EReal)
  m6 : ∀ i j : Fin 128, x7 (ix3 (6 : Fin 8) i j) = ((meetR 32 i.val j.val : ℝ) : EReal)
  m7 : ∀ i j : Fin 128, x7 (ix3 (7 : Fin 8) i j) = ((meetR 64 i.val j.val : ℝ) : EReal)

variable {c i x0 x1 x2 x3 x4 x5 x6 x7 x8 xo10}

theorem R2.cols {a b n : Nat} {x : (⟨2, ![a, b]⟩ : Shape).Idx → EReal} {r : ℕ → ℕ → ℝ} (hx : R2 x r) (o : Nat)
    (h : (⟨2, ![a, b]⟩ : Shape).Slices ![0, o] ⟨2, ![a, n]⟩) : R2 (extractStridedSlice ⟨2, ![a, n]⟩ ![0, o] x h) fun i j => r i (o + j) := fun i j => by
  have ho : o + n ≤ b := h.2 1
  have hj := j.isLt
  exact (extractStridedSlice_apply ![0, o] x h (ix2 i j) (ix2 i ⟨o + j.val, by omega⟩) (fun d => match d with
    | ⟨0, _⟩ => (Nat.zero_add _).symm
    | ⟨1, _⟩ => rfl)).trans (hx i _)

theorem Data.sums {q k v z : ℕ → ℕ → ℝ} (D : Data x0 x1 x2 x3 x4 x5 x7 x8 q k v z) (h : Nat) (hs : S128x512.Slices ![0, 128 * h] S128x128) :
    R2 (sums (128 * h) hs (ldT arg9 harg9 x8) (ldA arg4 harg4 x3) (ldW arg5 harg5 x4) (ldB arg6 harg6 x5)) fun t x => cR z h t x := by
  rw [ldT_eq, ldA_eq, ldW_eq, ldB_eq]
  refine R2.cum ?_ (R2.gate (R2.cols D.z (128 * h) hs))
  rw [shapeCast_self]
  exact D.t

theorem Data.rows {q k v z T : ℕ → ℕ → ℝ} (D : Data x0 x1 x2 x3 x4 x5 x7 x8 q k v z) (h : Nat) (hs : S128x512.Slices ![0, 128 * h] S128x128)
    (hq : ∀ a, ![0, 128 * h] a + S128x128.size a ≤ S128x512.size a) (hv : ∀ a, ![0, 256 * h] a + S128x256.size a ≤ S128x1024.size a)
    {S : Vec Ideal S1x256x128 .f32} (hT : R3 S T) (t : Fin 128) (w : Fin 256) :
    headRows (128 * h) hs (ldQ arg1 harg1 x0 (128 * h) hq) (ldQ arg2 harg2 x1 (128 * h) hq) (ldV arg3 harg3 x2 (256 * h) hv) S
      (ldT arg9 harg9 x8) (ldA arg4 harg4 x3) (ldW arg5 harg5 x4) (ldB arg6 harg6 x5)
      (ldM arg8 harg8 x7 0 inb_S8x128x128_S1x128x128_0_0_0) (ldM arg8 harg8 x7 1 inb_S8x128x128_S1x128x128_1_0_0) (ldM arg8 harg8 x7 2 inb_S8x128x128_S1x128x128_2_0_0) (ldM arg8 harg8 x7 3 inb_S8x128x128_S1x128x128_3_0_0) (ldM arg8 harg8 x7 4 inb_S8x128x128_S1x128x128_4_0_0) (ldM arg8 harg8 x7 5 inb_S8x128x128_S1x128x128_5_0_0) (ldM arg8 harg8 x7 6 inb_S8x128x128_S1x128x128_6_0_0) (ldM arg8 harg8 x7 7 inb_S8x128x128_S1x128x128_7_0_0)
      (ix2 t w) = ((rowsR q k v z T h t.val w.val : ℝ) : EReal) :=
  R2.headO (R2.scaled (R2.ldQ arg1 harg1 x0 D.q (128 * h) hq)) (R2.ldQ arg2 harg2 x1 D.k (128 * h) hq)
    (D.sums arg4 harg4 arg5 harg5 arg6 harg6 arg9 harg9 h hs) (R2.ldV arg3 harg3 x2 D.v (256 * h) hv) hT
    (R3.ldM arg8 harg8 x7 0 D.m0 0 rfl _) (R3.ldM arg8 harg8 x7 1 D.m1 1 rfl _) (R3.ldM arg8 harg8 x7 2 D.m2 2 rfl _) (R3.ldM arg8 harg8 x7 3 D.m3 3 rfl _)
    (R3.ldM arg8 harg8 x7 4 D.m4 4 rfl _) (R3.ldM arg8 harg8 x7 5 D.m5 5 rfl _) (R3.ldM arg8 harg8 x7 6 D.m6 6 rfl _) (R3.ldM arg8 harg8 x7 7 D.m7 7 rfl _) t w

theorem Data.state {q k v z T : ℕ → ℕ → ℝ} (D : Data x0 x1 x2 x3 x4 x5 x7 x8 q k v z) (h : Nat) (hs : S128x512.Slices ![0, 128 * h] S128x128)
    (hq : ∀ a, ![0, 128 * h] a + S128x128.size a ≤ S128x512.size a) (hv : ∀ a, ![0, 256 * h] a + S128x256.size a ≤ S128x1024.size a)
    {S : Vec Ideal S1x256x128 .f32} (hT : R3 S T) (w : Fin 256) (x : Fin 128) :
    headState (128 * h) hs (ldQ arg2 harg2 x1 (128 * h) hq) (ldV arg3 harg3 x2 (256 * h) hv) S
      (ldT arg9 harg9 x8) (ldA arg4 harg4 x3) (ldW arg5 harg5 x4) (ldB arg6 harg6 x5)
      (ix3 (⟨0, Nat.one_pos⟩ : Fin 1) w x) = ((stateR k v z T h w.val x.val : ℝ) : EReal) :=
  R2.headS (R2.ldQ arg2 harg2 x1 D.k (128 * h) hq) (D.sums arg4 harg4 arg5 harg5 arg6 harg6 arg9 harg9 h hs) (R2.ldV arg3 harg3 x2 D.v (256 * h) hv) hT w x

/-! ## The state the first point starts from, read through the earlier heads' stores -/

theorem LA0_at (h : Fin 4) (w : Fin 256) (x : Fin 128) : View.canon (LA0 arg2 harg2 arg3 harg3 arg4 harg4 arg5 harg5 arg6 harg6 arg7 harg7 arg9 harg9 arg11 x1 x2 x3 x4 x5 x6 x8) (ix3 h w x) = x6 (ix3 h w x) := by
  unfold LA0
  rw [View.canon_unit_zero (S := S4x256x128) (by decide), View.readAt_eq_ld, Memref.IsWhole.read_unread, View.ld_unit_zero (S := S4x256x128) (by decide)]

theorem TA0_at {T : ℕ → ℕ → ℝ} (hT : ∀ (w : Fin 256) (x : Fin 128), x6 (ix3 (0 : Fin 4) w x) = ((T w.val x.val : ℝ) : EReal)) :
    R3 (View.readCov (Val := Elt Ideal) arg11.view (LA0 arg2 harg2 arg3 harg3 arg4 harg4 arg5 harg5 arg6 harg6 arg7 harg7 arg9 harg9 arg11 x1 x2 x3 x4 x5 x6 x8) (Rect.unit (s := S4x256x128) ![0, 0, 0] S1x256x128.size inb_S4x256x128_S1x256x128_0_0_0).toLoadRect) T := fun w x => by
  rw [View.readCov_eq_canon']
  exact (congrArg (View.canon _) (sheet_emb 0 inb_S4x256x128_S1x256x128_0_0_0 (0 : Fin 4) rfl w x).symm).trans
    ((LA0_at arg2 harg2 arg3 harg3 arg4 harg4 arg5 harg5 arg6 harg6 arg7 harg7 arg9 harg9 arg11 (0 : Fin 4) w x).trans (hT w x))

theorem LA1_at (h : Fin 4) (hh : 1 ≤ h.val) (w : Fin 256) (x : Fin 128) : View.canon (LA1 arg2 harg2 arg3 harg3 arg4 harg4 arg5 harg5 arg6 harg6 arg7 harg7 arg9 harg9 arg11 x1 x2 x3 x4 x5 x6 x8) (ix3 h w x) = x6 (ix3 h w x) := by
  unfold LA1
  exact (sheet_miss 0 _ _ _ h (by omega) w x).trans (LA0_at arg2 harg2 arg3 harg3 arg4 harg4 arg5 harg5 arg6 harg6 arg7 harg7 arg9 harg9 arg11 h w x)

theorem TA1_at {T : ℕ → ℕ → ℝ} (hT : ∀ (w : Fin 256) (x : Fin 128), x6 (ix3 (1 : Fin 4) w x) = ((T w.val x.val : ℝ) : EReal)) :
    R3 (View.readCov (Val := Elt Ideal) arg11.view (LA1 arg2 harg2 arg3 harg3 arg4 harg4 arg5 harg5 arg6 harg6 arg7 harg7 arg9 harg9 arg11 x1 x2 x3 x4 x5 x6 x8) (Rect.unit (s := S4x256x128) ![1, 0, 0] S1x256x128.size inb_S4x256x128_S1x256x128_1_0_0).toLoadRect) T := fun w x => by
  rw [View.readCov_eq_canon']
  exact (congrArg (View.canon _) (sheet_emb 1 inb_S4x256x128_S1x256x128_1_0_0 (1 : Fin 4) rfl w x).symm).trans
    ((LA1_at arg2 harg2 arg3 harg3 arg4 harg4 arg5 harg5 arg6 harg6 arg7 harg7 arg9 harg9 arg11 (1 : Fin 4) (by decide) w x).trans (hT w x))

theorem LA2_at (h : Fin 4) (hh : 2 ≤ h.val) (w : Fin 256) (x : Fin 128) : View.canon (LA2 arg2 harg2 arg3 harg3 arg4 harg4 arg5 harg5 arg6 harg6 arg7 harg7 arg9 harg9 arg11 x1 x2 x3 x4 x5 x6 x8) (ix3 h w x) = x6 (ix3 h w x) := by
  unfold LA2
  exact (sheet_miss 1 _ _ _ h (by omega) w x).trans (LA1_at arg2 harg2 arg3 harg3 arg4 harg4 arg5 harg5 arg6 harg6 arg7 harg7 arg9 harg9 arg11 h (by omega) w x)

theorem TA2_at {T : ℕ → ℕ → ℝ} (hT : ∀ (w : Fin 256) (x : Fin 128), x6 (ix3 (2 : Fin 4) w x) = ((T w.val x.val : ℝ) : EReal)) :
    R3 (View.readCov (Val := Elt Ideal) arg11.view (LA2 arg2 harg2 arg3 harg3 arg4 harg4 arg5 harg5 arg6 harg6 arg7 harg7 arg9 harg9 arg11 x1 x2 x3 x4 x5 x6 x8) (Rect.unit (s := S4x256x128) ![2, 0, 0] S1x256x128.size inb_S4x256x128_S1x256x128_2_0_0).toLoadRect) T := fun w x => by
  rw [View.readCov_eq_canon']
  exact (congrArg (View.canon _) (sheet_emb 2 inb_S4x256x128_S1x256x128_2_0_0 (2 : Fin 4) rfl w x).symm).trans
    ((LA2_at arg2 harg2 arg3 harg3 arg4 harg4 arg5 harg5 arg6 harg6 arg7 harg7 arg9 harg9 arg11 (2 : Fin 4) (by decide) w x).trans (hT w x))

theorem LA3_at (h : Fin 4) (hh : 3 ≤ h.val) (w : Fin 256) (x : Fin 128) : View.canon (LA3 arg2 harg2 arg3 harg3 arg4 harg4 arg5 harg5 arg6 harg6 arg7 harg7 arg9 harg9 arg11 x1 x2 x3 x4 x5 x6 x8) (ix3 h w x) = x6 (ix3 h w x) := by
  unfold LA3
  exact (sheet_miss 2 _ _ _ h (by omega) w x).trans (LA2_at arg2 harg2 arg3 harg3 arg4 harg4 arg5 harg5 arg6 harg6 arg7 harg7 arg9 harg9 arg11 h (by omega) w x)

theorem TA3_at {T : ℕ → ℕ → ℝ} (hT : ∀ (w : Fin 256) (x : Fin 128), x6 (ix3 (3 : Fin 4) w x) = ((T w.val x.val : ℝ) : EReal)) :
    R3 (View.readCov (Val := Elt Ideal) arg11.view (LA3 arg2 harg2 arg3 harg3 arg4 harg4 arg5 harg5 arg6 harg6 arg7 harg7 arg9 harg9 arg11 x1 x2 x3 x4 x5 x6 x8) (Rect.unit (s := S4x256x128) ![3, 0, 0] S1x256x128.size inb_S4x256x128_S1x256x128_3_0_0).toLoadRect) T := fun w x => by
  rw [View.readCov_eq_canon']
  exact (congrArg (View.canon _) (sheet_emb 3 inb_S4x256x128_S1x256x128_3_0_0 (3 : Fin 4) rfl w x).symm).trans
    ((LA3_at arg2 harg2 arg3 harg3 arg4 harg4 arg5 harg5 arg6 harg6 arg7 harg7 arg9 harg9 arg11 (3 : Fin 4) (by decide) w x).trans (hT w x))

theorem outB9 (hc0 : ¬cond0_0 i) {q k v z : ℕ → ℕ → ℝ} {T : ℕ → ℕ → ℕ → ℝ} (D : Data x0 x1 x2 x3 x4 x5 x7 x8 q k v z)
    (hT : ∀ (h : Fin 4) (w : Fin 256) (x : Fin 128), xo10 (ix3 h w x) = ((T h.val w.val x.val : ℝ) : EReal)) (h : Fin 4) (t : Fin 128) (w : Fin 256) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 (ix2 t (⟨256 * h.val + w.val, by omega⟩ : Fin 1024)) = ((rowsR q k v z (T h.val) h.val t.val w.val : ℝ) : EReal) := by
  unfold out0_B_9
  rw [View.read_writes_junk_eq_canon, listB9]
  match h with
  | ⟨0, _⟩ => exact (col_miss 768 _ _ _ t _ (Or.inl (by show 0 + w.val < _; omega))).trans ((col_miss 512 _ _ _ t _ (Or.inl (by show 0 + w.val < _; omega))).trans ((col_miss 256 _ _ _ t _ (Or.inl (by show 0 + w.val < _; omega))).trans ((col_hit 0 _ _ _ t w (by omega)).trans (D.rows arg1 harg1 arg2 harg2 arg3 harg3 arg4 harg4 arg5 harg5 arg6 harg6 arg8 harg8 arg9 harg9 0 _ _ _ (R3.ldS arg11 harg11 xo10 0 (hT 0) 0 rfl _) t w))))
  | ⟨1, _⟩ => exact (col_miss 768 _ _ _ t _ (Or.inl (by show 256 + w.val < _; omega))).trans ((col_miss 512 _ _ _ t _ (Or.inl (by show 256 + w.val < _; omega))).trans ((col_hit 256 _ _ _ t w (by omega)).trans (D.rows arg1 harg1 arg2 harg2 arg3 harg3 arg4 harg4 arg5 harg5 arg6 harg6 arg8 harg8 arg9 harg9 1 _ _ _ (R3.ldS arg11 harg11 xo10 1 (hT 1) 1 rfl _) t w)))
  | ⟨2, _⟩ => exact (col_miss 768 _ _ _ t _ (Or.inl (by show 512 + w.val < _; omega))).trans ((col_hit 512 _ _ _ t w (by omega)).trans (D.rows arg1 harg1 arg2 harg2 arg3 harg3 arg4 harg4 arg5 harg5 arg6 harg6 arg8 harg8 arg9 harg9 2 _ _ _ (R3.ldS arg11 harg11 xo10 2 (hT 2) 2 rfl _) t w))
  | ⟨3, _⟩ => exact (col_hit 768 _ _ _ t w (by omega)).trans (D.rows arg1 harg1 arg2 harg2 arg3 harg3 arg4 harg4 arg5 harg5 arg6 harg6 arg8 harg8 arg9 harg9 3 _ _ _ (R3.ldS arg11 harg11 xo10 3 (hT 3) 3 rfl _) t w)
  | ⟨n + 4, hn⟩ => exact absurd hn (by omega)

theorem outB10 (hc0 : ¬cond0_0 i) {q k v z : ℕ → ℕ → ℝ} {T : ℕ → ℕ → ℕ → ℝ} (D : Data x0 x1 x2 x3 x4 x5 x7 x8 q k v z)
    (hT : ∀ (h : Fin 4) (w : Fin 256) (x : Fin 128), xo10 (ix3 h w x) = ((T h.val w.val x.val : ℝ) : EReal)) (h : Fin 4) (w : Fin 256) (x : Fin 128) :
    out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 (ix3 h w x) = ((stateR k v z (T h.val) h.val w.val x.val : ℝ) : EReal) := by
  unfold out0_B_10
  rw [View.read_writes_junk_eq_canon, listB10]
  match h with
  | ⟨0, _⟩ => exact (sheet_miss 3 _ _ _ (0 : Fin 4) (by decide) w x).trans ((sheet_miss 2 _ _ _ (0 : Fin 4) (by decide) w x).trans ((sheet_miss 1 _ _ _ (0 : Fin 4) (by decide) w x).trans ((sheet_hit 0 _ _ _ (0 : Fin 4) rfl w x).trans (D.state arg2 harg2 arg3 harg3 arg4 harg4 arg5 harg5 arg6 harg6 arg9 harg9 0 _ _ _ (R3.ldS arg11 harg11 xo10 0 (hT 0) 0 rfl _) w x))))
  | ⟨1, _⟩ => exact (sheet_miss 3 _ _ _ (1 : Fin 4) (by decide) w x).trans ((sheet_miss 2 _ _ _ (1 : Fin 4) (by decide) w x).trans ((sheet_hit 1 _ _ _ (1 : Fin 4) rfl w x).trans (D.state arg2 harg2 arg3 harg3 arg4 harg4 arg5 harg5 arg6 harg6 arg9 harg9 1 _ _ _ (R3.ldS arg11 harg11 xo10 1 (hT 1) 1 rfl _) w x)))
  | ⟨2, _⟩ => exact (sheet_miss 3 _ _ _ (2 : Fin 4) (by decide) w x).trans ((sheet_hit 2 _ _ _ (2 : Fin 4) rfl w x).trans (D.state arg2 harg2 arg3 harg3 arg4 harg4 arg5 harg5 arg6 harg6 arg9 harg9 2 _ _ _ (R3.ldS arg11 harg11 xo10 2 (hT 2) 2 rfl _) w x))
  | ⟨3, _⟩ => exact (sheet_hit 3 _ _ _ (3 : Fin 4) rfl w x).trans (D.state arg2 harg2 arg3 harg3 arg4 harg4 arg5 harg5 arg6 harg6 arg9 harg9 3 _ _ _ (R3.ldS arg11 harg11 xo10 3 (hT 3) 3 rfl _) w x)
  | ⟨n + 4, hn⟩ => exact absurd hn (by omega)

theorem outA9 (hc0 : cond0_0 i) {q k v z : ℕ → ℕ → ℝ} {T : ℕ → ℕ → ℕ → ℝ} (D : Data x0 x1 x2 x3 x4 x5 x7 x8 q k v z)
    (hT : ∀ (h : Fin 4) (w : Fin 256) (x : Fin 128), x6 (ix3 h w x) = ((T h.val w.val x.val : ℝ) : EReal)) (h : Fin 4) (t : Fin 128) (w : Fin 256) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 (ix2 t (⟨256 * h.val + w.val, by omega⟩ : Fin 1024)) = ((rowsR q k v z (T h.val) h.val t.val w.val : ℝ) : EReal) := by
  unfold out0_A_9
  rw [View.read_writes_junk_eq_canon, listA9]
  match h with
  | ⟨0, _⟩ => exact (col_miss 768 _ _ _ t _ (Or.inl (by show 0 + w.val < _; omega))).trans ((col_miss 512 _ _ _ t _ (Or.inl (by show 0 + w.val < _; omega))).trans ((col_miss 256 _ _ _ t _ (Or.inl (by show 0 + w.val < _; omega))).trans ((col_hit 0 _ _ _ t w (by omega)).trans (D.rows arg1 harg1 arg2 harg2 arg3 harg3 arg4 harg4 arg5 harg5 arg6 harg6 arg8 harg8 arg9 harg9 0 _ _ _ (TA0_at arg2 harg2 arg3 harg3 arg4 harg4 arg5 harg5 arg6 harg6 arg7 harg7 arg9 harg9 arg11 (hT 0)) t w))))
  | ⟨1, _⟩ => exact (col_miss 768 _ _ _ t _ (Or.inl (by show 256 + w.val < _; omega))).trans ((col_miss 512 _ _ _ t _ (Or.inl (by show 256 + w.val < _; omega))).trans ((col_hit 256 _ _ _ t w (by omega)).trans (D.rows arg1 harg1 arg2 harg2 arg3 harg3 arg4 harg4 arg5 harg5 arg6 harg6 arg8 harg8 arg9 harg9 1 _ _ _ (TA1_at arg2 harg2 arg3 harg3 arg4 harg4 arg5 harg5 arg6 harg6 arg7 harg7 arg9 harg9 arg11 (hT 1)) t w)))
  | ⟨2, _⟩ => exact (col_miss 768 _ _ _ t _ (Or.inl (by show 512 + w.val < _; omega))).trans ((col_hit 512 _ _ _ t w (by omega)).trans (D.rows arg1 harg1 arg2 harg2 arg3 harg3 arg4 harg4 arg5 harg5 arg6 harg6 arg8 harg8 arg9 harg9 2 _ _ _ (TA2_at arg2 harg2 arg3 harg3 arg4 harg4 arg5 harg5 arg6 harg6 arg7 harg7 arg9 harg9 arg11 (hT 2)) t w))
  | ⟨3, _⟩ => exact (col_hit 768 _ _ _ t w (by omega)).trans (D.rows arg1 harg1 arg2 harg2 arg3 harg3 arg4 harg4 arg5 harg5 arg6 harg6 arg8 harg8 arg9 harg9 3 _ _ _ (TA3_at arg2 harg2 arg3 harg3 arg4 harg4 arg5 harg5 arg6 harg6 arg7 harg7 arg9 harg9 arg11 (hT 3)) t w)
  | ⟨n + 4, hn⟩ => exact absurd hn (by omega)

theorem outA10 (hc0 : cond0_0 i) {q k v z : ℕ → ℕ → ℝ} {T : ℕ → ℕ → ℕ → ℝ} (D : Data x0 x1 x2 x3 x4 x5 x7 x8 q k v z)
    (hT : ∀ (h : Fin 4) (w : Fin 256) (x : Fin 128), x6 (ix3 h w x) = ((T h.val w.val x.val : ℝ) : EReal)) (h : Fin 4) (w : Fin 256) (x : Fin 128) :
    out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 x8 (ix3 h w x) = ((stateR k v z (T h.val) h.val w.val x.val : ℝ) : EReal) := by
  unfold out0_A_10
  rw [View.read_writes_junk_eq_canon, listA10]
  unfold LA4 LA3 LA2 LA1
  match h with
  | ⟨0, _⟩ => exact (sheet_miss 3 _ _ _ (0 : Fin 4) (by decide) w x).trans ((sheet_miss 2 _ _ _ (0 : Fin 4) (by decide) w x).trans ((sheet_miss 1 _ _ _ (0 : Fin 4) (by decide) w x).trans ((sheet_hit 0 _ _ _ (0 : Fin 4) rfl w x).trans (D.state arg2 harg2 arg3 harg3 arg4 harg4 arg5 harg5 arg6 harg6 arg9 harg9 0 _ _ _ (TA0_at arg2 harg2 arg3 harg3 arg4 harg4 arg5 harg5 arg6 harg6 arg7 harg7 arg9 harg9 arg11 (hT 0)) w x))))
  | ⟨1, _⟩ => exact (sheet_miss 3 _ _ _ (1 : Fin 4) (by decide) w x).trans ((sheet_miss 2 _ _ _ (1 : Fin 4) (by decide) w x).trans ((sheet_hit 1 _ _ _ (1 : Fin 4) rfl w x).trans (D.state arg2 harg2 arg3 harg3 arg4 harg4 arg5 harg5 arg6 harg6 arg9 harg9 1 _ _ _ (TA1_at arg2 harg2 arg3 harg3 arg4 harg4 arg5 harg5 arg6 harg6 arg7 harg7 arg9 harg9 arg11 (hT 1)) w x)))
  | ⟨2, _⟩ => exact (sheet_miss 3 _ _ _ (2 : Fin 4) (by decide) w x).trans ((sheet_hit 2 _ _ _ (2 : Fin 4) rfl w x).trans (D.state arg2 harg2 arg3 harg3 arg4 harg4 arg5 harg5 arg6 harg6 arg9 harg9 2 _ _ _ (TA2_at arg2 harg2 arg3 harg3 arg4 harg4 arg5 harg5 arg6 harg6 arg7 harg7 arg9 harg9 arg11 (hT 2)) w x))
  | ⟨3, _⟩ => exact (sheet_hit 3 _ _ _ (3 : Fin 4) rfl w x).trans (D.state arg2 harg2 arg3 harg3 arg4 harg4 arg5 harg5 arg6 harg6 arg9 harg9 3 _ _ _ (TA3_at arg2 harg2 arg3 harg3 arg4 harg4 arg5 harg5 arg6 harg6 arg7 harg7 arg9 harg9 arg11 (hT 3)) w x)
  | ⟨n + 4, hn⟩ => exact absurd hn (by omega)

end Cert.Proof.Gla

end
-- ==== Proof.GlaIn.lean ====
/- What the call's prepared operands hold: the padded gate weights, the masks, the triangle. -/
module

public import proofs.«01_k».proof.Proof.GlaOut
public import Idealize.ShloMosaic.Lib.Routing.OpsPair
public import Idealize.ShloMosaic.Lib.WordCmp

@[expose] public section

set_option maxRecDepth 65536

noncomputable section

namespace Cert.Proof.Gla

open Cert.GlaBwdIdeal Cert.GlaBwdIdeal.Gen Idealize.ShloMosaic Idealize.ShloMosaic.TcCoe Idealize.ShloMosaic.ValueIdx

variable (m : (ℓ : Loc nD τ sig) → Buf (Elt Ideal) ℓ)

/-! ## The padded weights -/

/-- A fold that replaces its value where a test passes, all the passing entries being one value. -/
theorem fold_one {ι α : Type} (P : ι → Prop) [DecidablePred P] (f : ι → α) (v : α) :
    ∀ (L : List ι) (x : α), (∀ n ∈ L, P n → f n = v) → L.foldl (fun a n => if P n then f n else a) x = if ∃ n ∈ L, P n then v else x
  | [], x, _ => by simp
  | n :: L, x, h => by
    rw [List.foldl_cons, fold_one P f v L _ fun k hk => h k (List.mem_cons_of_mem _ hk)]
    by_cases hn : P n
    · rw [if_pos hn, h n List.mem_cons_self hn, if_pos (⟨n, List.mem_cons_self, hn⟩ : ∃ k ∈ n :: L, P k)]
      exact ite_self v
    · rw [if_neg hn]
      refine if_congr ⟨fun ⟨k, hk, hp⟩ => ⟨k, List.mem_cons_of_mem _ hk, hp⟩, fun ⟨k, hk, hp⟩ => ?_⟩ rfl rfl
      rcases List.mem_cons.mp hk with e | hk
      · exact absurd (e ▸ hp) hn
      · exact ⟨k, hk, hp⟩

theorem lands (a : Fin 16) (b : Fin 512) (r : Fin 128) (k : Fin 512) :
    scatter_S128x512_S1_S16x512_01_n_0_0.resultIdx? (ix2 a b : S16x512.Idx) (fun _ : S1.Idx => 16#32) = some (ix2 r k : S128x512.Idx)
      ↔ 16 + a.val = r.val ∧ b.val = k.val := by
  rw [Routing.resultIdx?_eq_some]
  have h0 : scatter_S128x512_S1_S16x512_01_n_0_0.start (ix2 a b : S16x512.Idx) (fun _ : S1.Idx => 16#32) (0 : Fin 2) = 16 := rfl
  have h1 : scatter_S128x512_S1_S16x512_01_n_0_0.start (ix2 a b : S16x512.Idx) (fun _ : S1.Idx => 16#32) (1 : Fin 2) = 0 := rfl
  have w0 : scatter_S128x512_S1_S16x512_01_n_0_0.window (ix2 a b : S16x512.Idx) (0 : Fin 2) = a.val := rfl
  have w1 : scatter_S128x512_S1_S16x512_01_n_0_0.window (ix2 a b : S16x512.Idx) (1 : Fin 2) = b.val := rfl
  constructor
  · intro h
    have e0 := h (0 : Fin 2)
    have e1 := h (1 : Fin 2)
    rw [h0, w0] at e0
    rw [h1, w1] at e1
    have e0' : (16 : Int) + (a.val : Int) = (r.val : Int) := e0
    have e1' : (0 : Int) + (b.val : Int) = (k.val : Int) := e1
    omega
  · intro h x
    match x with
    | ⟨0, _⟩ => rw [show (⟨0, _⟩ : Fin 2) = 0 from rfl, h0, w0]; show (16 : Int) + (a.val : Int) = (r.val : Int); omega
    | ⟨1, _⟩ => rw [show (⟨1, _⟩ : Fin 2) = 1 from rfl, h1, w1]; show (0 : Int) + (b.val : Int) = (k.val : Int); omega

theorem scat_at (x : S128x512.Idx → EReal) (u : S16x512.Idx → EReal) (r : Fin 128) (k : Fin 512) :
    Host.scatter scatter_S128x512_S1_S16x512_01_n_0_0 (fun _ b => b) x (fun _ : S1.Idx => 16#32) u (ix2 r k)
      = if h : 16 ≤ r.val ∧ r.val < 32 then u (ix2 ⟨r.val - 16, by omega⟩ k) else x (ix2 r k) := by
  rw [Routing.scatter_at]
  by_cases h : 16 ≤ r.val ∧ r.val < 32
  · rw [dif_pos h, fold_one _ (fun n => u (S16x512.rowMajor.symm n)) (u (ix2 ⟨r.val - 16, by omega⟩ k))]
    · refine if_pos ⟨S16x512.rowMajor (ix2 ⟨r.val - 16, by omega⟩ k), List.mem_finRange _, ?_⟩
      rw [Equiv.symm_apply_apply]
      exact (lands _ _ _ _).mpr ⟨by show 16 + (r.val - 16) = r.val; omega, rfl⟩
    · intro n _ hn
      show u (S16x512.rowMajor.symm n) = _
      revert hn
      generalize (S16x512.rowMajor.symm n) = y
      intro hn
      obtain ⟨a, b, rfl⟩ : ∃ (a : Fin 16) (b : Fin 512), y = ix2 a b := ⟨y 0, y 1, eq_ix2 y⟩
      have := (lands a b r k).mp hn
      exact congrArg u (congrArg₂ ix2 (Fin.ext (by show a.val = r.val - 16; omega)) (Fin.ext this.2))
  · rw [dif_neg h, fold_one _ (fun n => u (S16x512.rowMajor.symm n)) (x (ix2 r k))]
    · exact ite_self _
    · intro n _ hn
      exfalso
      revert hn
      generalize (S16x512.rowMajor.symm n) = y
      intro hn
      obtain ⟨a, b, rfl⟩ : ∃ (a : Fin 16) (b : Fin 512), y = ix2 a b := ⟨y 0, y 1, eq_ix2 y⟩
      have := (lands a b r k).mp hn
      have := a.isLt
      omega

/-! ## The masks -/

/-- The bit of level `l`'s mask at row `i`, column `j`. -/
def maskBit (l i j : ℕ) : BitVec 1 :=
  (IntOp.cmpi .eq (IntOp.shrsi .host (BitVec.ofNat 32 j) (BitVec.ofNat 32 l + 1#32)) (IntOp.shrsi .host (BitVec.ofNat 32 i) (BitVec.ofNat 32 l + 1#32))
    &&& IntOp.cmpi .eq (IntOp.shrsi .host (BitVec.ofNat 32 j) (BitVec.ofNat 32 l) &&& 1#32) 1#32)
    &&& IntOp.cmpi .eq (IntOp.shrsi .host (BitVec.ofNat 32 i) (BitVec.ofNat 32 l) &&& 1#32) 0#32

theorem shr_nat : ∀ (l : Fin 8) (i : Fin 128), IntOp.shrsi .host (BitVec.ofNat 32 i.val) (BitVec.ofNat 32 l.val) = BitVec.ofNat 32 (i.val / 2 ^ l.val) := by
  decide +kernel
theorem succ_word : ∀ l : Fin 7, BitVec.ofNat 32 l.val + 1#32 = BitVec.ofNat 32 (l.val + 1) := by decide +kernel
theorem odd_word : ∀ x : Fin 128, IntOp.cmpi .eq (BitVec.ofNat 32 x.val &&& 1#32) 1#32 = BitVec.ofBool (x.val % 2 == 1) := by decide +kernel
theorem even_word : ∀ x : Fin 128, IntOp.cmpi .eq (BitVec.ofNat 32 x.val &&& 1#32) 0#32 = BitVec.ofBool (x.val % 2 == 0) := by decide +kernel
theorem and_bit : ∀ a b : Bool, BitVec.ofBool a &&& BitVec.ofBool b = BitVec.ofBool (a && b) := by decide
theorem eq_word (a b : ℕ) (ha : a < 128) (hb : b < 128) : IntOp.cmpi .eq (BitVec.ofNat 32 a) (BitVec.ofNat 32 b) = BitVec.ofBool (a == b) := by
  rw [WordCmp.cmpi_eq_eq_toNat, BitVec.toNat_ofNat, BitVec.toNat_ofNat, Nat.mod_eq_of_lt (by omega), Nat.mod_eq_of_lt (by omega)]
  rfl
theorem le_word (a b : ℕ) (ha : a < 128) (hb : b < 128) : IntOp.cmpi .sle (BitVec.ofNat 32 a) (BitVec.ofNat 32 b) = BitVec.ofBool (decide (a ≤ b)) :=
  WordCmp.cmpi_sle_ofNat (by show a < 2 ^ 31; omega) (by show b < 2 ^ 31; omega)

theorem maskBit_eq (l : Fin 7) (i j : Fin 128) : maskBit l.val i.val j.val = BitVec.ofBool (meets (2 ^ l.val) i.val j.val) := by
  have hi := i.isLt
  have hj := j.isLt
  have d1 : i.val / 2 ^ l.val < 128 := lt_of_le_of_lt (Nat.div_le_self _ _) hi
  have d2 : j.val / 2 ^ l.val < 128 := lt_of_le_of_lt (Nat.div_le_self _ _) hj
  have d3 : i.val / 2 ^ (l.val + 1) < 128 := lt_of_le_of_lt (Nat.div_le_self _ _) hi
  have d4 : j.val / 2 ^ (l.val + 1) < 128 := lt_of_le_of_lt (Nat.div_le_self _ _) hj
  have s1 := shr_nat ⟨l.val, by omega⟩ i
  have s2 := shr_nat ⟨l.val, by omega⟩ j
  have s3 := shr_nat ⟨l.val + 1, by omega⟩ i
  have s4 := shr_nat ⟨l.val + 1, by omega⟩ j
  have o := odd_word ⟨_, d2⟩
  have e := even_word ⟨_, d1⟩
  dsimp only at s1 s2 s3 s4 o e
  unfold maskBit meets
  rw [succ_word, s1, s2, s3, s4, o, e, eq_word _ _ d4 d3, and_bit, and_bit, pow_succ, Nat.mul_comm 2 (2 ^ l.val),
    Bool.beq_comm (a := j.val / (2 ^ l.val * 2))]

theorem bit_real (b : Bool) : (((BitVec.ofBool b).toNat : ℝ) : EReal) = ((if b then (1 : ℝ) else 0 : ℝ) : EReal) := by
  cases b <;> simp

/-- The masks the call reads: the diagonal, then one level after another. -/
def selfMask : S1x128x128.Idx → EReal := uitofp (F := Ideal) .f32 (cmpi .eq (iotaInDim S1x128x128 32 2) (iotaInDim S1x128x128 32 1))
def levMask : S7x128x128.Idx → EReal := uitofp (F := Ideal) .f32 (andi (andi
  (cmpi .eq
    (Host.shrsi (broadcastInDim S7x128x128 ![0, 1, 2] bcast_S1x128x128_S7x128x128_0_1_2 (iotaInDim S1x128x128 32 2))
      (broadcastInDim S7x128x128 ![0, 1, 2] bcast_S7x1x1_S7x128x128_0_1_2
        (addi (iotaInDim S7x1x1 32 0) (broadcastInDim S7x1x1 ![] bcast_S_S7x1x1 (constantI S_ 32 1#32)))))
    (Host.shrsi (broadcastInDim S7x128x128 ![0, 1, 2] bcast_S1x128x128_S7x128x128_0_1_2 (iotaInDim S1x128x128 32 1))
      (broadcastInDim S7x128x128 ![0, 1, 2] bcast_S7x1x1_S7x128x128_0_1_2
        (addi (iotaInDim S7x1x1 32 0) (broadcastInDim S7x1x1 ![] bcast_S_S7x1x1 (constantI S_ 32 1#32))))))
  (cmpi .eq (andi
    (Host.shrsi (broadcastInDim S7x128x128 ![0, 1, 2] bcast_S1x128x128_S7x128x128_0_1_2 (iotaInDim S1x128x128 32 2))
      (broadcastInDim S7x128x128 ![0, 1, 2] bcast_S7x1x1_S7x128x128_0_1_2 (iotaInDim S7x1x1 32 0)))
    (broadcastInDim S7x128x128 ![] bcast_S_S7x128x128 (constantI S_ 32 1#32))) (broadcastInDim S7x128x128 ![] bcast_S_S7x128x128 (constantI S_ 32 1#32))))
  (cmpi .eq (andi
    (Host.shrsi (broadcastInDim S7x128x128 ![0, 1, 2] bcast_S1x128x128_S7x128x128_0_1_2 (iotaInDim S1x128x128 32 1))
      (broadcastInDim S7x128x128 ![0, 1, 2] bcast_S7x1x1_S7x128x128_0_1_2 (iotaInDim S7x1x1 32 0)))
    (broadcastInDim S7x128x128 ![] bcast_S_S7x128x128 (constantI S_ 32 1#32))) (broadcastInDim S7x128x128 ![] bcast_S_S7x128x128 (constantI S_ 32 0#32))))

theorem levMask_apply (l : Fin 7) (i j : Fin 128) : levMask (ix3 l i j) = ((meetR (2 ^ l.val) i.val j.val : ℝ) : EReal) := by
  have h : levMask (ix3 l i j) = (((maskBit l.val i.val j.val).toNat : ℝ) : EReal) := rfl
  rw [h, maskBit_eq, bit_real]
  rfl

theorem selfMask_apply (i j : Fin 128) : selfMask (ix3 (⟨0, Nat.one_pos⟩ : Fin 1) i j) = ((eqR i.val j.val : ℝ) : EReal) := by
  have h : selfMask (ix3 (⟨0, Nat.one_pos⟩ : Fin 1) i j) = (((IntOp.cmpi .eq (BitVec.ofNat 32 j.val) (BitVec.ofNat 32 i.val)).toNat : ℝ) : EReal) := rfl
  rw [h, eq_word _ _ j.isLt i.isLt, bit_real]
  unfold eqR
  by_cases e : i.val = j.val
  · rw [if_pos e, if_pos (by rw [e]; exact beq_self_eq_true _)]
  · rw [if_neg e, if_neg (by intro h; exact e (beq_iff_eq.mp h).symm)]

def masks (c : Dev nD) : S8x128x128.Idx → EReal := V m c main_v42
def triV (c : Dev nD) : S128x128.Idx → EReal := V m c main_v45

theorem masks_eq (c : Dev nD) : masks m c = concatenate S8x128x128 0 [⟨S1x128x128, selfMask⟩, ⟨S7x128x128, levMask⟩] concatenates_S1x128x128_S7x128x128_S8x128x128_d0 := by
  show StableHlo.after hostOps0 _ _ = _
  after_results <;> rfl

theorem tri_eq (c : Dev nD) : triV m c = uitofp (F := Ideal) .bf16 (shapeCast S128x128 (cmpi .sle (iotaInDim S1x128x128 32 1) (iotaInDim S1x128x128 32 2)) shapeCasts_S1x128x128_S128x128) := by
  show StableHlo.after hostOps0 _ _ = _
  after_results <;> rfl

end Cert.Proof.Gla

end
-- ==== Proof.GlaBlocks.lean ====
/- The blocks the body reads at one point of the grid, as real numbers of the arguments. -/
module

public import proofs.«01_k».proof.Proof.GlaIn

@[expose] public section

set_option maxRecDepth 65536

noncomputable section

namespace Cert.Proof.Gla

open Cert.GlaBwdIdeal Cert.GlaBwdIdeal.Gen Idealize.ShloMosaic Idealize.ShloMosaic.TcCoe Idealize.ShloMosaic.ValueIdx

variable (m : (ℓ : Loc nD τ sig) → Buf (Elt Ideal) ℓ) (c : Dev nD)

theorem masks_zero (i j : Fin 128) : masks m c (ix3 (0 : Fin 8) i j) = ((eqR i.val j.val : ℝ) : EReal) := by
  rw [masks_eq]
  exact (concatenate_apply_piece (t := S8x128x128) 0 [⟨S1x128x128, selfMask⟩, ⟨S7x128x128, levMask⟩] _ (ix3 (0 : Fin 8) i j) 0 (by simp) _ selfMask rfl rfl 0 rfl
    (ix3 (⟨0, Nat.one_pos⟩ : Fin 1) i j) (fun b hb => match b with | ⟨0, _⟩ => absurd rfl hb | ⟨1, _⟩ => rfl | ⟨2, _⟩ => rfl) rfl).trans (selfMask_apply i j)

theorem masks_succ (l : Fin 7) (n : Fin 8) (hn : n.val = l.val + 1) (i j : Fin 128) : masks m c (ix3 n i j) = ((meetR (2 ^ l.val) i.val j.val : ℝ) : EReal) := by
  rw [masks_eq]
  exact (concatenate_apply_piece (t := S8x128x128) 0 [⟨S1x128x128, selfMask⟩, ⟨S7x128x128, levMask⟩] _ (ix3 n i j) 1 (by simp) _ levMask rfl rfl 1 rfl
    (ix3 l i j) (fun b hb => match b with | ⟨0, _⟩ => absurd rfl hb | ⟨1, _⟩ => rfl | ⟨2, _⟩ => rfl) (by show 1 + l.val = n.val; omega)).trans (levMask_apply l i j)

theorem tri_apply : R2 (triV m c) triR := fun i j => by
  rw [tri_eq]
  have h : shapeCast S128x128 (cmpi .sle (iotaInDim S1x128x128 32 1) (iotaInDim S1x128x128 32 2)) shapeCasts_S1x128x128_S128x128 (ix2 i j)
      = IntOp.cmpi .sle (BitVec.ofNat 32 i.val) (BitVec.ofNat 32 j.val) :=
    shapeCast_apply (s := S1x128x128) (t := S128x128) _ _ (ix2 i j) (ix3 (⟨0, Nat.one_pos⟩ : Fin 1) i j) (by
      rw [Shape.rowMajor_val_three, Shape.rowMajor_val_two]
      show (0 * 128 + i.val) * 128 + j.val = i.val * 128 + j.val
      omega)
  show ((((shapeCast S128x128 (cmpi .sle (iotaInDim S1x128x128 32 1) (iotaInDim S1x128x128 32 2)) shapeCasts_S1x128x128_S128x128 (ix2 i j)).toNat : ℝ)) : EReal) = _
  rw [h, le_word _ _ i.isLt j.isLt, bit_real]
  unfold triR
  by_cases e : i.val ≤ j.val
  · rw [if_pos e, if_pos (decide_eq_true e)]
  · rw [if_neg e, if_neg (by simpa using e)]

/-! ## The arguments -/

def argZ : S16384x17920.Idx → EReal := m ((c : Thread nD τ).loc main_arg0)
def argW : S2x16x512.Idx → EReal := m ((c : Thread nD τ).loc main_arg1)
def argB : S2x512.Idx → EReal := m ((c : Thread nD τ).loc main_arg2)
def argS : S4x256x128.Idx → EReal := m ((c : Thread nD τ).loc main_arg3)

theorem V_z : (V m c main_arg0 : S16384x17920.Idx → EReal) = argZ m c := by
  show StableHlo.after hostOps0 _ _ = _
  after_results <;> rfl
theorem V_s : (V m c main_arg3 : S4x256x128.Idx → EReal) = argS m c := by
  show StableHlo.after hostOps0 _ _ = _
  after_results <;> rfl
/-- Casting changes nothing. -/
theorem cast_same (x y : S128x512.Idx → EReal) (h : x = y) : (truncf (F := Ideal) (φ := .f32) .bf16 x bitsLt_bf16_f32 : S128x512.Idx → EReal) = y := h

theorem V_w : (V m c main_v5 : S128x512.Idx → EReal) = Host.scatter scatter_S128x512_S1_S16x512_01_n_0_0 (fun _ b => b)
    (broadcastInDim S128x512 ![] bcast_S_S128x512 (constant (F := Ideal) S_ .f32 0x00000000#32)) (broadcastInDim S1 ![] bcast_S_S1 (constantI S_ 32 16#32))
    (shapeCast S16x512 (extractStridedSlice S1x16x512 ![1, 0, 0] (argW m c) slices_S2x16x512_S1x16x512_1_0_0) shapeCasts_S1x16x512_S16x512) := by
  show StableHlo.after hostOps0 _ _ = _
  after_results
  exact cast_same _ _ (congrArg (Host.scatter scatter_S128x512_S1_S16x512_01_n_0_0 (fun _ b => b) _ _) (funext fun _ => rfl))
theorem V_b : (V m c main_v8 : S1x512.Idx → EReal) = shapeCast S1x512 (shapeCast S512 (extractStridedSlice S1x512 ![1, 0] (argB m c) slices_S2x512_S1x512_1_0)
    shapeCasts_S1x512_S512) shapeCasts_S512_S1x512 := by
  show StableHlo.after hostOps0 _ _ = _
  after_results <;> rfl

/-- The arguments' entries as real numbers. -/
structure Args (z : ℕ → ℕ → ℝ) (w : ℕ → ℕ → ℝ) (b : ℕ → ℝ) (s : ℕ → ℕ → ℕ → ℝ) : Prop where
  z : R2 (argZ m c) z
  w : ∀ (x : Fin 16) (k : Fin 512), argW m c (ix3 (1 : Fin 2) x k) = ((w x.val k.val : ℝ) : EReal)
  b : ∀ k : Fin 512, argB m c (ix2 (1 : Fin 2) k) = ((b k.val : ℝ) : EReal)
  s : ∀ (h : Fin 4) (w : Fin 256) (x : Fin 128), argS m c (ix3 h w x) = ((s h.val w.val x.val : ℝ) : EReal)

variable {m c}
variable {z w : ℕ → ℕ → ℝ} {b : ℕ → ℝ} {s : ℕ → ℕ → ℕ → ℝ} (H : Args m c z w b s)

include H in
theorem wa_real : R2 (V m c main_v5 : S128x512.Idx → EReal) fun x k => if 16 ≤ x ∧ x < 32 then w (x - 16) k else 0 := fun i j => by
  rw [V_w]
  show Host.scatter scatter_S128x512_S1_S16x512_01_n_0_0 (fun _ b => b) _ (fun _ : S1.Idx => 16#32) _ (ix2 i j) = (((if 16 ≤ i.val ∧ i.val < 32 then w (i.val - 16) j.val else 0 : ℝ)) : EReal)
  rw [scat_at]
  by_cases h : 16 ≤ i.val ∧ i.val < 32
  · rw [dif_pos h, if_pos h]
    refine (shapeCast_apply (s := S1x16x512) (t := S16x512) _ _ (ix2 (⟨i.val - 16, by omega⟩ : Fin 16) j) (ix3 (⟨0, Nat.one_pos⟩ : Fin 1) (⟨i.val - 16, by omega⟩ : Fin 16) j) (by
      rw [Shape.rowMajor_val_three, Shape.rowMajor_val_two]
      show (0 * 16 + (i.val - 16)) * 512 + j.val = (i.val - 16) * 512 + j.val
      omega)).trans ?_
    refine (extractStridedSlice_apply ![1, 0, 0] (argW m c) _ _ (ix3 (1 : Fin 2) (⟨i.val - 16, by omega⟩ : Fin 16) j) (fun a => by
      match a with
      | ⟨0, _⟩ => show 1 = 1 + 0; rfl
      | ⟨1, _⟩ => exact (Nat.zero_add _).symm
      | ⟨2, _⟩ => exact (Nat.zero_add _).symm)).trans ?_
    exact H.w _ _
  · rw [dif_neg h, if_neg h]
    exact Ideal.ofBits_zero_f32

include H in
theorem ba_real : R2 (V m c main_v8 : S1x512.Idx → EReal) fun _ k => b k := fun i j => by
  rw [V_b]
  refine (shapeCast_apply (s := S512) (t := S1x512) _ _ (ix2 i j) (ix1 j) (by
    rw [Shape.rowMajor_val_one, Shape.rowMajor_val_two]
    show j.val = i.val * 512 + j.val
    have := i.isLt
    omega)).trans ?_
  refine (shapeCast_apply (s := S1x512) (t := S512) _ _ (ix1 j) (ix2 (⟨0, Nat.one_pos⟩ : Fin 1) j) (by
    rw [Shape.rowMajor_val_one, Shape.rowMajor_val_two]
    show 0 * 512 + j.val = j.val
    omega)).trans ?_
  refine (extractStridedSlice_apply (s := S2x512) (t := S1x512) ![1, 0] (argB m c) _ (ix2 (⟨0, Nat.one_pos⟩ : Fin 1) j) (ix2 (1 : Fin 2) j) (fun a => by
    match a with
    | ⟨0, _⟩ => show 1 = 1 + 0; rfl
    | ⟨1, _⟩ => exact (Nat.zero_add _).symm)).trans ?_
  exact H.b _

/-! ## The blocks -/

theorem ix0 : ∀ t : Fin cfg0.N, win0_0.index t = ![127 - t.val, 10] := (by decide +kernel : ∀ t : Fin grid0.N, win0_0.index t = ![127 - t.val, 10])
theorem ix1' : ∀ t : Fin cfg0.N, win0_1.index t = ![127 - t.val, 11] := (by decide +kernel : ∀ t : Fin grid0.N, win0_1.index t = ![127 - t.val, 11])
theorem ix2' : ∀ t : Fin cfg0.N, win0_2.index t = ![127 - t.val, 6] := (by decide +kernel : ∀ t : Fin grid0.N, win0_2.index t = ![127 - t.val, 6])
theorem ix3' : ∀ t : Fin cfg0.N, win0_3.index t = ![127 - t.val, 64] := (by decide +kernel : ∀ t : Fin grid0.N, win0_3.index t = ![127 - t.val, 64])
theorem ix4' : ∀ t : Fin cfg0.N, win0_4.index t = ![0, 0] := (by decide +kernel : ∀ t : Fin grid0.N, win0_4.index t = ![0, 0])
theorem ix5' : ∀ t : Fin cfg0.N, win0_5.index t = ![0, 0] := (by decide +kernel : ∀ t : Fin grid0.N, win0_5.index t = ![0, 0])
theorem ix6' : ∀ t : Fin cfg0.N, win0_6.index t = ![0, 0, 0] := (by decide +kernel : ∀ t : Fin grid0.N, win0_6.index t = ![0, 0, 0])
theorem ix7' : ∀ t : Fin cfg0.N, win0_7.index t = ![0, 0, 0] := (by decide +kernel : ∀ t : Fin grid0.N, win0_7.index t = ![0, 0, 0])
theorem ix8' : ∀ t : Fin cfg0.N, win0_8.index t = ![0, 0] := (by decide +kernel : ∀ t : Fin grid0.N, win0_8.index t = ![0, 0])

/-- The number of the block of rows a point handles. -/
def row (t : Fin cfg0.N) : ℕ := 127 - t.val
theorem row_lt (t : Fin cfg0.N) : row t < 128 := by unfold row; omega

include H in
theorem blk0 (t : Fin cfg0.N) : R2 (iblk m c 0 t : S128x512.Idx → EReal) fun i x => z (128 * row t + i) (5120 + x) := fun i j => by
  have hr := row_lt t
  have hi := i.isLt
  have hj := j.isLt
  show (V m c main_arg0 : S16384x17920.Idx → EReal) (((cfg0.win 0).blk t).view.emb (ix2 i j : S128x512.Idx)) = _
  rw [V_z]
  refine (congrArg (argZ m c) (show _ = ix2 (⟨128 * row t + i.val, by omega⟩ : Fin 16384) (⟨5120 + j.val, by omega⟩ : Fin 17920) from
    funext fun a => Fin.ext ((win0_0.rect_emb_val t (ix2 i j : S128x512.Idx) a).trans ?_))).trans (H.z _ _)
  rw [ix0]
  match a with
  | ⟨0, _⟩ => show row t * 128 + i.val = 128 * row t + i.val; omega
  | ⟨1, _⟩ => show 10 * 512 + j.val = 5120 + j.val; omega

include H in
theorem blk1 (t : Fin cfg0.N) : R2 (iblk m c 1 t : S128x512.Idx → EReal) fun i x => z (128 * row t + i) (5632 + x) := fun i j => by
  have hr := row_lt t
  have hi := i.isLt
  have hj := j.isLt
  show (V m c main_arg0 : S16384x17920.Idx → EReal) (((cfg0.win 1).blk t).view.emb (ix2 i j : S128x512.Idx)) = _
  rw [V_z]
  refine (congrArg (argZ m c) (show _ = ix2 (⟨128 * row t + i.val, by omega⟩ : Fin 16384) (⟨5632 + j.val, by omega⟩ : Fin 17920) from
    funext fun a => Fin.ext ((win0_1.rect_emb_val t (ix2 i j : S128x512.Idx) a).trans ?_))).trans (H.z _ _)
  rw [ix1']
  match a with
  | ⟨0, _⟩ => show row t * 128 + i.val = 128 * row t + i.val; omega
  | ⟨1, _⟩ => show 11 * 512 + j.val = 5632 + j.val; omega

include H in
theorem blk2 (t : Fin cfg0.N) : R2 (X0_2 m c t : S128x1024.Idx → EReal) fun i x => z (128 * row t + i) (6144 + x) := fun i j => by
  have hr := row_lt t
  have hi := i.isLt
  have hj := j.isLt
  unfold X0_2 Pipeline.Window.fill
  rw [dif_pos (moved0_2 t _)]
  show (V m c main_arg0 : S16384x17920.Idx → EReal) (((cfg0.win 2).blk t).view.emb _) = _
  rw [V_z]
  refine (congrArg (argZ m c) (show _ = ix2 (⟨128 * row t + i.val, by omega⟩ : Fin 16384) (⟨6144 + j.val, by omega⟩ : Fin 17920) from
    funext fun a => Fin.ext ((win0_2.rect_emb_val t _ a).trans ?_))).trans (H.z _ _)
  rw [ix2']
  match a with
  | ⟨0, _⟩ => show row t * 128 + i.val = 128 * row t + i.val; omega
  | ⟨1, _⟩ => show 6 * 1024 + j.val = 6144 + j.val; omega

include H in
theorem blk3 (t : Fin cfg0.N) : R2 (iblk m c 3 t : S128x128.Idx → EReal) fun i x => z (128 * row t + i) (8192 + x) := fun i j => by
  have hr := row_lt t
  have hi := i.isLt
  have hj := j.isLt
  show (V m c main_arg0 : S16384x17920.Idx → EReal) (((cfg0.win 3).blk t).view.emb (ix2 i j : S128x128.Idx)) = _
  rw [V_z]
  refine (congrArg (argZ m c) (show _ = ix2 (⟨128 * row t + i.val, by omega⟩ : Fin 16384) (⟨8192 + j.val, by omega⟩ : Fin 17920) from
    funext fun a => Fin.ext ((win0_3.rect_emb_val t (ix2 i j : S128x128.Idx) a).trans ?_))).trans (H.z _ _)
  rw [ix3']
  match a with
  | ⟨0, _⟩ => show row t * 128 + i.val = 128 * row t + i.val; omega
  | ⟨1, _⟩ => show 64 * 128 + j.val = 8192 + j.val; omega

theorem blk4 (t : Fin cfg0.N) : (iblk m c 4 t : S128x512.Idx → EReal) = (V m c main_v5 : S128x512.Idx → EReal) := funext fun y => by
  show (V m c main_v5 : S128x512.Idx → EReal) (((cfg0.win 4).blk t).view.emb y) = _
  refine congrArg _ (funext fun a => Fin.ext ((win0_4.rect_emb_val t y a).trans ?_))
  rw [ix4']
  match a with
  | ⟨0, _⟩ => show 0 * 128 + (y 0).val = (y 0).val; omega
  | ⟨1, _⟩ => show 0 * 512 + (y 1).val = (y 1).val; omega

theorem blk5 (t : Fin cfg0.N) : (iblk m c 5 t : S1x512.Idx → EReal) = (V m c main_v8 : S1x512.Idx → EReal) := funext fun y => by
  show (V m c main_v8 : S1x512.Idx → EReal) (((cfg0.win 5).blk t).view.emb y) = _
  refine congrArg _ (funext fun a => Fin.ext ((win0_5.rect_emb_val t y a).trans ?_))
  rw [ix5']
  match a with
  | ⟨0, _⟩ => show 0 * 1 + (y 0).val = (y 0).val; omega
  | ⟨1, _⟩ => show 0 * 512 + (y 1).val = (y 1).val; omega

theorem blk6 (t : Fin cfg0.N) : (iblk m c 6 t : S4x256x128.Idx → EReal) = argS m c := funext fun y => by
  show (V m c main_arg3 : S4x256x128.Idx → EReal) (((cfg0.win 6).blk t).view.emb y) = _
  rw [V_s]
  refine congrArg _ (funext fun a => Fin.ext ((win0_6.rect_emb_val t y a).trans ?_))
  rw [ix6']
  match a with
  | ⟨0, _⟩ => show 0 * 4 + (y 0).val = (y 0).val; omega
  | ⟨1, _⟩ => show 0 * 256 + (y 1).val = (y 1).val; omega
  | ⟨2, _⟩ => show 0 * 128 + (y 2).val = (y 2).val; omega

theorem blk7 (t : Fin cfg0.N) : (iblk m c 7 t : S8x128x128.Idx → EReal) = masks m c := funext fun y => by
  show masks m c (((cfg0.win 7).blk t).view.emb y) = _
  refine congrArg _ (funext fun a => Fin.ext ((win0_7.rect_emb_val t y a).trans ?_))
  rw [ix7']
  match a with
  | ⟨0, _⟩ => show 0 * 8 + (y 0).val = (y 0).val; omega
  | ⟨1, _⟩ => show 0 * 128 + (y 1).val = (y 1).val; omega
  | ⟨2, _⟩ => show 0 * 128 + (y 2).val = (y 2).val; omega

theorem blk8 (t : Fin cfg0.N) : (iblk m c 8 t : S128x128.Idx → EReal) = triV m c := funext fun y => by
  show triV m c (((cfg0.win 8).blk t).view.emb y) = _
  refine congrArg _ (funext fun a => Fin.ext ((win0_8.rect_emb_val t y a).trans ?_))
  rw [ix8']
  match a with
  | ⟨0, _⟩ => show 0 * 128 + (y 0).val = (y 0).val; omega
  | ⟨1, _⟩ => show 0 * 128 + (y 1).val = (y 1).val; omega

/-! ## The gate's argument -/

theorem pad_sum (f : ℕ → ℝ) (g : ℕ → ℝ) : (∑ x : Fin 128, f x * (if 16 ≤ x.val ∧ x.val < 32 then g (x.val - 16) else 0)) = ∑ x : Fin 16, f (16 + x) * g x := by
  rw [Fin.sum_univ_add (a := 16) (b := 112) (f := fun x : Fin (16 + 112) => f x.val * (if 16 ≤ x.val ∧ x.val < 32 then g (x.val - 16) else 0)),
    Finset.sum_eq_zero (fun (x : Fin 16) _ => by
      have := x.isLt
      show f x.val * (if 16 ≤ x.val ∧ x.val < 32 then g (x.val - 16) else 0) = 0
      rw [if_neg (by omega), mul_zero]), zero_add,
    Fin.sum_univ_add (a := 16) (b := 96) (f := fun x : Fin (16 + 96) => f (Fin.natAdd 16 x).val * (if 16 ≤ (Fin.natAdd 16 x).val ∧ (Fin.natAdd 16 x).val < 32 then g ((Fin.natAdd 16 x).val - 16) else 0)),
    Finset.sum_eq_zero (s := (Finset.univ : Finset (Fin 96))) (fun (x : Fin 96) _ => by
      show f (16 + (16 + x.val)) * (if 16 ≤ 16 + (16 + x.val) ∧ 16 + (16 + x.val) < 32 then g (16 + (16 + x.val) - 16) else 0) = 0
      rw [if_neg (by omega), mul_zero]), add_zero]
  refine Finset.sum_congr rfl fun x _ => ?_
  have := x.isLt
  show f (16 + x.val) * (if 16 ≤ 16 + x.val ∧ 16 + x.val < 32 then g (16 + x.val - 16) else 0) = _
  rw [if_pos (by omega), Nat.add_sub_cancel_left]

include H in
theorem gate_real (t : Fin cfg0.N) : R2 (k0_pay2 (F := Ideal) (iblk m c 3 t) (iblk m c 4 t) (iblk m c 5 t)) fun i k => gz z w b (128 * row t + i) k := by
  have h := R2.add (φ₁ := .f32) (R2.nn (φ₁ := .bf16) (φ₂ := .bf16) dot_S128x128_S128x512_S128x512_1_0_0_1_n_n.wf (blk3 H t) (wa_real H))
    (R2.spread (ba_real H) (by decide) broadcasts_S1x512_S128x512)
  have e : k0_pay2 (F := Ideal) (iblk m c 3 t) (iblk m c 4 t) (iblk m c 5 t)
      = addf (matmul (F := Ideal) (φ₁ := .bf16) (φ₂ := .bf16) dot_S128x128_S128x512_S128x512_1_0_0_1_n_n none (iblk m c 3 t : S128x128.Idx → EReal) (V m c main_v5 : S128x512.Idx → EReal)
          (constant S128x512 .f32 0x00000000#32)) (broadcastTo S128x512 (V m c main_v8 : S1x512.Idx → EReal) broadcasts_S1x512_S128x512) := by
    rw [← blk4 t, ← blk5 t]
    unfold k0_pay2
    rw [shapeCast_self, shapeCast_self]
    rfl
  rw [e]
  refine h.congr fun i k => ?_
  show (∑ x : Fin 128, z (128 * row t + i.val) (8192 + x.val) * (if 16 ≤ x.val ∧ x.val < 32 then w (x.val - 16) k.val else 0)) + b k.val = _
  rw [pad_sum (fun x => z (128 * row t + i.val) (8192 + x)) fun x => w x k.val]
  rfl

include H in
theorem data (t : Fin cfg0.N) : Data (iblk m c 0 t) (iblk m c 1 t) (X0_2 m c t) (iblk m c 3 t) (iblk m c 4 t) (iblk m c 5 t) (iblk m c 7 t) (iblk m c 8 t)
    (fun i x => z (128 * row t + i) (5120 + x)) (fun i x => z (128 * row t + i) (5632 + x)) (fun i x => z (128 * row t + i) (6144 + x))
    (fun i k => gz z w b (128 * row t + i) k) where
  q := blk0 H t
  k := blk1 H t
  v := blk2 H t
  z := gate_real H t
  t := by rw [blk8 t]; exact tri_apply m c
  m0 := by rw [blk7 t]; exact masks_zero m c
  m1 := by rw [blk7 t]; exact masks_succ m c 0 1 rfl
  m2 := by rw [blk7 t]; exact masks_succ m c 1 2 rfl
  m3 := by rw [blk7 t]; exact masks_succ m c 2 3 rfl
  m4 := by rw [blk7 t]; exact masks_succ m c 3 4 rfl
  m5 := by rw [blk7 t]; exact masks_succ m c 4 5 rfl
  m6 := by rw [blk7 t]; exact masks_succ m c 5 6 rfl
  m7 := by rw [blk7 t]; exact masks_succ m c 6 7 rfl

end Cert.Proof.Gla

end
-- ==== Proof.GlaKernel.lean ====
/- The backward pass's two result arrays: row by row from the end, the state after each block, each row's output. -/
module

public import proofs.«01_k».proof.Proof.GlaBlocks

@[expose] public section

set_option maxRecDepth 65536

noncomputable section

namespace Cert.Proof.Gla

open Cert.GlaBwdIdeal Cert.GlaBwdIdeal.Gen Idealize.ShloMosaic Idealize.ShloMosaic.TcCoe Idealize.ShloMosaic.ValueIdx
open Finset (Ico)

section Sequence

variable (z w : ℕ → ℕ → ℝ) (b : ℕ → ℝ) (s : ℕ → ℕ → ℕ → ℝ)

theorem cR_eq (j : ℕ) (hj : j < 128) (h x : ℕ) (t : Fin 128) :
    cR (fun i k => gz z w b (128 * j + i) k) h t.val x = tail (gG z w b h x) (128 * j + t.val) - tail (gG z w b h x) (128 * (j + 1)) :=
  block_tail_eq (gG z w b h x) j hj t

theorem state_eq (j : ℕ) (hj : j < 128) (h y x : ℕ) :
    stateR (fun i x => z (128 * j + i) (5632 + x)) (fun i x => z (128 * j + i) (6144 + x)) (fun i k => gz z w b (128 * j + i) k)
      (fun y x => St z w b s h y x (128 * (j + 1))) h y x = St z w b s h y x (128 * j) :=
  carry_step (gG z w b h x) (fun r => z r (5632 + (128 * h + x))) (fun r => z r (6144 + (256 * h + y))) (s h y x) j hj
    (fun t => cR (fun i k => gz z w b (128 * j + i) k) h t.val x) (0 : Fin 128) rfl fun t => cR_eq z w b j hj h x t

theorem rows_eq (j : ℕ) (hj : j < 128) (h y : ℕ) (t : Fin 128) :
    rowsR (fun i x => z (128 * j + i) (5120 + x)) (fun i x => z (128 * j + i) (5632 + x)) (fun i x => z (128 * j + i) (6144 + x))
      (fun i k => gz z w b (128 * j + i) k) (fun y x => St z w b s h y x (128 * (j + 1))) h t.val y = Out z w b s h y (128 * j + t.val) :=
  row_eq (fun x : Fin 128 => gG z w b h x) (fun (x : Fin 128) r => z r (5632 + (128 * h + x))) (fun (x : Fin 128) p => z p (5120 + (128 * h + x)) * sc)
    (fun x : Fin 128 => s h y x) (fun r => z r (6144 + (256 * h + y))) j hj (fun (x : Fin 128) t => cR (fun i k => gz z w b (128 * j + i) k) h t.val x) t
    fun x t => cR_eq z w b j hj h x t

end Sequence

variable {m : (ℓ : Loc nD τ sig) → Buf (Elt Ideal) ℓ} {c : Dev nD}
variable {z w : ℕ → ℕ → ℝ} {b : ℕ → ℝ} {s : ℕ → ℕ → ℕ → ℝ} (H : Args m c z w b s)

include H in
theorem first_in (t : Fin cfg0.N) (h0 : t.val % 128 = 0) (h : Fin 4) (y : Fin 256) (x : Fin 128) :
    (iblk m c 6 t : S4x256x128.Idx → EReal) (ix3 h y x) = ((St z w b s h y x (128 * (row t + 1)) : ℝ) : EReal) := by
  have ht : t.val < 128 := Nat.lt_of_lt_of_eq t.isLt N_0
  have e : 128 * (row t + 1) = len := by unfold row len; omega
  rw [blk6, H.s, e]
  exact congrArg _ (carry_last _ _ _ _).symm

theorem leftA9 (t : Fin cfg0.N) (h0 : t.val % 128 = 0) (X : EReal) (i : S128x1024.Idx)
    (hX : out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0)
      (iblk m c 0 t) (iblk m c 1 t) (X0_2 m c t) (iblk m c 3 t) (iblk m c 4 t) (iblk m c 5 t) (iblk m c 6 t) (iblk m c 7 t) (iblk m c 8 t) i = X) : (outsAt0 m c t.val t.isLt).1 i = X := by
  rw [outsAt0_A m c t h0]
  dsimp only
  exact hX

include H in
theorem madeA9 (t : Fin cfg0.N) (h0 : t.val % 128 = 0) (S : Vec Ideal S4x256x128 .f32) (T : ℕ → ℕ → ℕ → ℝ)
    (hT : ∀ (h : Fin 4) (y : Fin 256) (x : Fin 128), S (ix3 h y x) = ((T h.val y.val x.val : ℝ) : EReal))
    (h : Fin 4) (i : Fin 128) (y : Fin 256) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0)
      (iblk m c 0 t) (iblk m c 1 t) (X0_2 m c t) (iblk m c 3 t) (iblk m c 4 t) (iblk m c 5 t) S (iblk m c 7 t) (iblk m c 8 t) (ix2 i (⟨256 * h.val + y.val, by omega⟩ : Fin 1024))
      = ((rowsR (fun i x => z (128 * row t + i) (5120 + x)) (fun i x => z (128 * row t + i) (5632 + x)) (fun i x => z (128 * row t + i) (6144 + x))
      (fun i k => gz z w b (128 * row t + i) k) (T h.val) h.val i.val y.val : ℝ) : EReal) := by
  have D := outA9 (c := c) (i := grid0.coords t) (x6 := S)  (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0)
    (data H t) (T := T) hT h i y
  exact D

include H in
theorem pointA9 (t : Fin cfg0.N) (h0 : t.val % 128 = 0) (T : ℕ → ℕ → ℕ → ℝ)
    (hT : ∀ (h : Fin 4) (y : Fin 256) (x : Fin 128), (iblk m c 6 t : S4x256x128.Idx → EReal) (ix3 h y x) = ((T h.val y.val x.val : ℝ) : EReal))
    (h : Fin 4) (i : Fin 128) (y : Fin 256) :
    (outsAt0 m c t.val t.isLt).1 (ix2 i (⟨256 * h.val + y.val, by omega⟩ : Fin 1024)) = ((rowsR (fun i x => z (128 * row t + i) (5120 + x)) (fun i x => z (128 * row t + i) (5632 + x)) (fun i x => z (128 * row t + i) (6144 + x))
      (fun i k => gz z w b (128 * row t + i) k) (T h.val) h.val i.val y.val : ℝ) : EReal) := by
  refine leftA9 t h0 _ _ ?_
  exact madeA9 H t h0 _ T hT h i y

theorem leftA10 (t : Fin cfg0.N) (h0 : t.val % 128 = 0) (X : EReal) (i : S4x256x128.Idx)
    (hX : out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0)
      (iblk m c 0 t) (iblk m c 1 t) (X0_2 m c t) (iblk m c 3 t) (iblk m c 4 t) (iblk m c 5 t) (iblk m c 6 t) (iblk m c 7 t) (iblk m c 8 t) i = X) : (outsAt0 m c t.val t.isLt).2 i = X := by
  rw [outsAt0_A m c t h0]
  dsimp only
  exact hX

include H in
theorem madeA10 (t : Fin cfg0.N) (h0 : t.val % 128 = 0) (S : Vec Ideal S4x256x128 .f32) (T : ℕ → ℕ → ℕ → ℝ)
    (hT : ∀ (h : Fin 4) (y : Fin 256) (x : Fin 128), S (ix3 h y x) = ((T h.val y.val x.val : ℝ) : EReal))
    (h : Fin 4) (y : Fin 256) (x : Fin 128) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0)
      (iblk m c 0 t) (iblk m c 1 t) (X0_2 m c t) (iblk m c 3 t) (iblk m c 4 t) (iblk m c 5 t) S (iblk m c 7 t) (iblk m c 8 t) (ix3 h y x)
      = ((stateR (fun i x => z (128 * row t + i) (5632 + x)) (fun i x => z (128 * row t + i) (6144 + x))
      (fun i k => gz z w b (128 * row t + i) k) (T h.val) h.val y.val x.val : ℝ) : EReal) := by
  have D := outA10 (c := c) (i := grid0.coords t) (x6 := S)  (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0)
    (data H t) (T := T) hT h y x
  exact D

include H in
theorem pointA10 (t : Fin cfg0.N) (h0 : t.val % 128 = 0) (T : ℕ → ℕ → ℕ → ℝ)
    (hT : ∀ (h : Fin 4) (y : Fin 256) (x : Fin 128), (iblk m c 6 t : S4x256x128.Idx → EReal) (ix3 h y x) = ((T h.val y.val x.val : ℝ) : EReal))
    (h : Fin 4) (y : Fin 256) (x : Fin 128) :
    (outsAt0 m c t.val t.isLt).2 (ix3 h y x) = ((stateR (fun i x => z (128 * row t + i) (5632 + x)) (fun i x => z (128 * row t + i) (6144 + x))
      (fun i k => gz z w b (128 * row t + i) k) (T h.val) h.val y.val x.val : ℝ) : EReal) :=
  leftA10 t h0 _ _ (madeA10 H t h0 _ T hT h y x)

theorem leftB9 (t : Fin cfg0.N) (h0 : ¬t.val % 128 = 0) (X : EReal) (i : S128x1024.Idx)
    (hX : out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h))
      (iblk m c 0 t) (iblk m c 1 t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2 i = X) : (outsAt0 m c t.val t.isLt).1 i = X := by
  rw [outsAt0_B m c t h0]
  dsimp only
  exact hX

include H in
theorem madeB9 (t : Fin cfg0.N) (h0 : ¬t.val % 128 = 0) (S : Vec Ideal S4x256x128 .f32) (T : ℕ → ℕ → ℕ → ℝ)
    (hT : ∀ (h : Fin 4) (y : Fin 256) (x : Fin 128), S (ix3 h y x) = ((T h.val y.val x.val : ℝ) : EReal))
    (h : Fin 4) (i : Fin 128) (y : Fin 256) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h))
      (iblk m c 0 t) (iblk m c 1 t) (X0_2 m c t) (iblk m c 3 t) (iblk m c 4 t) (iblk m c 5 t) (iblk m c 6 t) (iblk m c 7 t) (iblk m c 8 t) S (ix2 i (⟨256 * h.val + y.val, by omega⟩ : Fin 1024))
      = ((rowsR (fun i x => z (128 * row t + i) (5120 + x)) (fun i x => z (128 * row t + i) (5632 + x)) (fun i x => z (128 * row t + i) (6144 + x))
      (fun i k => gz z w b (128 * row t + i) k) (T h.val) h.val i.val y.val : ℝ) : EReal) := by
  have D := outB9 (c := c) (i := grid0.coords t) (xo10 := S) (x6 := iblk m c 6 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h))
    (data H t) (T := T) hT h i y
  exact D

include H in
theorem pointB9 (t : Fin cfg0.N) (h0 : ¬t.val % 128 = 0) (T : ℕ → ℕ → ℕ → ℝ)
    (hT : ∀ (h : Fin 4) (y : Fin 256) (x : Fin 128), (outsAt0 m c (t.val - 1) (Nat.lt_of_le_of_lt (Nat.sub_le _ _) t.isLt)).2 (ix3 h y x) = ((T h.val y.val x.val : ℝ) : EReal))
    (h : Fin 4) (i : Fin 128) (y : Fin 256) :
    (outsAt0 m c t.val t.isLt).1 (ix2 i (⟨256 * h.val + y.val, by omega⟩ : Fin 1024)) = ((rowsR (fun i x => z (128 * row t + i) (5120 + x)) (fun i x => z (128 * row t + i) (5632 + x)) (fun i x => z (128 * row t + i) (6144 + x))
      (fun i k => gz z w b (128 * row t + i) k) (T h.val) h.val i.val y.val : ℝ) : EReal) := by
  refine leftB9 t h0 _ _ ?_
  exact madeB9 H t h0 _ T hT h i y

theorem leftB10 (t : Fin cfg0.N) (h0 : ¬t.val % 128 = 0) (X : EReal) (i : S4x256x128.Idx)
    (hX : out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h))
      (iblk m c 0 t) (iblk m c 1 t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2 i = X) : (outsAt0 m c t.val t.isLt).2 i = X := by
  rw [outsAt0_B m c t h0]
  dsimp only
  exact hX

include H in
theorem madeB10 (t : Fin cfg0.N) (h0 : ¬t.val % 128 = 0) (S : Vec Ideal S4x256x128 .f32) (T : ℕ → ℕ → ℕ → ℝ)
    (hT : ∀ (h : Fin 4) (y : Fin 256) (x : Fin 128), S (ix3 h y x) = ((T h.val y.val x.val : ℝ) : EReal))
    (h : Fin 4) (y : Fin 256) (x : Fin 128) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h))
      (iblk m c 0 t) (iblk m c 1 t) (X0_2 m c t) (iblk m c 3 t) (iblk m c 4 t) (iblk m c 5 t) (iblk m c 6 t) (iblk m c 7 t) (iblk m c 8 t) S (ix3 h y x)
      = ((stateR (fun i x => z (128 * row t + i) (5632 + x)) (fun i x => z (128 * row t + i) (6144 + x))
      (fun i k => gz z w b (128 * row t + i) k) (T h.val) h.val y.val x.val : ℝ) : EReal) := by
  have D := outB10 (c := c) (i := grid0.coords t) (xo10 := S) (x6 := iblk m c 6 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h))
    (data H t) (T := T) hT h y x
  exact D

include H in
theorem pointB10 (t : Fin cfg0.N) (h0 : ¬t.val % 128 = 0) (T : ℕ → ℕ → ℕ → ℝ)
    (hT : ∀ (h : Fin 4) (y : Fin 256) (x : Fin 128), (outsAt0 m c (t.val - 1) (Nat.lt_of_le_of_lt (Nat.sub_le _ _) t.isLt)).2 (ix3 h y x) = ((T h.val y.val x.val : ℝ) : EReal))
    (h : Fin 4) (y : Fin 256) (x : Fin 128) :
    (outsAt0 m c t.val t.isLt).2 (ix3 h y x) = ((stateR (fun i x => z (128 * row t + i) (5632 + x)) (fun i x => z (128 * row t + i) (6144 + x))
      (fun i k => gz z w b (128 * row t + i) k) (T h.val) h.val y.val x.val : ℝ) : EReal) :=
  leftB10 t h0 _ _ (madeB10 H t h0 _ T hT h y x)

include H in
/-- The state after point `n`. -/
theorem state_at : ∀ (n : ℕ) (hn : n < cfg0.N) (h : Fin 4) (y : Fin 256) (x : Fin 128),
    (outsAt0 m c n hn).2 (ix3 h y x) = ((St z w b s h y x (128 * (127 - n)) : ℝ) : EReal)
  | 0, hn, h, y, x =>
    (pointA10 H ⟨0, hn⟩ rfl (fun h y x => St z w b s h y x (128 * (row ⟨0, hn⟩ + 1))) (first_in H ⟨0, hn⟩ rfl) h y x).trans
      (congrArg _ (state_eq z w b s (row ⟨0, hn⟩) (row_lt _) h y x))
  | n + 1, hn, h, y, x => by
    have hn' : n + 1 < 128 := Nat.lt_of_lt_of_eq hn N_0
    have hp := state_at n (Nat.lt_of_succ_lt hn)
    have e : 127 - n = row ⟨n + 1, hn⟩ + 1 := by unfold row; show 127 - n = 127 - (n + 1) + 1; omega
    rw [e] at hp
    exact (pointB10 H ⟨n + 1, hn⟩ (by show ¬(n + 1) % 128 = 0; omega) (fun h y x => St z w b s h y x (128 * (row ⟨n + 1, hn⟩ + 1))) hp h y x).trans
      (congrArg _ (state_eq z w b s (row ⟨n + 1, hn⟩) (row_lt _) h y x))

include H in
/-- The rows a point leaves. -/
theorem rows_at (t : Fin cfg0.N) (h : Fin 4) (i : Fin 128) (y : Fin 256) :
    (outsAt0 m c t.val t.isLt).1 (ix2 i (⟨256 * h.val + y.val, by omega⟩ : Fin 1024)) = ((Out z w b s h y (128 * row t + i.val) : ℝ) : EReal) := by
  have ht : t.val < 128 := Nat.lt_of_lt_of_eq t.isLt N_0
  by_cases h0 : t.val % 128 = 0
  · exact (pointA9 H t h0 (fun h y x => St z w b s h y x (128 * (row t + 1))) (first_in H t h0) h i y).trans
      (congrArg _ (rows_eq z w b s (row t) (row_lt t) h y i))
  · have hp := state_at H (t.val - 1) (Nat.lt_of_le_of_lt (Nat.sub_le _ _) t.isLt)
    have e : 127 - (t.val - 1) = row t + 1 := by unfold row; omega
    rw [e] at hp
    exact (pointB9 H t h0 (fun h y x => St z w b s h y x (128 * (row t + 1))) hp h i y).trans
      (congrArg _ (rows_eq z w b s (row t) (row_lt t) h y i))

theorem ix9' : ∀ t : Fin cfg0.N, win0_9.index t = ![127 - t.val, 0] := (by decide +kernel : ∀ t : Fin grid0.N, win0_9.index t = ![127 - t.val, 0])
theorem ix10' : ∀ t : Fin cfg0.N, win0_10.index t = ![0, 0, 0] := (by decide +kernel : ∀ t : Fin grid0.N, win0_10.index t = ![0, 0, 0])

include H in
/-- The first result array. -/
theorem out_apply (p : Fin 16384) (h : Fin 4) (y : Fin 256) :
    ((dats m 0 c).arrAt 9 cfg0.N : S16384x1024.Idx → EReal) (ix2 p (⟨256 * h.val + y.val, by omega⟩ : Fin 1024)) = ((Out z w b s h y p : ℝ) : EReal) := by
  have hp := p.isLt
  let t : Fin cfg0.N := ⟨127 - p.val / 128, by have := N_0; show _ < grid0.N; omega⟩
  let i : Fin 128 := ⟨p.val % 128, by omega⟩
  have hr : row t = p.val / 128 := by unfold row; show 127 - (127 - p.val / 128) = _; omega
  have hv : 127 - t.val = p.val / 128 := hr
  have hemb : ((cfg0.win 9).blk t).view.emb (ix2 i (⟨256 * h.val + y.val, by omega⟩ : Fin 1024) : S128x1024.Idx) = (ix2 p (⟨256 * h.val + y.val, by omega⟩ : Fin 1024) : S16384x1024.Idx) :=
    funext fun a => Fin.ext ((win0_9.rect_emb_val t (ix2 i (⟨256 * h.val + y.val, by omega⟩ : Fin 1024) : S128x1024.Idx) a).trans (by
      rw [ix9', hv]
      match a with
      | ⟨0, _⟩ => show p.val / 128 * 128 + p.val % 128 = p.val; omega
      | ⟨1, _⟩ => show 0 * 1024 + (256 * h.val + y.val) = 256 * h.val + y.val; omega))
  have hb := congrFun ((Value.blocks9 (F := Ideal) m c t (flush0_9 t)).trans (Value.flushed9 (F := Ideal) m c t)) (ix2 i (⟨256 * h.val + y.val, by omega⟩ : Fin 1024) : S128x1024.Idx)
  rw [← hemb]
  refine hb.trans ((rows_at H t h i y).trans (congrArg (fun n => ((Out z w b s h y n : ℝ) : EReal)) ?_))
  rw [hr]
  show 128 * (p.val / 128) + p.val % 128 = p.val
  omega

theorem apart10 : ∀ t t' : Fin cfg0.N, (cfg0.win 10).flush t = true → (cfg0.win 10).flush t' = true → t ≠ t' →
    Disjoint ((cfg0.win 10).blk t).view.set ((cfg0.win 10).blk t').view.set := fun t t' h h' hne => absurd (Fin.ext (by
  have ht : t.val < 128 := Nat.lt_of_lt_of_eq t.isLt N_0
  have ht' : t'.val < 128 := Nat.lt_of_lt_of_eq t'.isLt N_0
  have h1 := (flush0_10 t).mp h
  have h2 := (flush0_10 t').mp h'
  omega)) hne

include H in
/-- The second result array. -/
theorem state_apply (h : Fin 4) (y : Fin 256) (x : Fin 128) :
    ((dats m 0 c).arrAt 10 cfg0.N : S4x256x128.Idx → EReal) (ix3 h y x) = ((St z w b s h y x 0 : ℝ) : EReal) := by
  let t : Fin cfg0.N := ⟨127, by have := N_0; show _ < grid0.N; omega⟩
  have hemb : ((cfg0.win 10).blk t).view.emb (ix3 h y x : S4x256x128.Idx) = (ix3 h y x : S4x256x128.Idx) :=
    funext fun a => Fin.ext ((win0_10.rect_emb_val t (ix3 h y x : S4x256x128.Idx) a).trans (by
      rw [ix10']
      match a with
      | ⟨0, _⟩ => show 0 * 4 + h.val = h.val; omega
      | ⟨1, _⟩ => show 0 * 256 + y.val = y.val; omega
      | ⟨2, _⟩ => show 0 * 128 + x.val = x.val; omega))
  have hb := congrFun (((dats m 0 c).read_blk_arrAt_eq_flushed 10 apart10 cfg0.N t t.isLt ((flush0_10 t).mpr rfl)).trans (Value.flushed10 (F := Ideal) m c t)) (ix3 h y x : S4x256x128.Idx)
  refine (congrArg ((dats m 0 c).arrAt 10 cfg0.N : S4x256x128.Idx → EReal) hemb.symm).trans ?_
  exact hb.trans (state_at H 127 t.isLt h y x)

end Cert.Proof.Gla

end
-- ==== Proof.GlaRev.lean ====
/- Sums over reversed rows and running sums down the rows of an array of real numbers. -/
module

public import proofs.«01_k».proof.Proof.GlaHead

@[expose] public section

noncomputable section

namespace Cert.Proof.Gla

open Idealize.ShloMosaic Idealize.ShloMosaic.ValueIdx
open Finset (Ico)

/-! ## Sums over reversed rows -/

theorem rev_sum (N : ℕ) (F : ℕ → ℝ) : ∑ r : Fin N, F (N - 1 - r.val) = ∑ p ∈ Finset.range N, F p := by
  rw [Fin.sum_univ_eq_sum_range (fun n => F (N - 1 - n)) N]
  exact Finset.sum_range_reflect F N

theorem rev_tail (N : ℕ) (F : ℕ → ℝ) (r : ℕ) (hr : r < N) :
    (∑ s : Fin N, if s.val ≤ r then F (N - 1 - s.val) else 0) = ∑ p ∈ Ico (N - 1 - r) N, F p := by
  have e : ∀ s : Fin N, (if s.val ≤ r then F (N - 1 - s.val) else 0) = (fun p => if N - 1 - r ≤ p then F p else 0) (N - 1 - s.val) := fun s => by
    have := s.isLt
    refine if_congr ?_ rfl rfl
    omega
  refine (Finset.sum_congr rfl fun s _ => e s).trans ((rev_sum N (fun p => if N - 1 - r ≤ p then F p else 0)).trans ?_)
  rw [← Finset.sum_filter]
  refine Finset.sum_congr ?_ fun _ _ => rfl
  ext p
  simp only [Finset.mem_filter, Finset.mem_Ico, Finset.mem_range]
  omega

theorem window_sum (M : ℕ) (a : ℕ → ℝ) (r : ℕ) (hr : r < M + 1) :
    (∑ k : Fin (M + 1), if M ≤ r + k.val then a (r + k.val - M) else 0) = ∑ s : Fin (M + 1), if s.val ≤ r then a s.val else 0 := by
  have e : ∀ k : Fin (M + 1), (if M ≤ r + k.val then a (r + k.val - M) else 0) = (fun n => if n ≤ r then a (r - n) else 0) (M + 1 - 1 - k.val) := fun k => by
    have := k.isLt
    show _ = if M + 1 - 1 - k.val ≤ r then a (r - (M + 1 - 1 - k.val)) else 0
    by_cases h : M ≤ r + k.val
    · rw [if_pos h, if_pos (by omega)]
      congr 1
      omega
    · rw [if_neg h, if_neg (by omega)]
  refine (Finset.sum_congr rfl fun k _ => e k).trans ((rev_sum (M + 1) (fun n => if n ≤ r then a (r - n) else 0)).trans ?_)
  rw [Fin.sum_univ_eq_sum_range (fun n => if n ≤ r then a n else 0) (M + 1), ← Finset.sum_filter, ← Finset.sum_filter]
  have e1 : (Finset.range (M + 1)).filter (fun n => n ≤ r) = Finset.range (r + 1) := by ext p; simp only [Finset.mem_filter, Finset.mem_range]; omega
  rw [e1]
  exact Finset.sum_range_reflect a (r + 1)

/-! ## Running sums -/

theorem foldl_sum {N : ℕ} (f : Fin N → EReal) (v : EReal) : (List.finRange N).foldl (fun r n => r + f n) v = v + ∑ n, f n := by
  rw [Fin.sum_univ_def]
  generalize List.finRange N = l
  induction l generalizing v with
  | nil => simp
  | cons n l ih => rw [List.foldl_cons, ih, List.map_cons, List.sum_cons, add_assoc]

/-- The positions of a window as long as the rows and one wide. -/
def column (R : ℕ) : (⟨3, ![R, 1, 1]⟩ : Shape).Idx ≃ Fin R where
  toFun w := w 0
  invFun k := ix3 k (0 : Fin 1) (0 : Fin 1)
  left_inv w := by
    funext a
    match a with
    | ⟨0, _⟩ => rfl
    | ⟨1, _⟩ => exact Subsingleton.elim (α := Fin 1) _ _
    | ⟨2, _⟩ => exact Subsingleton.elim (α := Fin 1) _ _
  right_inv k := rfl

/-- The running sums of an array of real numbers down its rows. -/
theorem running {M H C : ℕ} (X : (⟨3, ![M + 1, H, C]⟩ : Shape).Idx → EReal) (a : ℕ → ℕ → ℕ → ℝ)
    (hX : ∀ (r : Fin (M + 1)) (h : Fin H) (x : Fin C), X (ix3 r h x) = ((a h.val x.val r.val : ℝ) : EReal))
    (init : EReal) (hi : init = 0)
    (hw : (⟨3, ![M + 1, H, C]⟩ : Shape).ReduceWindows (![M + 1, 1, 1] : Fin 3 → ℕ) ![1, 1, 1] ![M, 0, 0] ![0, 0, 0] ⟨3, ![M + 1, H, C]⟩)
    (r : Fin (M + 1)) (h : Fin H) (x : Fin C) :
    Ideal.hostReduceWindowAdd (![M + 1, 1, 1] : Fin 3 → ℕ) ![1, 1, 1] ![M, 0, 0] ![0, 0, 0] hw X init (ix3 r h x)
      = ((∑ s : Fin (M + 1), (if s.val ≤ r.val then a h.val x.val s.val else 0) : ℝ) : EReal) := by
  subst hi
  unfold Ideal.hostReduceWindowAdd Host.reduceWindow
  refine (foldl_sum _ _).trans ?_
  rw [zero_add, ← window_sum M (a h.val x.val) r.val r.isLt, coe_sum]
  refine (Finset.sum_congr rfl fun n _ => ?_).trans (((Shape.rowMajor (⟨3, ![M + 1, 1, 1]⟩ : Shape)).symm.trans (column (M + 1))).sum_comp
    (fun k : Fin (M + 1) => (((if M ≤ r.val + k.val then a h.val x.val (r.val + k.val - M) else 0) : ℝ) : EReal)))
  show _ = (((if M ≤ r.val + ((Shape.rowMajor (⟨3, ![M + 1, 1, 1]⟩ : Shape)).symm n 0).val
    then a h.val x.val (r.val + ((Shape.rowMajor (⟨3, ![M + 1, 1, 1]⟩ : Shape)).symm n 0).val - M) else 0) : ℝ) : EReal)
  dsimp only
  have hr := r.isLt
  have hh := h.isLt
  have hx := x.isLt
  have w0 : ((Shape.rowMajor (⟨3, ![M + 1, 1, 1]⟩ : Shape)).symm n 0).val < M + 1 := ((Shape.rowMajor (⟨3, ![M + 1, 1, 1]⟩ : Shape)).symm n 0).isLt
  have w1 : ((Shape.rowMajor (⟨3, ![M + 1, 1, 1]⟩ : Shape)).symm n 1).val < 1 := ((Shape.rowMajor (⟨3, ![M + 1, 1, 1]⟩ : Shape)).symm n 1).isLt
  have w2 : ((Shape.rowMajor (⟨3, ![M + 1, 1, 1]⟩ : Shape)).symm n 2).val < 1 := ((Shape.rowMajor (⟨3, ![M + 1, 1, 1]⟩ : Shape)).symm n 2).isLt
  split
  · next hin =>
    have h0 := hin 0
    change M ≤ r.val * 1 + ((Shape.rowMajor (⟨3, ![M + 1, 1, 1]⟩ : Shape)).symm n 0).val
      ∧ r.val * 1 + ((Shape.rowMajor (⟨3, ![M + 1, 1, 1]⟩ : Shape)).symm n 0).val - M < M + 1 at h0
    rw [if_pos (by omega)]
    refine (congrArg X (funext fun a => Fin.ext ?_)).trans (hX ⟨r.val + ((Shape.rowMajor (⟨3, ![M + 1, 1, 1]⟩ : Shape)).symm n 0).val - M, by omega⟩ h x)
    match a with
    | ⟨0, _⟩ =>
      show r.val * 1 + ((Shape.rowMajor (⟨3, ![M + 1, 1, 1]⟩ : Shape)).symm n 0).val - M = r.val + ((Shape.rowMajor (⟨3, ![M + 1, 1, 1]⟩ : Shape)).symm n 0).val - M
      omega
    | ⟨1, _⟩ => show h.val * 1 + ((Shape.rowMajor (⟨3, ![M + 1, 1, 1]⟩ : Shape)).symm n 1).val - 0 = h.val; omega
    | ⟨2, _⟩ => show x.val * 1 + ((Shape.rowMajor (⟨3, ![M + 1, 1, 1]⟩ : Shape)).symm n 2).val - 0 = x.val; omega
  · next hin =>
    rw [if_neg fun hle => hin fun a => by
      match a with
      | ⟨0, _⟩ =>
        show M ≤ r.val * 1 + ((Shape.rowMajor (⟨3, ![M + 1, 1, 1]⟩ : Shape)).symm n 0).val
          ∧ r.val * 1 + ((Shape.rowMajor (⟨3, ![M + 1, 1, 1]⟩ : Shape)).symm n 0).val - M < M + 1
        omega
      | ⟨1, _⟩ =>
        show 0 ≤ h.val * 1 + ((Shape.rowMajor (⟨3, ![M + 1, 1, 1]⟩ : Shape)).symm n 1).val
          ∧ h.val * 1 + ((Shape.rowMajor (⟨3, ![M + 1, 1, 1]⟩ : Shape)).symm n 1).val - 0 < H
        omega
      | ⟨2, _⟩ =>
        show 0 ≤ x.val * 1 + ((Shape.rowMajor (⟨3, ![M + 1, 1, 1]⟩ : Shape)).symm n 2).val
          ∧ x.val * 1 + ((Shape.rowMajor (⟨3, ![M + 1, 1, 1]⟩ : Shape)).symm n 2).val - 0 < C
        omega]
    rfl

theorem running_rows {N M H C : ℕ} (hN : M + 1 = N) (X : (⟨3, ![N, H, C]⟩ : Shape).Idx → EReal) (a : ℕ → ℕ → ℕ → ℝ)
    (hX : ∀ (r : Fin N) (h : Fin H) (x : Fin C), X (ix3 r h x) = ((a h.val x.val r.val : ℝ) : EReal))
    (init : EReal) (hi : init = 0)
    (hw : (⟨3, ![N, H, C]⟩ : Shape).ReduceWindows (![N, 1, 1] : Fin 3 → ℕ) ![1, 1, 1] ![M, 0, 0] ![0, 0, 0] ⟨3, ![N, H, C]⟩)
    (r : Fin N) (h : Fin H) (x : Fin C) :
    Ideal.hostReduceWindowAdd (![N, 1, 1] : Fin 3 → ℕ) ![1, 1, 1] ![M, 0, 0] ![0, 0, 0] hw X init (ix3 r h x)
      = ((∑ s : Fin N, (if s.val ≤ r.val then a h.val x.val s.val else 0) : ℝ) : EReal) := by
  subst hN
  exact running X a hX init hi hw r h x

end Cert.Proof.Gla

end
-- ==== Proof.GlaRef.lean ====
/- The reference of the backward pass, read at an index on real data. -/
module

public import proofs.«01_k».proof.Proof.GlaSeq
public import proofs.«01_k».proof.Proof.GlaRev
public import proofs.«01_k».proof.Proof.Gen.GlaBwdRefIdeal.Read

@[expose] public section

set_option maxRecDepth 65536

noncomputable section

namespace Cert.Proof.Gla

open Cert.GlaBwdRefIdeal Cert.GlaBwdRefIdeal.Gen Cert.GlaBwdRefIdeal.Read Idealize.ShloMosaic Idealize.ShloMosaic.TcCoe Idealize.ShloMosaic.ValueIdx
open Finset (Ico)

/-! ## Sums over the reversed rows -/

theorem rows_sum (F : ℕ → ℝ) : ∑ r : Fin 16384, F (16383 - r.val) = ∑ p ∈ Ico 0 len, F p := by
  have h := rev_sum 16384 F
  rw [show 16384 - 1 = 16383 from rfl, Finset.range_eq_Ico] at h
  exact h

theorem rows_tail (F : ℕ → ℝ) (r : ℕ) (hr : r < 16384) :
    (∑ s : Fin 16384, if s.val ≤ r then F (16383 - s.val) else 0) = ∑ p ∈ Ico (16383 - r) len, F p := by
  have h := rev_tail 16384 F r hr
  rw [show 16384 - 1 = 16383 from rfl] at h
  exact h

/-! ## Reversed rows -/

theorem flip_k {α : Type} (X : S16384x4x128.Idx → α) (i : S16384x4x128.Idx) :
    Host.reverse [0] X i = X (ix3 (⟨16383 - (i 0).val, by omega⟩ : Fin 16384) (i 1 : Fin 4) (i 2 : Fin 128)) := by
  have h0 : (i 0).val < 16384 := (i 0).isLt
  refine congrArg X (funext fun a => ?_)
  match a with
  | ⟨0, _⟩ => exact (if_pos (show (0 : Fin 3) ∈ ([0] : List (Fin 3)) by decide)).trans (Fin.ext (by show 16384 - ((i 0).val + 1) = 16383 - (i 0).val; omega))
  | ⟨1, _⟩ => exact if_neg (show (1 : Fin 3) ∉ ([0] : List (Fin 3)) by decide)
  | ⟨2, _⟩ => exact if_neg (show (2 : Fin 3) ∉ ([0] : List (Fin 3)) by decide)

theorem flip_v {α : Type} (X : S16384x4x256.Idx → α) (i : S16384x4x256.Idx) :
    Host.reverse [0] X i = X (ix3 (⟨16383 - (i 0).val, by omega⟩ : Fin 16384) (i 1 : Fin 4) (i 2 : Fin 256)) := by
  have h0 : (i 0).val < 16384 := (i 0).isLt
  refine congrArg X (funext fun a => ?_)
  match a with
  | ⟨0, _⟩ => exact (if_pos (show (0 : Fin 3) ∈ ([0] : List (Fin 3)) by decide)).trans (Fin.ext (by show 16384 - ((i 0).val + 1) = 16383 - (i 0).val; omega))
  | ⟨1, _⟩ => exact if_neg (show (1 : Fin 3) ∉ ([0] : List (Fin 3)) by decide)
  | ⟨2, _⟩ => exact if_neg (show (2 : Fin 3) ∉ ([0] : List (Fin 3)) by decide)

/-! ## Numbers -/

theorem sixteen : Ideal.ofBits .f32 0x41800000#32 = ((16 : ℝ) : EReal) := by
  simp [Ideal.ofBits, Ideal.ieee, -EReal.coe_mul]; norm_num

theorem below : Ideal.ofBits .f32 0xFF800000#32 = (⊥ : EReal) := by
  simp [Ideal.ofBits, Ideal.ieee]

/-- The log gate, as the reference takes it: the softplus of the negated argument, negated and divided by sixteen. -/
theorem soft (y : ℝ) (N Z D L e : EReal) (hN : N = -(y : EReal)) (hZ : Z = 0) (hD : D = N - Z) (hL : L = ((16 : ℝ) : EReal)) :
    Ideal.div (-(Scalar.select (Ideal.cmp .une D D) e (max N Z + Ideal.log (1 + Ideal.exp (-(max D (-D))))))) L = ((lgate y : ℝ) : EReal) := by
  rw [← EReal.coe_neg] at hN
  subst hN hZ hL
  rw [sub_zero] at hD
  subst hD
  have hs : ∀ a b : EReal, Scalar.select (Ideal.cmp .une ((-y : ℝ) : EReal) ((-y : ℝ) : EReal)) a b = b := fun a b => by
    have : Ideal.cmp .une ((-y : ℝ) : EReal) ((-y : ℝ) : EReal) = 0#1 := by simp [Ideal.cmp]
    rw [this]
    exact if_neg (by decide)
  rw [hs, coe_abs', coe_max0, ← EReal.coe_neg, exp_coe, log1p_coe _ (Real.exp_pos _), ← EReal.coe_add, ← EReal.coe_neg]
  unfold Ideal.div
  rw [if_neg (by exact_mod_cast (by norm_num : (16 : ℝ) ≠ 0)), ← EReal.coe_inv, ← EReal.coe_mul]
  congr 1
  unfold lgate
  have h1 : max (-y) 0 = -(min y 0) := by rw [← neg_zero (G := ℝ), max_neg_neg, neg_zero]
  rw [abs_neg, h1, zero_sub]
  ring

/-! ## The mask -/

theorem reach (r t : ℕ) (hr : r < 16384) (ht : t < 16384) :
    IntOp.cmpi .sge (IntOp.addi (BitVec.ofNat 32 r) 0#32) (BitVec.ofNat 32 t) = if t ≤ r then 1#1 else 0#1 := by
  have e : ∀ n : ℕ, n < 16384 → (BitVec.ofNat 32 n).toInt = (n : ℤ) := fun n hn => by
    rw [BitVec.toInt_eq_toNat_of_lt (by rw [BitVec.toNat_ofNat]; omega), BitVec.toNat_ofNat, Nat.mod_eq_of_lt (by omega)]
  show BitVec.ofBool (BitVec.sle (BitVec.ofNat 32 t) (BitVec.ofNat 32 r + 0#32)) = _
  rw [BitVec.add_zero, BitVec.sle_eq_decide, e t ht, e r hr]
  by_cases h : t ≤ r
  · rw [if_pos h, decide_eq_true (by exact_mod_cast h)]; rfl
  · rw [if_neg h, decide_eq_false (by exact_mod_cast h)]; rfl

/-! ## The stages -/

namespace Ref

/-- The arguments hold real numbers. -/
structure Reals (x0 : (⟨S16384x17920, .f32⟩ : BufTy).Contents (Elt Ideal)) (x1 : (⟨S2x16x512, .f32⟩ : BufTy).Contents (Elt Ideal)) (x2 : (⟨S2x512, .f32⟩ : BufTy).Contents (Elt Ideal)) (x3 : (⟨S4x256x128, .f32⟩ : BufTy).Contents (Elt Ideal))
    (z w : ℕ → ℕ → ℝ) (b : ℕ → ℝ) (s : ℕ → ℕ → ℕ → ℝ) : Prop where
  z : ∀ i, x0 i = ((z (i 0).val (i 1).val : ℝ) : EReal)
  w : ∀ i, (i 0).val = 1 → x1 i = ((w (i 1).val (i 2).val : ℝ) : EReal)
  b : ∀ i, (i 0).val = 1 → x2 i = ((b (i 1).val : ℝ) : EReal)
  s : ∀ i, x3 i = ((s (i 0).val (i 1).val (i 2).val : ℝ) : EReal)

variable {x0 : (⟨S16384x17920, .f32⟩ : BufTy).Contents (Elt Ideal)} {x1 : (⟨S2x16x512, .f32⟩ : BufTy).Contents (Elt Ideal)} {x2 : (⟨S2x512, .f32⟩ : BufTy).Contents (Elt Ideal)} {x3 : (⟨S4x256x128, .f32⟩ : BufTy).Contents (Elt Ideal)}
  {z w : ℕ → ℕ → ℝ} {b : ℕ → ℝ} {s : ℕ → ℕ → ℕ → ℝ} (R : Reals x0 x1 x2 x3 z w b s)

include R in
theorem gate_arg (i : S16384x512.Idx) : val_main_v11 (F := Ideal) x0 x1 x2 i = ((gz z w b (i 0).val (i 1).val : ℝ) : EReal) := by
  have h0 : (i 0).val < 16384 := (i 0).isLt
  have h1 : (i 1).val < 512 := (i 1).isLt

  have hd : val_main_v6 (F := Ideal) x0 x1 i = ((∑ x : Fin 16, z (i 0).val (8208 + x.val) * w x.val (i 1).val : ℝ) : EReal) := by
    rw [val_main_v6_apply, coe_sum]
    refine Finset.sum_congr rfl fun x _ => ?_
    have hx := x.isLt
    rw [val_main_v3_apply, R.z, val_main_v5_apply, val_main_v4_apply, R.w _ rfl, EReal.coe_mul]
    have e1 : (x.val * 512 + (i 1).val) / 512 % 16 = x.val := by omega
    have e2 : (x.val * 512 + (i 1).val) % 512 = (i 1).val := by omega
    show ((z (i 0).val (8208 + x.val) : ℝ) : EReal) * ((w ((x.val * 512 + (i 1).val) / 512 % 16) ((x.val * 512 + (i 1).val) % 512) : ℝ) : EReal) = _
    rw [e1, e2]
  have hb : val_main_v10 (F := Ideal) x2 i = ((b (i 1).val : ℝ) : EReal) := by
    rw [val_main_v10_apply, val_main_v9_apply, val_main_v8_apply, val_main_v7_apply, R.b _ rfl]
    show ((b ((i 1).val % 512) : ℝ) : EReal) = _
    rw [Nat.mod_eq_of_lt h1]
  rw [val_main_v11_apply, hd, hb]
  exact (EReal.coe_add _ _).symm

include R in
theorem gate (i : S16384x512.Idx) : val_main_v14 (F := Ideal) x0 x1 x2 i = ((lgate (gz z w b (i 0).val (i 1).val) : ℝ) : EReal) := by
  have hN : val_main_call0_v0 (F := Ideal) x0 x1 x2 i = -((gz z w b (i 0).val (i 1).val : ℝ) : EReal) := by
    rw [val_main_call0_v0_apply, gate_arg R]; rfl
  have hZ : val_main_call0_call0_v0 (F := Ideal) i = 0 := by
    rw [val_main_call0_call0_v0_apply, val_main_call0_call0_cst_apply]; exact Ideal.ofBits_zero_f32
  have hZ2 : val_main_call0_call0_v2 (F := Ideal) i = 0 := by
    rw [val_main_call0_call0_v2_apply, val_main_call0_call0_cst_apply]; exact Ideal.ofBits_zero_f32
  have hD : val_main_call0_call0_v3 (F := Ideal) x0 x1 x2 i = val_main_call0_v0 (F := Ideal) x0 x1 x2 i - val_main_call0_call0_v0 (F := Ideal) i := by
    rw [val_main_call0_call0_v3_apply, hZ, hZ2]; rfl
  have hL : val_main_v13 (F := Ideal) i = ((16 : ℝ) : EReal) := by
    rw [val_main_v13_apply, val_main_cst_apply]; exact sixteen
  have S := soft _ _ _ _ _ (val_main_call0_call0_v6 (F := Ideal) x0 x1 x2 i) hN hZ hD hL
  rw [val_main_v14_apply, val_main_v12_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply]
  exact S

include R in
theorem gate_head (i : S16384x4x128.Idx) : val_main_v15 (F := Ideal) x0 x1 x2 i = ((gG z w b (i 1).val (i 2).val (i 0).val : ℝ) : EReal) := by
  have h0 : (i 0).val < 16384 := (i 0).isLt
  have h1 : (i 1).val < 4 := (i 1).isLt
  have h2 : (i 2).val < 128 := (i 2).isLt
  have e1 : (((i 0).val * 4 + (i 1).val) * 128 + (i 2).val) / 512 = (i 0).val := by omega
  have e2 : (((i 0).val * 4 + (i 1).val) * 128 + (i 2).val) % 512 = 128 * (i 1).val + (i 2).val := by omega
  rw [val_main_v15_apply, gate R]
  show ((lgate (gz z w b ((((i 0).val * 4 + (i 1).val) * 128 + (i 2).val) / 512) ((((i 0).val * 4 + (i 1).val) * 128 + (i 2).val) % 512)) : ℝ) : EReal) = _
  rw [e1, e2]
  rfl

include R in
theorem query (i : S16384x4x128.Idx) : val_main_v19 (F := Ideal) x0 i = ((z (16383 - (i 0).val) (5120 + (128 * (i 1).val + (i 2).val)) * sc : ℝ) : EReal) := by
  have key : ∀ i : S16384x4x128.Idx, val_main_v18 (F := Ideal) x0 i = ((z (i 0).val (5120 + (128 * (i 1).val + (i 2).val)) * sc : ℝ) : EReal) := fun i => by
    have h0 : (i 0).val < 16384 := (i 0).isLt
    have h1 : (i 1).val < 4 := (i 1).isLt
    have h2 : (i 2).val < 128 := (i 2).isLt
    have e1 : (((i 0).val * 4 + (i 1).val) * 128 + (i 2).val) / 512 = (i 0).val := by omega
    have e2 : (((i 0).val * 4 + (i 1).val) * 128 + (i 2).val) % 512 = 128 * (i 1).val + (i 2).val := by omega
    rw [val_main_v18_apply, val_main_v16_apply, val_main_v0_apply, R.z, val_main_v17_apply, val_main_cst_0_apply]
    show ((z ((((i 0).val * 4 + (i 1).val) * 128 + (i 2).val) / 512) (5120 + (((i 0).val * 4 + (i 1).val) * 128 + (i 2).val) % 512) : ℝ) : EReal) * Ideal.ofBits .f32 0x3DB504F3#32 = _
    rw [e1, e2, sc_eq, EReal.coe_mul]
  unfold val_main_v19
  rw [flip_k, key]

include R in
theorem key (i : S16384x4x128.Idx) : val_main_v21 (F := Ideal) x0 i = ((z (16383 - (i 0).val) (5632 + (128 * (i 1).val + (i 2).val)) : ℝ) : EReal) := by
  have key : ∀ i : S16384x4x128.Idx, val_main_v20 (F := Ideal) x0 i = ((z (i 0).val (5632 + (128 * (i 1).val + (i 2).val)) : ℝ) : EReal) := fun i => by
    have h0 : (i 0).val < 16384 := (i 0).isLt
    have h1 : (i 1).val < 4 := (i 1).isLt
    have h2 : (i 2).val < 128 := (i 2).isLt
    have e1 : (((i 0).val * 4 + (i 1).val) * 128 + (i 2).val) / 512 = (i 0).val := by omega
    have e2 : (((i 0).val * 4 + (i 1).val) * 128 + (i 2).val) % 512 = 128 * (i 1).val + (i 2).val := by omega
    rw [val_main_v20_apply, val_main_v1_apply, R.z]
    show ((z ((((i 0).val * 4 + (i 1).val) * 128 + (i 2).val) / 512) (5632 + (((i 0).val * 4 + (i 1).val) * 128 + (i 2).val) % 512) : ℝ) : EReal) = _
    rw [e1, e2]
  unfold val_main_v21
  rw [flip_k, key]

include R in
theorem value (i : S16384x4x256.Idx) : val_main_v23 (F := Ideal) x0 i = ((z (16383 - (i 0).val) (6144 + (256 * (i 1).val + (i 2).val)) : ℝ) : EReal) := by
  have key : ∀ i : S16384x4x256.Idx, val_main_v22 (F := Ideal) x0 i = ((z (i 0).val (6144 + (256 * (i 1).val + (i 2).val)) : ℝ) : EReal) := fun i => by
    have h0 : (i 0).val < 16384 := (i 0).isLt
    have h1 : (i 1).val < 4 := (i 1).isLt
    have h2 : (i 2).val < 256 := (i 2).isLt
    have e1 : (((i 0).val * 4 + (i 1).val) * 256 + (i 2).val) / 1024 = (i 0).val := by omega
    have e2 : (((i 0).val * 4 + (i 1).val) * 256 + (i 2).val) % 1024 = 256 * (i 1).val + (i 2).val := by omega
    rw [val_main_v22_apply, val_main_v2_apply, R.z]
    show ((z ((((i 0).val * 4 + (i 1).val) * 256 + (i 2).val) / 1024) (6144 + (((i 0).val * 4 + (i 1).val) * 256 + (i 2).val) % 1024) : ℝ) : EReal) = _
    rw [e1, e2]
  unfold val_main_v23
  rw [flip_v, key]

include R in
theorem gate_rev (i : S16384x4x128.Idx) : val_main_v24 (F := Ideal) x0 x1 x2 i = ((gG z w b (i 1).val (i 2).val (16383 - (i 0).val) : ℝ) : EReal) := by
  unfold val_main_v24
  rw [flip_k, gate_head R]

include R in
theorem log_decay3 (r : Fin 16384) (h : Fin 4) (x : Fin 128) :
    val_main_v25 (F := Ideal) x0 x1 x2 (ix3 r h x) = ((tail (gG z w b h.val x.val) (16383 - r.val) : ℝ) : EReal) := by
  have hi : val_main_call5_call0_v0 (F := Ideal) (Shape.Idx.first h_S_) = 0 := by
    rw [val_main_call5_call0_v0_apply, val_main_call5_call0_cst_apply]; exact Ideal.ofBits_zero_f32
  have hX := fun (r : Fin 16384) (h : Fin 4) (x : Fin 128) => gate_rev R (ix3 r h x)
  have T := rows_tail (gG z w b h.val x.val) r.val r.isLt
  unfold tail
  rw [← T]
  unfold val_main_v25
  generalize val_main_v24 (F := Ideal) x0 x1 x2 = X at hX
  generalize val_main_call5_call0_v0 (F := Ideal) = v at hi
  unfold Host.reduceWindowAdd
  rw [Ideal.hostReduceWindowAdd_def]
  exact running_rows (N := 16384) (M := 16383) rfl (H := 4) (C := 128) X (fun h x r => gG z w b h x (16383 - r)) hX _ hi _ r h x

include R in
theorem log_decay (i : S16384x4x128.Idx) : val_main_v25 (F := Ideal) x0 x1 x2 i = ((tail (gG z w b (i 1).val (i 2).val) (16383 - (i 0).val) : ℝ) : EReal) := by
  have E : i = ix3 (i 0 : Fin 16384) (i 1 : Fin 4) (i 2 : Fin 128) := funext fun a => by
    match a with
    | ⟨0, _⟩ => rfl
    | ⟨1, _⟩ => rfl
    | ⟨2, _⟩ => rfl
  exact (congrArg (val_main_v25 (F := Ideal) x0 x1 x2) E).trans (log_decay3 R (i 0) (i 1) (i 2))

include R in
theorem last_row (i : S1x4x128.Idx) : val_main_v26 (F := Ideal) x0 x1 x2 i = ((tail (gG z w b (i 1).val (i 2).val) 0 : ℝ) : EReal) := by
  have h0 : (i 0).val < 1 := (i 0).isLt
  rw [val_main_v26_apply, log_decay R]
  show ((tail (gG z w b (i 1).val (i 2).val) (16383 - (16383 + (i 0).val)) : ℝ) : EReal) = _
  rw [show 16383 - (16383 + (i 0).val) = 0 by omega]

include R in
theorem whole (i : S4x128.Idx) : val_main_v29 (F := Ideal) x0 x1 x2 i = ((Real.exp (tail (gG z w b (i 0).val (i 1).val) 0) : ℝ) : EReal) := by
  have h0 : (i 0).val < 4 := (i 0).isLt
  have h1 : (i 1).val < 128 := (i 1).isLt
  rw [val_main_v29_apply, val_main_v28_apply, last_row R]
  show ((Real.exp (tail (gG z w b (((i 0).val * 128 + (i 1).val) / 128 % 4) (((i 0).val * 128 + (i 1).val) % 128)) 0) : ℝ) : EReal) = _
  rw [show ((i 0).val * 128 + (i 1).val) / 128 % 4 = (i 0).val by omega, show ((i 0).val * 128 + (i 1).val) % 128 = (i 1).val by omega]

include R in
theorem key_decayed (i : S16384x4x128.Idx) : val_main_v36 (F := Ideal) x0 x1 x2 i = ((z (16383 - (i 0).val) (5632 + (128 * (i 1).val + (i 2).val)) * Real.exp (tail (gG z w b (i 1).val (i 2).val) 0 - tail (gG z w b (i 1).val (i 2).val) (16383 - (i 0).val)) : ℝ) : EReal) := by
  have h : val_main_v34 (F := Ideal) x0 x1 x2 i = ((tail (gG z w b (i 1).val (i 2).val) 0 - tail (gG z w b (i 1).val (i 2).val) (16383 - (i 0).val) : ℝ) : EReal) := by
    rw [val_main_v34_apply, val_main_v33_apply, last_row R, log_decay R]
    exact (EReal.coe_sub _ _).symm
  rw [val_main_v36_apply, val_main_v35_apply, h, key R]
  exact (EReal.coe_mul _ _).symm

include R in
theorem state (i : S4x128x256.Idx) : val_main_v38 (F := Ideal) x0 x1 x2 x3 i = ((St z w b s (i 0).val (i 2).val (i 1).val 0 : ℝ) : EReal) := by
  have h32 : val_main_v32 (F := Ideal) x0 x1 x2 x3 i = ((Real.exp (tail (gG z w b (i 0).val (i 1).val) 0) * s (i 0).val (i 2).val (i 1).val : ℝ) : EReal) := by
    rw [val_main_v32_apply, val_main_v31_apply, val_main_v30_apply, whole R, val_main_v27_apply, R.s]
    exact (EReal.coe_mul _ _).symm
  have h37 : val_main_v37 (F := Ideal) x0 x1 x2 i = ((∑ r ∈ Ico 0 len, z r (5632 + (128 * (i 0).val + (i 1).val))
      * Real.exp (tail (gG z w b (i 0).val (i 1).val) 0 - tail (gG z w b (i 0).val (i 1).val) r) * z r (6144 + (256 * (i 0).val + (i 2).val)) : ℝ) : EReal) := by
    rw [← rows_sum (fun r => z r (5632 + (128 * (i 0).val + (i 1).val))
      * Real.exp (tail (gG z w b (i 0).val (i 1).val) 0 - tail (gG z w b (i 0).val (i 1).val) r) * z r (6144 + (256 * (i 0).val + (i 2).val))), val_main_v37_apply, coe_sum]
    refine Finset.sum_congr rfl fun k _ => ?_
    rw [key_decayed R, value R]
    exact (EReal.coe_mul _ _).symm
  rw [val_main_v38_apply, h32, h37]
  exact (EReal.coe_add _ _).symm

include R in
theorem state_out (i : S4x256x128.Idx) : val_main_v65 (F := Ideal) x0 x1 x2 x3 i = ((St z w b s (i 0).val (i 1).val (i 2).val 0 : ℝ) : EReal) := by
  rw [val_main_v65_apply, state R]

include R in
theorem from_state (i : S16384x4x256.Idx) : val_main_v42 (F := Ideal) x0 x1 x2 x3 i = ((∑ x : Fin 128, z (16383 - (i 0).val) (5120 + (128 * (i 1).val + x.val)) * sc * Real.exp (tail (gG z w b (i 1).val x.val) (16383 - (i 0).val)) * s (i 1).val (i 2).val x.val : ℝ) : EReal) := by
  rw [val_main_v42_apply, val_main_v41_apply, coe_sum]
  refine Finset.sum_congr rfl fun x _ => ?_
  rw [val_main_v27_apply, R.s, val_main_v40_apply, query R, val_main_v39_apply, log_decay R, mul_comm]
  refine (congrArg (· * _) (EReal.coe_mul _ _).symm).trans (EReal.coe_mul _ _).symm

include R in
theorem decay (i : S16384x16384x4x128.Idx) : val_main_v52 (F := Ideal) x0 x1 x2 i = ((if (i 1).val ≤ (i 0).val then Real.exp (tail (gG z w b (i 2).val (i 3).val) (16383 - (i 0).val) - tail (gG z w b (i 2).val (i 3).val) (16383 - (i 1).val)) else 0 : ℝ) : EReal) := by
  have h0 : (i 0).val < 16384 := (i 0).isLt
  have h1 : (i 1).val < 16384 := (i 1).isLt
  have h2 : (i 2).val < 4 := (i 2).isLt
  have h3 : (i 3).val < 128 := (i 3).isLt
  have hm : val_main_call7_v1 (F := Ideal) i = if (i 1).val ≤ (i 0).val then 1#1 else 0#1 := by
    rw [val_main_call7_v1_apply, val_main_v45_apply, val_main_v44_apply, val_main_call6_v4_apply, val_main_call6_v2_apply, val_main_call6_v0_apply, val_main_call6_v1_apply,
      val_main_call6_c_apply, val_main_call6_v3_apply, val_main_v43_apply, val_main_c_apply, val_main_call6_v5_apply, val_main_call6_c_0_apply]
    show Scalar.select (IntOp.cmpi .sge (IntOp.addi (BitVec.ofNat 32 (i 0).val) 0#32) (BitVec.ofNat 32 (i 1).val)) (1#1) (0#1) = _
    rw [reach _ _ h0 h1]
    by_cases h : (i 1).val ≤ (i 0).val
    · rw [if_pos h]; rfl
    · rw [if_neg h]; rfl
  have hd : val_main_v50 (F := Ideal) x0 x1 x2 i = ((tail (gG z w b (i 2).val (i 3).val) (16383 - (i 0).val) - tail (gG z w b (i 2).val (i 3).val) (16383 - (i 1).val) : ℝ) : EReal) := by
    rw [val_main_v50_apply, val_main_v48_apply, val_main_v46_apply, val_main_v49_apply, val_main_v47_apply, log_decay R, log_decay R]
    exact (EReal.coe_sub _ _).symm
  have hb : val_main_call7_v2 (F := Ideal) i = (⊥ : EReal) := by
    rw [val_main_call7_v2_apply, val_main_call7_v0_apply, val_main_cst_1_apply]
    exact below
  rw [val_main_v52_apply, val_main_v51_apply, hm, hd, hb]
  by_cases h : (i 1).val ≤ (i 0).val
  · rw [if_pos h, if_pos h]; rfl
  · rw [if_neg h, if_neg h]; rfl

include R in
theorem score (i : S16384x16384x4.Idx) : val_main_v59 (F := Ideal) x0 x1 x2 i = ((if (i 1).val ≤ (i 0).val then (∑ x : Fin 128, z (16383 - (i 0).val) (5120 + (128 * (i 2).val + x.val)) * sc * z (16383 - (i 1).val) (5632 + (128 * (i 2).val + x.val)) * Real.exp (tail (gG z w b (i 2).val x.val) (16383 - (i 0).val) - tail (gG z w b (i 2).val x.val) (16383 - (i 1).val))) else 0 : ℝ) : EReal) := by
  have e : ∀ x : Fin 128, val_main_v58 (F := Ideal) x0 x1 x2 (idx_main_v59 i x) = ((z (16383 - (i 0).val) (5120 + (128 * (i 2).val + x.val)) * sc * z (16383 - (i 1).val) (5632 + (128 * (i 2).val + x.val))
      * (if (i 1).val ≤ (i 0).val then Real.exp (tail (gG z w b (i 2).val x.val) (16383 - (i 0).val) - tail (gG z w b (i 2).val x.val) (16383 - (i 1).val)) else 0) : ℝ) : EReal) := fun x => by
    rw [val_main_v58_apply, val_main_v57_apply, val_main_v55_apply, val_main_v53_apply, query R, val_main_v56_apply, val_main_v54_apply, key R, decay R]
    exact (congrArg (· * _) (EReal.coe_mul _ _).symm).trans (EReal.coe_mul _ _).symm
  have h0 : val_main_cst_2 (F := Ideal) (Shape.Idx.first h_S_) = 0 := by
    rw [val_main_cst_2_apply]; exact Ideal.ofBits_zero_f32
  rw [val_main_v59_apply, h0, zero_add, Finset.sum_congr rfl fun x _ => e x, ← coe_sum]
  by_cases h : (i 1).val ≤ (i 0).val
  · simp only [if_pos h]
  · simp only [if_neg h, mul_zero, Finset.sum_const_zero]

include R in
theorem from_rows (i : S4x256x16384.Idx) : val_main_v60 (F := Ideal) x0 x1 x2 i = ((∑ r ∈ Ico (16383 - (i 2).val) len, (∑ x : Fin 128, z (16383 - (i 2).val) (5120 + (128 * (i 0).val + x.val)) * sc * z r (5632 + (128 * (i 0).val + x.val))
      * Real.exp (tail (gG z w b (i 0).val x.val) (16383 - (i 2).val) - tail (gG z w b (i 0).val x.val) r)) * z r (6144 + (256 * (i 0).val + (i 1).val)) : ℝ) : EReal) := by
  have h2 : (i 2).val < 16384 := (i 2).isLt
  rw [← rows_tail (fun r => (∑ x : Fin 128, z (16383 - (i 2).val) (5120 + (128 * (i 0).val + x.val)) * sc * z r (5632 + (128 * (i 0).val + x.val))
      * Real.exp (tail (gG z w b (i 0).val x.val) (16383 - (i 2).val) - tail (gG z w b (i 0).val x.val) r)) * z r (6144 + (256 * (i 0).val + (i 1).val))) (i 2).val h2,
    val_main_v60_apply, coe_sum]
  refine Finset.sum_congr rfl fun k _ => ?_
  rw [value R, score R]
  refine (EReal.coe_mul _ _).symm.trans (congrArg _ ?_)
  show z (16383 - k.val) (6144 + (256 * (i 0).val + (i 1).val)) * (if k.val ≤ (i 2).val then _ else 0) = if k.val ≤ (i 2).val then _ else 0
  by_cases h : k.val ≤ (i 2).val
  · rw [if_pos h, if_pos h]; exact mul_comm _ _
  · rw [if_neg h, if_neg h]; exact mul_zero _

include R in
theorem out_rev (i : S16384x4x256.Idx) : val_main_v62 (F := Ideal) x0 x1 x2 x3 i = ((Out z w b s (i 1).val (i 2).val (16383 - (i 0).val) : ℝ) : EReal) := by
  rw [val_main_v62_apply, from_state R, val_main_v61_apply, from_rows R]
  exact (EReal.coe_add _ _).symm

include R in
theorem out_head (i : S16384x4x256.Idx) : val_main_v63 (F := Ideal) x0 x1 x2 x3 i = ((Out z w b s (i 1).val (i 2).val (i 0).val : ℝ) : EReal) := by
  have h0 : (i 0).val < 16384 := (i 0).isLt
  unfold val_main_v63
  rw [flip_v, out_rev R]
  show ((Out z w b s (i 1).val (i 2).val (16383 - (16383 - (i 0).val)) : ℝ) : EReal) = _
  rw [show 16383 - (16383 - (i 0).val) = (i 0).val by omega]

include R in
theorem out (i : S16384x1024.Idx) : val_main_v64 (F := Ideal) x0 x1 x2 x3 i = ((Out z w b s ((i 1).val / 256) ((i 1).val % 256) (i 0).val : ℝ) : EReal) := by
  have h0 : (i 0).val < 16384 := (i 0).isLt
  have h1 : (i 1).val < 1024 := (i 1).isLt
  rw [val_main_v64_apply, out_head R]
  show ((Out z w b s (((i 0).val * 1024 + (i 1).val) / 256 % 4) (((i 0).val * 1024 + (i 1).val) % 256) (((i 0).val * 1024 + (i 1).val) / 1024) : ℝ) : EReal) = _
  rw [show ((i 0).val * 1024 + (i 1).val) / 256 % 4 = (i 1).val / 256 by omega, show ((i 0).val * 1024 + (i 1).val) % 256 = (i 1).val % 256 by omega,
    show ((i 0).val * 1024 + (i 1).val) / 1024 = (i 0).val by omega]

end Ref

end Cert.Proof.Gla

end
-- ==== Proof.GlaBwdValue.lean ====
/- The backward pass and its reference have the same two results, on finite arguments. -/
module

public import proofs.«01_k».proof.Proof.GlaKernel
public import proofs.«01_k».proof.Proof.GlaRef
public import proofs.«01_k».proof.Proof.Gen.Pre_gla_finite

@[expose] public section

set_option maxRecDepth 65536

noncomputable section

namespace Cert.Proof.GlaBwd

open Cert.Proof.Gla Cert.GlaBwdIdeal Cert.GlaBwdIdeal.Gen Idealize.ShloMosaic Idealize.ShloMosaic.TcCoe Idealize.ShloMosaic.ValueIdx Idealize.SL.Sem

/-! ## Finite arguments hold real numbers -/

theorem above : Ideal.ofBits .f32 0x7F800000#32 = (⊤ : EReal) := by
  simp [Ideal.ofBits, Ideal.ieee]

theorem real_of (x : EReal) (h : Ideal.cmp .olt (max x (-x)) (Ideal.ofBits .f32 0x7F800000#32) = 1#1) : x = ((x.toReal : ℝ) : EReal) := by
  rw [above] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at hlt; exact absurd hlt (by simp)
  have h2 : x ≠ ⊥ := fun e => by rw [e] at hlt; exact absurd hlt (by simp)
  exact (EReal.coe_toReal h1 h2).symm

variable (x0 : (⟨S16384x17920, .f32⟩ : BufTy).Contents (Elt Ideal)) (x1 : (⟨S2x16x512, .f32⟩ : BufTy).Contents (Elt Ideal))
  (x2 : (⟨S2x512, .f32⟩ : BufTy).Contents (Elt Ideal)) (x3 : (⟨S4x256x128, .f32⟩ : BufTy).Contents (Elt Ideal))

/-- The entries of the four arguments, as real numbers. -/
def zR (p k : ℕ) : ℝ := if h : p < 16384 ∧ k < 17920 then EReal.toReal (x0 (ix2 (⟨p, h.1⟩ : Fin 16384) (⟨k, h.2⟩ : Fin 17920))) else 0
def wR (x k : ℕ) : ℝ := if h : x < 16 ∧ k < 512 then EReal.toReal (x1 (ix3 (1 : Fin 2) (⟨x, h.1⟩ : Fin 16) (⟨k, h.2⟩ : Fin 512))) else 0
def bR (k : ℕ) : ℝ := if h : k < 512 then EReal.toReal (x2 (ix2 (1 : Fin 2) (⟨k, h⟩ : Fin 512))) else 0
def sR (h y x : ℕ) : ℝ := if g : h < 4 ∧ y < 256 ∧ x < 128 then EReal.toReal (x3 (ix3 (⟨h, g.1⟩ : Fin 4) (⟨y, g.2.1⟩ : Fin 256) (⟨x, g.2.2⟩ : Fin 128))) else 0

variable {x0 x1 x2 x3}

theorem reals (h0 : ∀ i, x0 i = ((EReal.toReal (x0 i) : ℝ) : EReal)) (h1 : ∀ i, x1 i = ((EReal.toReal (x1 i) : ℝ) : EReal))
    (h2 : ∀ i, x2 i = ((EReal.toReal (x2 i) : ℝ) : EReal)) (h3 : ∀ i, x3 i = ((EReal.toReal (x3 i) : ℝ) : EReal)) :
    Ref.Reals x0 x1 x2 x3 (zR x0) (wR x1) (bR x2) (sR x3) where
  z i := by
    have e : i = ix2 (i 0 : Fin 16384) (i 1 : Fin 17920) := eq_ix2 i
    have d : zR x0 (i 0).val (i 1).val = EReal.toReal (x0 (ix2 (i 0 : Fin 16384) (i 1 : Fin 17920))) := dif_pos ⟨(i 0).isLt, (i 1).isLt⟩
    exact (h0 i).trans (congrArg (fun r : ℝ => (r : EReal)) ((congrArg (fun j => EReal.toReal (x0 j)) e).trans d.symm))
  w i hi := by
    have e : i = ix3 (1 : Fin 2) (i 1 : Fin 16) (i 2 : Fin 512) := funext fun a => by
      match a with
      | ⟨0, _⟩ => exact Fin.ext hi
      | ⟨1, _⟩ => rfl
      | ⟨2, _⟩ => rfl
    have d : wR x1 (i 1).val (i 2).val = EReal.toReal (x1 (ix3 (1 : Fin 2) (i 1 : Fin 16) (i 2 : Fin 512))) := dif_pos ⟨(i 1).isLt, (i 2).isLt⟩
    exact (h1 i).trans (congrArg (fun r : ℝ => (r : EReal)) ((congrArg (fun j => EReal.toReal (x1 j)) e).trans d.symm))
  b i hi := by
    have e : i = ix2 (1 : Fin 2) (i 1 : Fin 512) := funext fun a => by
      match a with
      | ⟨0, _⟩ => exact Fin.ext hi
      | ⟨1, _⟩ => rfl
    have d : bR x2 (i 1).val = EReal.toReal (x2 (ix2 (1 : Fin 2) (i 1 : Fin 512))) := dif_pos (i 1).isLt
    exact (h2 i).trans (congrArg (fun r : ℝ => (r : EReal)) ((congrArg (fun j => EReal.toReal (x2 j)) e).trans d.symm))
  s i := by
    have e : i = ix3 (i 0 : Fin 4) (i 1 : Fin 256) (i 2 : Fin 128) := funext fun a => by
      match a with
      | ⟨0, _⟩ => rfl
      | ⟨1, _⟩ => rfl
      | ⟨2, _⟩ => rfl
    have d : sR x3 (i 0).val (i 1).val (i 2).val = EReal.toReal (x3 (ix3 (i 0 : Fin 4) (i 1 : Fin 256) (i 2 : Fin 128))) := dif_pos ⟨(i 0).isLt, (i 1).isLt, (i 2).isLt⟩
    exact (h3 i).trans (congrArg (fun r : ℝ => (r : EReal)) ((congrArg (fun j => EReal.toReal (x3 j)) e).trans d.symm))

/-! ## The two programs -/

variable {m : (ℓ : Loc nD τ sig) → Buf (Elt Ideal) ℓ} {c : Dev nD}

theorem ref_reals (h : Pre_GlaBwdIdeal_gla_finite m) :
    Ref.Reals (argZ m c) (argW m c) (argB m c) (argS m c) (zR (argZ m c)) (wR (argW m c)) (bR (argB m c)) (sR (argS m c)) :=
  reals (fun i => real_of _ (congrFun (h c).1 i)) (fun i => real_of _ (congrFun (h c).2.1 i))
    (fun i => real_of _ (congrFun (h c).2.2.1 i)) (fun i => real_of _ (congrFun (h c).2.2.2 i))

theorem args (R : Ref.Reals (argZ m c) (argW m c) (argB m c) (argS m c) (zR (argZ m c)) (wR (argW m c)) (bR (argB m c)) (sR (argS m c))) :
    Args m c (zR (argZ m c)) (wR (argW m c)) (bR (argB m c)) (sR (argS m c)) where
  z i j := R.z (ix2 i j)
  w x k := R.w (ix3 (1 : Fin 2) x k) rfl
  b k := R.b (ix2 (1 : Fin 2) k) rfl
  s h y x := R.s (ix3 h y x)

theorem out_eq (h : Pre_GlaBwdIdeal_gla_finite m) :
    ((dats m 0 c).arrAt 9 cfg0.N : S16384x1024.Idx → EReal) = Cert.GlaBwdRefIdeal.Read.val_main_v64 (F := Ideal) (argZ m c) (argW m c) (argB m c) (argS m c) := by
  have R := ref_reals (c := c) h
  funext i
  have h1 : (i 1).val < 1024 := (i 1).isLt
  have e : i = ix2 (i 0 : Fin 16384) (⟨256 * (⟨(i 1).val / 256, by omega⟩ : Fin 4).val + (⟨(i 1).val % 256, by omega⟩ : Fin 256).val, by show 256 * ((i 1).val / 256) + (i 1).val % 256 < 1024; omega⟩ : Fin 1024) :=
    funext fun a => by
      match a with
      | ⟨0, _⟩ => rfl
      | ⟨1, _⟩ => exact Fin.ext (by show (i 1).val = 256 * ((i 1).val / 256) + (i 1).val % 256; omega)
  have A := out_apply (args R) (i 0 : Fin 16384) (⟨(i 1).val / 256, by omega⟩ : Fin 4) (⟨(i 1).val % 256, by omega⟩ : Fin 256)
  exact (congrArg ((dats m 0 c).arrAt 9 cfg0.N : S16384x1024.Idx → EReal) e).trans (A.trans (Ref.out R i).symm)

theorem state_eq (h : Pre_GlaBwdIdeal_gla_finite m) :
    ((dats m 0 c).arrAt 10 cfg0.N : S4x256x128.Idx → EReal) = Cert.GlaBwdRefIdeal.Read.val_main_v65 (F := Ideal) (argZ m c) (argW m c) (argB m c) (argS m c) := by
  have R := ref_reals (c := c) h
  funext i
  have e : i = ix3 (i 0 : Fin 4) (i 1 : Fin 256) (i 2 : Fin 128) := funext fun a => by
    match a with
    | ⟨0, _⟩ => rfl
    | ⟨1, _⟩ => rfl
    | ⟨2, _⟩ => rfl
  have A := state_apply (args R) (i 0 : Fin 4) (i 1 : Fin 256) (i 2 : Fin 128)
  exact (congrArg ((dats m 0 c).arrAt 10 cfg0.N : S4x256x128.Idx → EReal) e).trans (A.trans (Ref.state_out R i).symm)

/-- The kernel and its reference have the same two results, from the same arguments, all of them finite. -/
theorem algebraic : Cert.algebraic_GlaBwdIdeal_GlaBwdRefIdeal_pre_gla_finite := fun m ρ m' ρ' hpre hag =>
  ⟨fun c => (dats m 0 c).arrAt 9 cfg0.N, fun c => (dats m 0 c).arrAt 10 cfg0.N, Value.run_blocks m ρ,
    (θ_run _ _ _).mono (fun _ h c => ⟨(h c).1.trans (by
        rw [Cert.GlaBwdRefIdeal.Read.val_main_v64_eq, (hag c).1, (hag c).2.1, (hag c).2.2.1, (hag c).2.2.2]; exact (out_eq hpre).symm),
      (h c).2.1.trans (by
        rw [Cert.GlaBwdRefIdeal.Read.val_main_v65_eq, (hag c).1, (hag c).2.1, (hag c).2.2.1, (hag c).2.2.2]; exact (state_eq hpre).symm), (h c).2.2⟩)
      (Cert.GlaBwdRefIdeal.Value.run m' ρ')⟩

end Cert.Proof.GlaBwd

end
-- ==== Proof.lean ====
module

public import proofs.«01_k».proof.Defs
public import proofs.«01_k».proof.Proof.FfnFrame
public import proofs.«01_k».proof.Proof.FfnValue
public import proofs.«01_k».proof.Proof.Gen.FfnRefIdeal.Run
public import proofs.«01_k».proof.Proof.Gen.Pre_experts_in_range
public import proofs.«01_k».proof.Proof.Gen.InProj.Frame
public import proofs.«01_k».proof.Proof.InProjValue
public import proofs.«01_k».proof.Proof.Gen.InProjRefIdeal.Run
public import proofs.«01_k».proof.Proof.Gen.Branch.Frame
public import proofs.«01_k».proof.Proof.BranchValue
public import proofs.«01_k».proof.Proof.Gen.BranchRefIdeal.Run
public import proofs.«01_k».proof.Proof.Gen.OutProj.Frame
public import proofs.«01_k».proof.Proof.OutProjValue
public import proofs.«01_k».proof.Proof.Gen.OutProjRefIdeal.Run
public import proofs.«01_k».proof.Proof.Gen.Norm.Frame
public import proofs.«01_k».proof.Proof.NormValue
public import proofs.«01_k».proof.Proof.Gen.NormRefIdeal.Run
public import proofs.«01_k».proof.Proof.Gen.GlaBwd.Frame
public import proofs.«01_k».proof.Proof.GlaBwdValue
public import proofs.«01_k».proof.Proof.Gen.GlaBwdRefIdeal.Run

@[expose] public section

noncomputable section

namespace Cert.Proof

open Idealize.ShloMosaic Idealize.SL.Sem

/-- The experts' reference leaves its arguments as they were; it has no semaphore at all. -/
theorem quiet_FfnRefIdeal : Cert.quiescent_FfnRefIdeal := fun m g _ =>
  (θ_run _ _ _).mono (fun _ h => ⟨fun c => (h c).2, sem_eq_zero_of_no_sems rfl _⟩) (Cert.FfnRefIdeal.Value.run m g)

/-- InProj: the reference leaves its arguments as they were; it has no semaphore at all. -/
theorem quiet_InProjRefIdeal : Cert.quiescent_InProjRefIdeal := fun m g _ =>
  (θ_run _ _ _).mono (fun _ h => ⟨fun c => (h c).2, sem_eq_zero_of_no_sems rfl _⟩) (Cert.InProjRefIdeal.Value.run m g)

/-- Branch: the reference leaves its arguments as they were; it has no semaphore at all. -/
theorem quiet_BranchRefIdeal : Cert.quiescent_BranchRefIdeal := fun m g _ =>
  (θ_run _ _ _).mono (fun _ h => ⟨fun c => (h c).2, sem_eq_zero_of_no_sems rfl _⟩) (Cert.BranchRefIdeal.Value.run m g)

/-- OutProj: the reference leaves its arguments as they were; it has no semaphore at all. -/
theorem quiet_OutProjRefIdeal : Cert.quiescent_OutProjRefIdeal := fun m g _ =>
  (θ_run _ _ _).mono (fun _ h => ⟨fun c => (h c).2, sem_eq_zero_of_no_sems rfl _⟩) (Cert.OutProjRefIdeal.Value.run m g)

/-- Norm: the reference leaves its arguments as they were; it has no semaphore at all. -/
theorem quiet_NormRefIdeal : Cert.quiescent_NormRefIdeal := fun m g _ =>
  (θ_run _ _ _).mono (fun _ h => ⟨fun c => (h c).2, sem_eq_zero_of_no_sems rfl _⟩) (Cert.NormRefIdeal.Value.run m g)

/-- GlaBwd: the reference leaves its arguments as they were; it has no semaphore at all. -/
theorem quiet_GlaBwdRefIdeal : Cert.quiescent_GlaBwdRefIdeal := fun m g _ =>
  (θ_run _ _ _).mono (fun _ h => ⟨fun c => (h c).2.2, sem_eq_zero_of_no_sems rfl _⟩) (Cert.GlaBwdRefIdeal.Value.run m g)

theorem claim : Cert.Claim := ⟨Cert.Ffn.Gen.facts, Cert.FfnIdeal.Gen.facts, Cert.FfnRefIdeal.Gen.facts, Cert.InProj.Gen.facts, Cert.InProjIdeal.Gen.facts, Cert.InProjRefIdeal.Gen.facts, Cert.Branch.Gen.facts, Cert.BranchIdeal.Gen.facts, Cert.BranchRefIdeal.Gen.facts, Cert.OutProj.Gen.facts, Cert.OutProjIdeal.Gen.facts, Cert.OutProjRefIdeal.Gen.facts, Cert.Norm.Gen.facts, Cert.NormIdeal.Gen.facts, Cert.NormRefIdeal.Gen.facts, Cert.GlaBwd.Gen.facts, Cert.GlaBwdIdeal.Gen.facts, Cert.GlaBwdRefIdeal.Gen.facts, Cert.Pre_experts_in_range.Gen.facts, Cert.Pre_gla_finite.Gen.facts,
  fun m g h => Cert.Ffn.Hand.frame m g (Ffn.ok_bits m h),
  fun m g h => Cert.FfnIdeal.Hand.frame m g (Ffn.ok_ideal m h),
  quiet_FfnRefIdeal,
  fun m g _ => Cert.InProj.Gen.frame m g,
  fun m g _ => Cert.InProjIdeal.Gen.frame m g,
  quiet_InProjRefIdeal,
  fun m g _ => Cert.Branch.Gen.frame m g,
  fun m g _ => Cert.BranchIdeal.Gen.frame m g,
  quiet_BranchRefIdeal,
  fun m g _ => Cert.OutProj.Gen.frame m g,
  fun m g _ => Cert.OutProjIdeal.Gen.frame m g,
  quiet_OutProjRefIdeal,
  fun m g _ => Cert.Norm.Gen.frame m g,
  fun m g _ => Cert.NormIdeal.Gen.frame m g,
  quiet_NormRefIdeal,
  fun m g _ => Cert.GlaBwd.Gen.frame m g,
  fun m g _ => Cert.GlaBwdIdeal.Gen.frame m g,
  fun m g _ => Cert.GlaBwdIdeal.Gen.frame m g,
  quiet_GlaBwdRefIdeal,
  fun m g _ => quiet_GlaBwdRefIdeal m g trivial,
  trivial,
  Ffn.algebraic,
  trivial,
  InProj.algebraic,
  trivial,
  Branch.algebraic,
  trivial,
  OutProj.algebraic,
  trivial,
  Norm.algebraic,
  trivial,
  GlaBwd.algebraic⟩

end Cert.Proof

end
